-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_on_the_wire_grid_KernelIdeal [hPre_on_the_wire_grid_KernelIdeal : Cert.Pre_on_the_wire_grid_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_on_the_wire_grid_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_on_the_wire_grid_ReferenceIdeal [hPre_on_the_wire_grid_ReferenceIdeal : Cert.Pre_on_the_wire_grid_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_on_the_wire_grid_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_on_the_wire_grid_KernelIdeal [hKernelIdeal : Cert.KernelIdeal.Facts] [hPre_on_the_wire_grid_KernelIdeal : Cert.Pre_on_the_wire_grid_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_on_the_wire_grid_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_on_the_wire_grid_ReferenceIdeal [hReferenceIdeal : Cert.ReferenceIdeal.Facts] [hPre_on_the_wire_grid_ReferenceIdeal : Cert.Pre_on_the_wire_grid_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_on_the_wire_grid_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_on_the_wire_grid_KernelIdeal [hKernelIdeal : Cert.KernelIdeal.Facts] [hReferenceIdeal : Cert.ReferenceIdeal.Facts] [hPre_on_the_wire_grid_KernelIdeal : Cert.Pre_on_the_wire_grid_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_on_the_wire_grid_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_on_the_wire_grid_KernelIdeal : Cert.Pre_on_the_wire_grid_KernelIdeal.Facts) (hPre_on_the_wire_grid_ReferenceIdeal : Cert.Pre_on_the_wire_grid_ReferenceIdeal.Facts),
    quiescent_Kernel (hKernel := hKernel)
    ∧ quiescent_KernelIdeal (hKernelIdeal := hKernelIdeal)
    ∧ quiescent_KernelIdeal_pre_on_the_wire_grid_KernelIdeal (hKernelIdeal := hKernelIdeal) (hPre_on_the_wire_grid_KernelIdeal := hPre_on_the_wire_grid_KernelIdeal)
    ∧ quiescent_ReferenceIdeal (hReferenceIdeal := hReferenceIdeal)
    ∧ quiescent_ReferenceIdeal_pre_on_the_wire_grid_ReferenceIdeal (hReferenceIdeal := hReferenceIdeal) (hPre_on_the_wire_grid_ReferenceIdeal := hPre_on_the_wire_grid_ReferenceIdeal)
    ∧ preserves_Kernel_KernelIdeal
    ∧ algebraic_KernelIdeal_ReferenceIdeal_pre_on_the_wire_grid_KernelIdeal (hKernelIdeal := hKernelIdeal) (hReferenceIdeal := hReferenceIdeal) (hPre_on_the_wire_grid_KernelIdeal := hPre_on_the_wire_grid_KernelIdeal)
-- ==== Pre_on_the_wire_grid_KernelIdeal.lean ====
abbrev S4096x256 : Shape := ⟨2, ![4096, 256]⟩
abbrev S256x8192 : Shape := ⟨2, ![256, 8192]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x256_S256x8192_S4096x8192_1_0_0_1_n_n_wf : DotDims.WF S4096x256 S256x8192 S4096x8192 [1] [0] [0] [1] [] []

variable [Facts]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf
def fn_round {F : FTy → Type} [FloatOps F] (arg0 : FVec F S4096x8192 .f32) : FVec F S4096x8192 .f32 :=
  let v0 : FVec F S4096x8192 .f32 := Host.roundeven arg0
  v0

def fn {F : FTy → Type} [FloatOps F] (main_arg0 : FVec F S4096x256 .bf16) (main_arg1 : FVec F S256x8192 .bf16) : IVec S4096x8192 1 :=
  let main_v0 : FVec F S4096x8192 .f32 := (fun l r => Host.dotGeneral dot_S4096x256_S256x8192_S4096x8192_1_0_0_1_n_n none l r) main_arg0 main_arg1
  let main_cst : FVec F S_ .f32 := constant S_ .f32 0x45000000#32
  let main_v1 : FVec F S4096x8192 .f32 := broadcastInDim S4096x8192 ![] bcast_S_S4096x8192 main_cst
  let main_v2 : FVec F S4096x8192 .f32 := mulf main_v0 main_v1
  let main_v3 : FVec F S4096x8192 .f32 := fn_round (F := F) main_v2
  let main_v4 : IVec S4096x8192 1 := cmpf .oeq main_v2 main_v3
  let main_v5 : FVec F S4096x8192 .f32 := Host.absf main_v2
  let main_cst_0 : FVec F S_ .f32 := constant S_ .f32 0x45088000#32
  let main_v6 : FVec F S4096x8192 .f32 := broadcastInDim S4096x8192 ![] bcast_S_S4096x8192 main_cst_0
  let main_v7 : IVec S4096x8192 1 := cmpf .ole main_v5 main_v6
  let main_v8 : IVec S4096x8192 1 := andi main_v4 main_v7
  main_v8
-- ==== Pre_on_the_wire_grid_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn_round {F : FTy → Type} [FloatOps F] (arg0 : FVec F S4096x8192 .f32) : FVec F S4096x8192 .f32 :=
  let v0 : FVec F S4096x8192 .f32 := Host.roundeven arg0
  v0

def fn {F : FTy → Type} [FloatOps F] (main_arg0 : FVec F S4096x4096 .bf16) (main_arg1 : FVec F S4096x8192 .bf16) : IVec S4096x8192 1 :=
  let main_v0 : FVec F S4096x8192 .f32 := (fun l r => Host.dotGeneral dot_S4096x4096_S4096x8192_S4096x8192_1_0_0_1_n_n none l r) main_arg0 main_arg1
  let main_cst : FVec F S_ .f32 := constant S_ .f32 0x45000000#32
  let main_v1 : FVec F S4096x8192 .f32 := broadcastInDim S4096x8192 ![] bcast_S_S4096x8192 main_cst
  let main_v2 : FVec F S4096x8192 .f32 := mulf main_v0 main_v1
  let main_v3 : FVec F S4096x8192 .f32 := fn_round (F := F) main_v2
  let main_v4 : IVec S4096x8192 1 := cmpf .oeq main_v2 main_v3
  let main_v5 : FVec F S4096x8192 .f32 := Host.absf main_v2
  let main_cst_0 : FVec F S_ .f32 := constant S_ .f32 0x45088000#32
  let main_v6 : FVec F S4096x8192 .f32 := broadcastInDim S4096x8192 ![] bcast_S_S4096x8192 main_cst_0
  let main_v7 : IVec S4096x8192 1 := cmpf .ole main_v5 main_v6
  let main_v8 : IVec S4096x8192 1 := andi main_v4 main_v7
  main_v8
-- ==== Kernel.lean ====
abbrev S4096x256 : Shape := ⟨2, ![4096, 256]⟩
abbrev S256x8192 : Shape := ⟨2, ![256, 8192]⟩
abbrev S2x128x4096 : Shape := ⟨3, ![2, 128, 4096]⟩
abbrev S2 : Shape := ⟨1, ![2]⟩
abbrev S_ : Shape := ⟨0, ![]⟩
abbrev S1x8x128 : Shape := ⟨3, ![1, 8, 128]⟩
abbrev S16x8x128 : Shape := ⟨3, ![16, 8, 128]⟩
abbrev S15 : Shape := ⟨1, ![15]⟩
abbrev S16 : Shape := ⟨1, ![16]⟩
abbrev S256x256 : Shape := ⟨2, ![256, 256]⟩
abbrev S128x256 : Shape := ⟨2, ![128, 256]⟩
abbrev S256x4096 : Shape := ⟨2, ![256, 4096]⟩
abbrev S128x4096 : Shape := ⟨2, ![128, 4096]⟩
abbrev S1x128x4096 : Shape := ⟨3, ![1, 128, 4096]⟩
abbrev S1 : Shape := ⟨1, ![1]⟩
abbrev S1x1x1 : Shape := ⟨3, ![1, 1, 1]⟩
abbrev S1x16x8x128 : Shape := ⟨4, ![1, 16, 8, 128]⟩
abbrev S1x1x1x1 : Shape := ⟨4, ![1, 1, 1, 1]⟩
abbrev S256x2048 : Shape := ⟨2, ![256, 2048]⟩

abbrev nBuf : Space → Nat
  | .hbm => 3
  | .vmem => 15
  | .smem => 0
  | _ => 0

abbrev bufTy : (tb : Table) → Fin (tcTables nBuf tb) → BufTy
  | .hbm, ⟨0, _⟩ => ⟨S4096x256, .bf16⟩
  | .hbm, ⟨1, _⟩ => ⟨S256x8192, .bf16⟩
  | .hbm, ⟨2, _⟩ => ⟨S256x8192, .f32⟩
  | .local _ .vmem, ⟨0, _⟩ => ⟨S4096x256, .bf16⟩
  | .local _ .vmem, ⟨1, _⟩ => ⟨S256x8192, .bf16⟩
  | .local _ .vmem, ⟨2, _⟩ => ⟨S256x8192, .f32⟩
  | .local _ .vmem, ⟨3, _⟩ => ⟨S4096x256, .bf16⟩
  | .local _ .vmem, ⟨4, _⟩ => ⟨S256x8192, .bf16⟩
  | .local _ .vmem, ⟨5, _⟩ => ⟨S2x128x4096, .i16⟩
  | .local _ .vmem, ⟨6, _⟩ => ⟨S2x128x4096, .i16⟩
  | .local _ .vmem, ⟨7, _⟩ => ⟨S2x128x4096, .i16⟩
  | .local _ .vmem, ⟨8, _⟩ => ⟨S2x128x4096, .i16⟩
  | .local _ .vmem, ⟨9, _⟩ => ⟨S2x128x4096, .i16⟩
  | .local _ .vmem, ⟨10, _⟩ => ⟨S2x128x4096, .i16⟩
  | .local _ .vmem, ⟨11, _⟩ => ⟨S2x128x4096, .i16⟩
  | .local _ .vmem, ⟨12, _⟩ => ⟨S2x128x4096, .i16⟩
  | .local _ .vmem, ⟨13, _⟩ => ⟨S1x8x128, .f32⟩
  | .local _ .vmem, ⟨14, _⟩ => ⟨S16x8x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 5 50 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch22 : Ref sig .tc := ⟨.vmem, 13, rfl⟩
abbrev cc0_scratch23 : Ref sig .tc := ⟨.vmem, 14, rfl⟩
abbrev cc0_sem0_0 : DmaSem sig := 0
abbrev cc0_sem1_0 : DmaSem sig := 1
abbrev cc0_sem2_0 : DmaSem sig := 2
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14 : BitVec 32 := 1#32
  let v26 : BitVec 32 := Scalar.muli v24 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17 : BitVec 32 := 1#32
  let v28 : BitVec 32 := Scalar.muli v13 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_22 : BitVec 32 := 1#32
  let v35 : BitVec 32 := Scalar.subi v2 c1_i32_22
  let c16_i32_23 : BitVec 32 := 16#32
  let c0_i32_24 : BitVec 32 := 0#32
  let v36 : BitVec 1 := Scalar.cmpi .eq c16_i32_23 c0_i32_24
  let c1_i32_25 : BitVec 32 := 1#32
  let v37 : BitVec 32 := Scalar.select v36 c1_i32_25 c16_i32_23
  let v38 : BitVec 32 := Scalar.remsi v35 v37
  let c0_i32_27 : BitVec 32 := 0#32
  let v40 : BitVec 1 := Scalar.cmpi .slt v38 c0_i32_27
  let c0_i32_28 : BitVec 32 := 0#32
  let v41 : BitVec 1 := Scalar.cmpi .slt v37 c0_i32_28
  let v42 : BitVec 1 := Scalar.xori v40 v41
  let c0_i32_26 : BitVec 32 := 0#32
  let v39 : BitVec 1 := Scalar.cmpi .ne v38 c0_i32_26
  let v43 : BitVec 1 := Scalar.andi v42 v39
  let v44 : BitVec 32 := Scalar.addi v38 v37
  let v45 : BitVec 32 := Scalar.select v43 v44 v38
  let c256_i32 : BitVec 32 := 256#32
  let v57 : BitVec 32 := Scalar.muli v45 c256_i32
  let v58 : Index := Scalar.indexCast v57
  let c0_36 : Index := 0#32
  ![v58.toNat, 0]
def k0_off2 (d0 : Dev nD) (c0_i32_40 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_22 : BitVec 32 := 1#32
  let v35 : BitVec 32 := Scalar.subi v2 c1_i32_22
  let c16_i32_23 : BitVec 32 := 16#32
  let c0_i32_24 : BitVec 32 := 0#32
  let v36 : BitVec 1 := Scalar.cmpi .eq c16_i32_23 c0_i32_24
  let c1_i32_25 : BitVec 32 := 1#32
  let v37 : BitVec 32 := Scalar.select v36 c1_i32_25 c16_i32_23
  let v38 : BitVec 32 := Scalar.remsi v35 v37
  let c0_i32_27 : BitVec 32 := 0#32
  let v40 : BitVec 1 := Scalar.cmpi .slt v38 c0_i32_27
  let c0_i32_28 : BitVec 32 := 0#32
  let v41 : BitVec 1 := Scalar.cmpi .slt v37 c0_i32_28
  let v42 : BitVec 1 := Scalar.xori v40 v41
  let c0_i32_26 : BitVec 32 := 0#32
  let v39 : BitVec 1 := Scalar.cmpi .ne v38 c0_i32_26
  let v43 : BitVec 1 := Scalar.andi v42 v39
  let v44 : BitVec 32 := Scalar.addi v38 v37
  let v45 : BitVec 32 := Scalar.select v43 v44 v38
  let c256_i32_39 : BitVec 32 := 256#32
  let v66 : BitVec 32 := Scalar.muli v45 c256_i32_39
  let v67 : BitVec 32 := Scalar.addi v66 c0_i32_40
  let v68 : Index := Scalar.indexCast v67
  let c0_41 : Index := 0#32
  ![v68.toNat, 0]
def k0_dev3 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_52 : BitVec 32 := 1#32
  let v79 : BitVec 32 := Scalar.muli v13 c1_i32_52
  let v80 : BitVec 32 := Scalar.addi c0_i32_53 v79
  v80.toNat
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_71 : BitVec 32 := 1#32
  let v102 : BitVec 32 := Scalar.muli v13 c1_i32_71
  let v103 : BitVec 32 := Scalar.addi c0_i32_72 v102
  v103.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_29 : BitVec 32 := 1#32
  let v46 : BitVec 32 := Scalar.addi v2 c1_i32_29
  let c16_i32_30 : BitVec 32 := 16#32
  let c0_i32_31 : BitVec 32 := 0#32
  let v47 : BitVec 1 := Scalar.cmpi .eq c16_i32_30 c0_i32_31
  let c1_i32_32 : BitVec 32 := 1#32
  let v48 : BitVec 32 := Scalar.select v47 c1_i32_32 c16_i32_30
  let v49 : BitVec 32 := Scalar.remsi v46 v48
  let c0_i32_34 : BitVec 32 := 0#32
  let v51 : BitVec 1 := Scalar.cmpi .slt v49 c0_i32_34
  let c0_i32_35 : BitVec 32 := 0#32
  let v52 : BitVec 1 := Scalar.cmpi .slt v48 c0_i32_35
  let v53 : BitVec 1 := Scalar.xori v51 v52
  let c0_i32_33 : BitVec 32 := 0#32
  let v50 : BitVec 1 := Scalar.cmpi .ne v49 c0_i32_33
  let v54 : BitVec 1 := Scalar.andi v53 v50
  let v55 : BitVec 32 := Scalar.addi v49 v48
  let v56 : BitVec 32 := Scalar.select v54 v55 v49
  let c256_i32_77 : BitVec 32 := 256#32
  let v112 : BitVec 32 := Scalar.muli v56 c256_i32_77
  let v113 : Index := Scalar.indexCast v112
  let c0_78 : Index := 0#32
  ![v113.toNat, 0]
def k0_off4 (d0 : Dev nD) (c0_i32_82 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_29 : BitVec 32 := 1#32
  let v46 : BitVec 32 := Scalar.addi v2 c1_i32_29
  let c16_i32_30 : BitVec 32 := 16#32
  let c0_i32_31 : BitVec 32 := 0#32
  let v47 : BitVec 1 := Scalar.cmpi .eq c16_i32_30 c0_i32_31
  let c1_i32_32 : BitVec 32 := 1#32
  let v48 : BitVec 32 := Scalar.select v47 c1_i32_32 c16_i32_30
  let v49 : BitVec 32 := Scalar.remsi v46 v48
  let c0_i32_34 : BitVec 32 := 0#32
  let v51 : BitVec 1 := Scalar.cmpi .slt v49 c0_i32_34
  let c0_i32_35 : BitVec 32 := 0#32
  let v52 : BitVec 1 := Scalar.cmpi .slt v48 c0_i32_35
  let v53 : BitVec 1 := Scalar.xori v51 v52
  let c0_i32_33 : BitVec 32 := 0#32
  let v50 : BitVec 1 := Scalar.cmpi .ne v49 c0_i32_33
  let v54 : BitVec 1 := Scalar.andi v53 v50
  let v55 : BitVec 32 := Scalar.addi v49 v48
  let v56 : BitVec 32 := Scalar.select v54 v55 v49
  let c256_i32_81 : BitVec 32 := 256#32
  let v121 : BitVec 32 := Scalar.muli v56 c256_i32_81
  let v122 : BitVec 32 := Scalar.addi v121 c0_i32_82
  let v123 : Index := Scalar.indexCast v122
  let c0_83 : Index := 0#32
  ![v123.toNat, 0]
def k0_dev5 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_94 : BitVec 32 := 1#32
  let v134 : BitVec 32 := Scalar.muli v24 c1_i32_94
  let v135 : BitVec 32 := Scalar.addi c0_i32_95 v134
  v135.toNat
def k0_dev6 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_114 : BitVec 32 := 1#32
  let v157 : BitVec 32 := Scalar.muli v24 c1_i32_114
  let v158 : BitVec 32 := Scalar.addi c0_i32_115 v157
  v158.toNat
def k0_off5 (d0 : Dev nD) (c0_i32_125 : BitVec 32) (c0_i32_141 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_124 : BitVec 32 := 2#32
  let v172 : BitVec 32 := Scalar.subi v2 c2_i32_124
  let v173 : BitVec 32 := Scalar.subi v172 c0_i32_125
  let c16_i32_126 : BitVec 32 := 16#32
  let c0_i32_127 : BitVec 32 := 0#32
  let v174 : BitVec 1 := Scalar.cmpi .eq c16_i32_126 c0_i32_127
  let c1_i32_128 : BitVec 32 := 1#32
  let v175 : BitVec 32 := Scalar.select v174 c1_i32_128 c16_i32_126
  let v176 : BitVec 32 := Scalar.remsi v173 v175
  let c0_i32_130 : BitVec 32 := 0#32
  let v178 : BitVec 1 := Scalar.cmpi .slt v176 c0_i32_130
  let c0_i32_131 : BitVec 32 := 0#32
  let v179 : BitVec 1 := Scalar.cmpi .slt v175 c0_i32_131
  let v180 : BitVec 1 := Scalar.xori v178 v179
  let c0_i32_129 : BitVec 32 := 0#32
  let v177 : BitVec 1 := Scalar.cmpi .ne v176 c0_i32_129
  let v181 : BitVec 1 := Scalar.andi v180 v177
  let v182 : BitVec 32 := Scalar.addi v176 v175
  let v183 : BitVec 32 := Scalar.select v181 v182 v176
  let c256_i32_140 : BitVec 32 := 256#32
  let v196 : BitVec 32 := Scalar.muli v183 c256_i32_140
  let v197 : BitVec 32 := Scalar.addi v196 c0_i32_141
  let v198 : Index := Scalar.indexCast v197
  let c0_142 : Index := 0#32
  ![v198.toNat, 0]
def k0_dev7 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_163 : BitVec 32 := 1#32
  let v220 : BitVec 32 := Scalar.muli v24 c1_i32_163
  let v221 : BitVec 32 := Scalar.addi c0_i32_164 v220
  v221.toNat
def k0_dev8 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_169 : BitVec 32 := 1#32
  let v222 : BitVec 32 := Scalar.muli v13 c1_i32_169
  let v223 : BitVec 32 := Scalar.addi c0_i32_170 v222
  v223.toNat
def k0_off6 (d0 : Dev nD) (c0_i32_133 : BitVec 32) (c0_i32_176 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_132 : BitVec 32 := 2#32
  let v184 : BitVec 32 := Scalar.addi v2 c2_i32_132
  let v185 : BitVec 32 := Scalar.addi v184 c0_i32_133
  let c16_i32_134 : BitVec 32 := 16#32
  let c0_i32_135 : BitVec 32 := 0#32
  let v186 : BitVec 1 := Scalar.cmpi .eq c16_i32_134 c0_i32_135
  let c1_i32_136 : BitVec 32 := 1#32
  let v187 : BitVec 32 := Scalar.select v186 c1_i32_136 c16_i32_134
  let v188 : BitVec 32 := Scalar.remsi v185 v187
  let c0_i32_138 : BitVec 32 := 0#32
  let v190 : BitVec 1 := Scalar.cmpi .slt v188 c0_i32_138
  let c0_i32_139 : BitVec 32 := 0#32
  let v191 : BitVec 1 := Scalar.cmpi .slt v187 c0_i32_139
  let v192 : BitVec 1 := Scalar.xori v190 v191
  let c0_i32_137 : BitVec 32 := 0#32
  let v189 : BitVec 1 := Scalar.cmpi .ne v188 c0_i32_137
  let v193 : BitVec 1 := Scalar.andi v192 v189
  let v194 : BitVec 32 := Scalar.addi v188 v187
  let v195 : BitVec 32 := Scalar.select v193 v194 v188
  let c256_i32_175 : BitVec 32 := 256#32
  let v232 : BitVec 32 := Scalar.muli v195 c256_i32_175
  let v233 : BitVec 32 := Scalar.addi v232 c0_i32_176
  let v234 : Index := Scalar.indexCast v233
  let c0_177 : Index := 0#32
  ![v234.toNat, 0]
def k0_dev9 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_199 : BitVec 32 := 1#32
  let v256 : BitVec 32 := Scalar.muli v13 c1_i32_199
  let v257 : BitVec 32 := Scalar.addi c0_i32_200 v256
  v257.toNat
def k0_dev10 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_205 : BitVec 32 := 1#32
  let v258 : BitVec 32 := Scalar.muli v24 c1_i32_205
  let v259 : BitVec 32 := Scalar.addi c0_i32_206 v258
  v259.toNat
def k0_dev11 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_235 : BitVec 32 := 1#32
  let v292 : BitVec 32 := Scalar.muli v24 c1_i32_235
  let v293 : BitVec 32 := Scalar.addi c0_i32_236 v292
  v293.toNat
def k0_dev12 (d0 : Dev nD) : Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_241 : BitVec 32 := 1#32
  let v294 : BitVec 32 := Scalar.muli v13 c1_i32_241
  let v295 : BitVec 32 := Scalar.addi c0_i32_242 v294
  v295.toNat
def k0_dev13 (d0 : Dev nD) : Nat :=
  let c0_i32_272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_271 : BitVec 32 := 1#32
  let v328 : BitVec 32 := Scalar.muli v13 c1_i32_271
  let v329 : BitVec 32 := Scalar.addi c0_i32_272 v328
  v329.toNat
def k0_dev14 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_277 : BitVec 32 := 1#32
  let v330 : BitVec 32 := Scalar.muli v24 c1_i32_277
  let v331 : BitVec 32 := Scalar.addi c0_i32_278 v330
  v331.toNat
def k0_dev15 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_332 : BitVec 32 := 1#32
  let v394 : BitVec 32 := Scalar.muli v24 c1_i32_332
  let v395 : BitVec 32 := Scalar.addi c0_i32_333 v394
  v395.toNat
def k0_dev16 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_340 : BitVec 32 := 1#32
  let v396 : BitVec 32 := Scalar.muli v13 c1_i32_340
  let v397 : BitVec 32 := Scalar.addi c0_i32_341 v396
  v397.toNat
def k0_dev17 (d0 : Dev nD) : Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_379 : BitVec 32 := 1#32
  let v436 : BitVec 32 := Scalar.muli v13 c1_i32_379
  let v437 : BitVec 32 := Scalar.addi c0_i32_380 v436
  v437.toNat
def k0_dev18 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_387 : BitVec 32 := 1#32
  let v438 : BitVec 32 := Scalar.muli v24 c1_i32_387
  let v439 : BitVec 32 := Scalar.addi c0_i32_388 v438
  v439.toNat
def k0_dev19 (d0 : Dev nD) : Nat :=
  let c0_i32_427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_426 : BitVec 32 := 1#32
  let v478 : BitVec 32 := Scalar.muli v24 c1_i32_426
  let v479 : BitVec 32 := Scalar.addi c0_i32_427 v478
  v479.toNat
def k0_dev20 (d0 : Dev nD) : Nat :=
  let c0_i32_435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_434 : BitVec 32 := 1#32
  let v480 : BitVec 32 := Scalar.muli v13 c1_i32_434
  let v481 : BitVec 32 := Scalar.addi c0_i32_435 v480
  v481.toNat
def k0_dev21 (d0 : Dev nD) : Nat :=
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_473 : BitVec 32 := 1#32
  let v520 : BitVec 32 := Scalar.muli v13 c1_i32_473
  let v521 : BitVec 32 := Scalar.addi c0_i32_474 v520
  v521.toNat
def k0_dev22 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_481 : BitVec 32 := 1#32
  let v522 : BitVec 32 := Scalar.muli v24 c1_i32_481
  let v523 : BitVec 32 := Scalar.addi c0_i32_482 v522
  v523.toNat
def k0_dev23 (d0 : Dev nD) : Nat :=
  let c0_i32_537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_536 : BitVec 32 := 1#32
  let v586 : BitVec 32 := Scalar.muli v24 c1_i32_536
  let v587 : BitVec 32 := Scalar.addi c0_i32_537 v586
  v587.toNat
def k0_dev24 (d0 : Dev nD) : Nat :=
  let c0_i32_545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_544 : BitVec 32 := 1#32
  let v588 : BitVec 32 := Scalar.muli v13 c1_i32_544
  let v589 : BitVec 32 := Scalar.addi c0_i32_545 v588
  v589.toNat
def k0_dev25 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_583 : BitVec 32 := 1#32
  let v628 : BitVec 32 := Scalar.muli v13 c1_i32_583
  let v629 : BitVec 32 := Scalar.addi c0_i32_584 v628
  v629.toNat
def k0_dev26 (d0 : Dev nD) : Nat :=
  let c0_i32_592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_591 : BitVec 32 := 1#32
  let v630 : BitVec 32 := Scalar.muli v24 c1_i32_591
  let v631 : BitVec 32 := Scalar.addi c0_i32_592 v630
  v631.toNat
def k0_dev27 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_630 : BitVec 32 := 1#32
  let v670 : BitVec 32 := Scalar.muli v24 c1_i32_630
  let v671 : BitVec 32 := Scalar.addi c0_i32_631 v670
  v671.toNat
def k0_dev28 (d0 : Dev nD) : Nat :=
  let c0_i32_639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_638 : BitVec 32 := 1#32
  let v672 : BitVec 32 := Scalar.muli v13 c1_i32_638
  let v673 : BitVec 32 := Scalar.addi c0_i32_639 v672
  v673.toNat
def k0_dev29 (d0 : Dev nD) : Nat :=
  let c0_i32_678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_677 : BitVec 32 := 1#32
  let v712 : BitVec 32 := Scalar.muli v13 c1_i32_677
  let v713 : BitVec 32 := Scalar.addi c0_i32_678 v712
  v713.toNat
def k0_dev30 (d0 : Dev nD) : Nat :=
  let c0_i32_686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_685 : BitVec 32 := 1#32
  let v714 : BitVec 32 := Scalar.muli v24 c1_i32_685
  let v715 : BitVec 32 := Scalar.addi c0_i32_686 v714
  v715.toNat
def k0_dev31 (d0 : Dev nD) : Nat :=
  let c0_i32_740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_739 : BitVec 32 := 1#32
  let v778 : BitVec 32 := Scalar.muli v24 c1_i32_739
  let v779 : BitVec 32 := Scalar.addi c0_i32_740 v778
  v779.toNat
def k0_dev32 (d0 : Dev nD) : Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_747 : BitVec 32 := 1#32
  let v780 : BitVec 32 := Scalar.muli v13 c1_i32_747
  let v781 : BitVec 32 := Scalar.addi c0_i32_748 v780
  v781.toNat
def k0_dev33 (d0 : Dev nD) : Nat :=
  let c0_i32_787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_786 : BitVec 32 := 1#32
  let v820 : BitVec 32 := Scalar.muli v13 c1_i32_786
  let v821 : BitVec 32 := Scalar.addi c0_i32_787 v820
  v821.toNat
def k0_dev34 (d0 : Dev nD) : Nat :=
  let c0_i32_795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_794 : BitVec 32 := 1#32
  let v822 : BitVec 32 := Scalar.muli v24 c1_i32_794
  let v823 : BitVec 32 := Scalar.addi c0_i32_795 v822
  v823.toNat
def k0_dev35 (d0 : Dev nD) : Nat :=
  let c0_i32_834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_833 : BitVec 32 := 1#32
  let v862 : BitVec 32 := Scalar.muli v24 c1_i32_833
  let v863 : BitVec 32 := Scalar.addi c0_i32_834 v862
  v863.toNat
def k0_dev36 (d0 : Dev nD) : Nat :=
  let c0_i32_842 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_841 : BitVec 32 := 1#32
  let v864 : BitVec 32 := Scalar.muli v13 c1_i32_841
  let v865 : BitVec 32 := Scalar.addi c0_i32_842 v864
  v865.toNat
def k0_dev37 (d0 : Dev nD) : Nat :=
  let c0_i32_881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_880 : BitVec 32 := 1#32
  let v904 : BitVec 32 := Scalar.muli v13 c1_i32_880
  let v905 : BitVec 32 := Scalar.addi c0_i32_881 v904
  v905.toNat
def k0_dev38 (d0 : Dev nD) : Nat :=
  let c0_i32_889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_888 : BitVec 32 := 1#32
  let v906 : BitVec 32 := Scalar.muli v24 c1_i32_888
  let v907 : BitVec 32 := Scalar.addi c0_i32_889 v906
  v907.toNat
def k0_dev39 (d0 : Dev nD) : Nat :=
  let c0_i32_943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_942 : BitVec 32 := 1#32
  let v970 : BitVec 32 := Scalar.muli v24 c1_i32_942
  let v971 : BitVec 32 := Scalar.addi c0_i32_943 v970
  v971.toNat
def k0_dev40 (d0 : Dev nD) : Nat :=
  let c0_i32_951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_950 : BitVec 32 := 1#32
  let v972 : BitVec 32 := Scalar.muli v13 c1_i32_950
  let v973 : BitVec 32 := Scalar.addi c0_i32_951 v972
  v973.toNat
def k0_dev41 (d0 : Dev nD) : Nat :=
  let c0_i32_990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_989 : BitVec 32 := 1#32
  let v1012 : BitVec 32 := Scalar.muli v13 c1_i32_989
  let v1013 : BitVec 32 := Scalar.addi c0_i32_990 v1012
  v1013.toNat
def k0_dev42 (d0 : Dev nD) : Nat :=
  let c0_i32_998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_997 : BitVec 32 := 1#32
  let v1014 : BitVec 32 := Scalar.muli v24 c1_i32_997
  let v1015 : BitVec 32 := Scalar.addi c0_i32_998 v1014
  v1015.toNat
def k0_dev43 (d0 : Dev nD) : Nat :=
  let c0_i32_1037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1036 : BitVec 32 := 1#32
  let v1054 : BitVec 32 := Scalar.muli v24 c1_i32_1036
  let v1055 : BitVec 32 := Scalar.addi c0_i32_1037 v1054
  v1055.toNat
def k0_dev44 (d0 : Dev nD) : Nat :=
  let c0_i32_1045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1044 : BitVec 32 := 1#32
  let v1056 : BitVec 32 := Scalar.muli v13 c1_i32_1044
  let v1057 : BitVec 32 := Scalar.addi c0_i32_1045 v1056
  v1057.toNat
def k0_dev45 (d0 : Dev nD) : Nat :=
  let c0_i32_1084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1083 : BitVec 32 := 1#32
  let v1096 : BitVec 32 := Scalar.muli v13 c1_i32_1083
  let v1097 : BitVec 32 := Scalar.addi c0_i32_1084 v1096
  v1097.toNat
def k0_dev46 (d0 : Dev nD) : Nat :=
  let c0_i32_1092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1091 : BitVec 32 := 1#32
  let v1098 : BitVec 32 := Scalar.muli v24 c1_i32_1091
  let v1099 : BitVec 32 := Scalar.addi c0_i32_1092 v1098
  v1099.toNat
def k0_dev47 (d0 : Dev nD) : Nat :=
  let c0_i32_1146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1145 : BitVec 32 := 1#32
  let v1162 : BitVec 32 := Scalar.muli v24 c1_i32_1145
  let v1163 : BitVec 32 := Scalar.addi c0_i32_1146 v1162
  v1163.toNat
def k0_dev48 (d0 : Dev nD) : Nat :=
  let c0_i32_1154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1153 : BitVec 32 := 1#32
  let v1164 : BitVec 32 := Scalar.muli v13 c1_i32_1153
  let v1165 : BitVec 32 := Scalar.addi c0_i32_1154 v1164
  v1165.toNat
def k0_dev49 (d0 : Dev nD) : Nat :=
  let c0_i32_1193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1192 : BitVec 32 := 1#32
  let v1204 : BitVec 32 := Scalar.muli v13 c1_i32_1192
  let v1205 : BitVec 32 := Scalar.addi c0_i32_1193 v1204
  v1205.toNat
def k0_dev50 (d0 : Dev nD) : Nat :=
  let c0_i32_1201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1200 : BitVec 32 := 1#32
  let v1206 : BitVec 32 := Scalar.muli v24 c1_i32_1200
  let v1207 : BitVec 32 := Scalar.addi c0_i32_1201 v1206
  v1207.toNat
def k0_dev51 (d0 : Dev nD) : Nat :=
  let c0_i32_1240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1239 : BitVec 32 := 1#32
  let v1246 : BitVec 32 := Scalar.muli v24 c1_i32_1239
  let v1247 : BitVec 32 := Scalar.addi c0_i32_1240 v1246
  v1247.toNat
def k0_dev52 (d0 : Dev nD) : Nat :=
  let c0_i32_1248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1247 : BitVec 32 := 1#32
  let v1248 : BitVec 32 := Scalar.muli v13 c1_i32_1247
  let v1249 : BitVec 32 := Scalar.addi c0_i32_1248 v1248
  v1249.toNat
def k0_dev53 (d0 : Dev nD) : Nat :=
  let c0_i32_1287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1286 : BitVec 32 := 1#32
  let v1288 : BitVec 32 := Scalar.muli v13 c1_i32_1286
  let v1289 : BitVec 32 := Scalar.addi c0_i32_1287 v1288
  v1289.toNat
def k0_dev54 (d0 : Dev nD) : Nat :=
  let c0_i32_1295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1294 : BitVec 32 := 1#32
  let v1290 : BitVec 32 := Scalar.muli v24 c1_i32_1294
  let v1291 : BitVec 32 := Scalar.addi c0_i32_1295 v1290
  v1291.toNat
def k0_dev55 (d0 : Dev nD) : Nat :=
  let c0_i32_1349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1348 : BitVec 32 := 1#32
  let v1354 : BitVec 32 := Scalar.muli v24 c1_i32_1348
  let v1355 : BitVec 32 := Scalar.addi c0_i32_1349 v1354
  v1355.toNat
def k0_dev56 (d0 : Dev nD) : Nat :=
  let c0_i32_1357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1356 : BitVec 32 := 1#32
  let v1356 : BitVec 32 := Scalar.muli v13 c1_i32_1356
  let v1357 : BitVec 32 := Scalar.addi c0_i32_1357 v1356
  v1357.toNat
def k0_dev57 (d0 : Dev nD) : Nat :=
  let c0_i32_1396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1395 : BitVec 32 := 1#32
  let v1396 : BitVec 32 := Scalar.muli v13 c1_i32_1395
  let v1397 : BitVec 32 := Scalar.addi c0_i32_1396 v1396
  v1397.toNat
def k0_dev58 (d0 : Dev nD) : Nat :=
  let c0_i32_1404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1403 : BitVec 32 := 1#32
  let v1398 : BitVec 32 := Scalar.muli v24 c1_i32_1403
  let v1399 : BitVec 32 := Scalar.addi c0_i32_1404 v1398
  v1399.toNat
def k0_dev59 (d0 : Dev nD) : Nat :=
  let c0_i32_1443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1442 : BitVec 32 := 1#32
  let v1438 : BitVec 32 := Scalar.muli v24 c1_i32_1442
  let v1439 : BitVec 32 := Scalar.addi c0_i32_1443 v1438
  v1439.toNat
def k0_dev60 (d0 : Dev nD) : Nat :=
  let c0_i32_1451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1450 : BitVec 32 := 1#32
  let v1440 : BitVec 32 := Scalar.muli v13 c1_i32_1450
  let v1441 : BitVec 32 := Scalar.addi c0_i32_1451 v1440
  v1441.toNat
def k0_dev61 (d0 : Dev nD) : Nat :=
  let c0_i32_1490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1489 : BitVec 32 := 1#32
  let v1480 : BitVec 32 := Scalar.muli v13 c1_i32_1489
  let v1481 : BitVec 32 := Scalar.addi c0_i32_1490 v1480
  v1481.toNat
def k0_dev62 (d0 : Dev nD) : Nat :=
  let c0_i32_1498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1497 : BitVec 32 := 1#32
  let v1482 : BitVec 32 := Scalar.muli v24 c1_i32_1497
  let v1483 : BitVec 32 := Scalar.addi c0_i32_1498 v1482
  v1483.toNat
def k0_dev63 (d0 : Dev nD) : Nat :=
  let c0_i32_1552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1551 : BitVec 32 := 1#32
  let v1546 : BitVec 32 := Scalar.muli v24 c1_i32_1551
  let v1547 : BitVec 32 := Scalar.addi c0_i32_1552 v1546
  v1547.toNat
def k0_dev64 (d0 : Dev nD) : Nat :=
  let c0_i32_1560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1559 : BitVec 32 := 1#32
  let v1548 : BitVec 32 := Scalar.muli v13 c1_i32_1559
  let v1549 : BitVec 32 := Scalar.addi c0_i32_1560 v1548
  v1549.toNat
def k0_dev65 (d0 : Dev nD) : Nat :=
  let c0_i32_1599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1598 : BitVec 32 := 1#32
  let v1588 : BitVec 32 := Scalar.muli v13 c1_i32_1598
  let v1589 : BitVec 32 := Scalar.addi c0_i32_1599 v1588
  v1589.toNat
def k0_dev66 (d0 : Dev nD) : Nat :=
  let c0_i32_1607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1606 : BitVec 32 := 1#32
  let v1590 : BitVec 32 := Scalar.muli v24 c1_i32_1606
  let v1591 : BitVec 32 := Scalar.addi c0_i32_1607 v1590
  v1591.toNat
def k0_dev67 (d0 : Dev nD) : Nat :=
  let c0_i32_1646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1645 : BitVec 32 := 1#32
  let v1630 : BitVec 32 := Scalar.muli v24 c1_i32_1645
  let v1631 : BitVec 32 := Scalar.addi c0_i32_1646 v1630
  v1631.toNat
def k0_dev68 (d0 : Dev nD) : Nat :=
  let c0_i32_1654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1653 : BitVec 32 := 1#32
  let v1632 : BitVec 32 := Scalar.muli v13 c1_i32_1653
  let v1633 : BitVec 32 := Scalar.addi c0_i32_1654 v1632
  v1633.toNat
def k0_dev69 (d0 : Dev nD) : Nat :=
  let c0_i32_1693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1692 : BitVec 32 := 1#32
  let v1672 : BitVec 32 := Scalar.muli v13 c1_i32_1692
  let v1673 : BitVec 32 := Scalar.addi c0_i32_1693 v1672
  v1673.toNat
def k0_dev70 (d0 : Dev nD) : Nat :=
  let c0_i32_1701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1700 : BitVec 32 := 1#32
  let v1674 : BitVec 32 := Scalar.muli v24 c1_i32_1700
  let v1675 : BitVec 32 := Scalar.addi c0_i32_1701 v1674
  v1675.toNat
def k0_dev71 (d0 : Dev nD) : Nat :=
  let c0_i32_1755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1754 : BitVec 32 := 1#32
  let v1738 : BitVec 32 := Scalar.muli v24 c1_i32_1754
  let v1739 : BitVec 32 := Scalar.addi c0_i32_1755 v1738
  v1739.toNat
def k0_dev72 (d0 : Dev nD) : Nat :=
  let c0_i32_1763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1762 : BitVec 32 := 1#32
  let v1740 : BitVec 32 := Scalar.muli v13 c1_i32_1762
  let v1741 : BitVec 32 := Scalar.addi c0_i32_1763 v1740
  v1741.toNat
def k0_dev73 (d0 : Dev nD) : Nat :=
  let c0_i32_1802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1801 : BitVec 32 := 1#32
  let v1780 : BitVec 32 := Scalar.muli v13 c1_i32_1801
  let v1781 : BitVec 32 := Scalar.addi c0_i32_1802 v1780
  v1781.toNat
def k0_dev74 (d0 : Dev nD) : Nat :=
  let c0_i32_1810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1809 : BitVec 32 := 1#32
  let v1782 : BitVec 32 := Scalar.muli v24 c1_i32_1809
  let v1783 : BitVec 32 := Scalar.addi c0_i32_1810 v1782
  v1783.toNat
def k0_dev75 (d0 : Dev nD) : Nat :=
  let c0_i32_1849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1848 : BitVec 32 := 1#32
  let v1822 : BitVec 32 := Scalar.muli v24 c1_i32_1848
  let v1823 : BitVec 32 := Scalar.addi c0_i32_1849 v1822
  v1823.toNat
def k0_dev76 (d0 : Dev nD) : Nat :=
  let c0_i32_1857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1856 : BitVec 32 := 1#32
  let v1824 : BitVec 32 := Scalar.muli v13 c1_i32_1856
  let v1825 : BitVec 32 := Scalar.addi c0_i32_1857 v1824
  v1825.toNat
def k0_dev77 (d0 : Dev nD) : Nat :=
  let c0_i32_1896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1895 : BitVec 32 := 1#32
  let v1864 : BitVec 32 := Scalar.muli v13 c1_i32_1895
  let v1865 : BitVec 32 := Scalar.addi c0_i32_1896 v1864
  v1865.toNat
def k0_dev78 (d0 : Dev nD) : Nat :=
  let c0_i32_1904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1903 : BitVec 32 := 1#32
  let v1866 : BitVec 32 := Scalar.muli v24 c1_i32_1903
  let v1867 : BitVec 32 := Scalar.addi c0_i32_1904 v1866
  v1867.toNat
def k0_dev79 (d0 : Dev nD) : Nat :=
  let c0_i32_1958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1957 : BitVec 32 := 1#32
  let v1930 : BitVec 32 := Scalar.muli v24 c1_i32_1957
  let v1931 : BitVec 32 := Scalar.addi c0_i32_1958 v1930
  v1931.toNat
def k0_dev80 (d0 : Dev nD) : Nat :=
  let c0_i32_1966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1965 : BitVec 32 := 1#32
  let v1932 : BitVec 32 := Scalar.muli v13 c1_i32_1965
  let v1933 : BitVec 32 := Scalar.addi c0_i32_1966 v1932
  v1933.toNat
def k0_dev81 (d0 : Dev nD) : Nat :=
  let c0_i32_2005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2004 : BitVec 32 := 1#32
  let v1972 : BitVec 32 := Scalar.muli v13 c1_i32_2004
  let v1973 : BitVec 32 := Scalar.addi c0_i32_2005 v1972
  v1973.toNat
def k0_dev82 (d0 : Dev nD) : Nat :=
  let c0_i32_2013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2012 : BitVec 32 := 1#32
  let v1974 : BitVec 32 := Scalar.muli v24 c1_i32_2012
  let v1975 : BitVec 32 := Scalar.addi c0_i32_2013 v1974
  v1975.toNat
def k0_dev83 (d0 : Dev nD) : Nat :=
  let c0_i32_2052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2051 : BitVec 32 := 1#32
  let v2014 : BitVec 32 := Scalar.muli v24 c1_i32_2051
  let v2015 : BitVec 32 := Scalar.addi c0_i32_2052 v2014
  v2015.toNat
def k0_dev84 (d0 : Dev nD) : Nat :=
  let c0_i32_2060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2059 : BitVec 32 := 1#32
  let v2016 : BitVec 32 := Scalar.muli v13 c1_i32_2059
  let v2017 : BitVec 32 := Scalar.addi c0_i32_2060 v2016
  v2017.toNat
def k0_dev85 (d0 : Dev nD) : Nat :=
  let c0_i32_2099 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2098 : BitVec 32 := 1#32
  let v2056 : BitVec 32 := Scalar.muli v13 c1_i32_2098
  let v2057 : BitVec 32 := Scalar.addi c0_i32_2099 v2056
  v2057.toNat
def k0_dev86 (d0 : Dev nD) : Nat :=
  let c0_i32_2107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2106 : BitVec 32 := 1#32
  let v2058 : BitVec 32 := Scalar.muli v24 c1_i32_2106
  let v2059 : BitVec 32 := Scalar.addi c0_i32_2107 v2058
  v2059.toNat
def k0_dev87 (d0 : Dev nD) : Nat :=
  let c0_i32_2161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2160 : BitVec 32 := 1#32
  let v2122 : BitVec 32 := Scalar.muli v24 c1_i32_2160
  let v2123 : BitVec 32 := Scalar.addi c0_i32_2161 v2122
  v2123.toNat
def k0_dev88 (d0 : Dev nD) : Nat :=
  let c0_i32_2169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2168 : BitVec 32 := 1#32
  let v2124 : BitVec 32 := Scalar.muli v13 c1_i32_2168
  let v2125 : BitVec 32 := Scalar.addi c0_i32_2169 v2124
  v2125.toNat
def k0_dev89 (d0 : Dev nD) : Nat :=
  let c0_i32_2208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2207 : BitVec 32 := 1#32
  let v2164 : BitVec 32 := Scalar.muli v13 c1_i32_2207
  let v2165 : BitVec 32 := Scalar.addi c0_i32_2208 v2164
  v2165.toNat
def k0_dev90 (d0 : Dev nD) : Nat :=
  let c0_i32_2216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2215 : BitVec 32 := 1#32
  let v2166 : BitVec 32 := Scalar.muli v24 c1_i32_2215
  let v2167 : BitVec 32 := Scalar.addi c0_i32_2216 v2166
  v2167.toNat
def k0_dev91 (d0 : Dev nD) : Nat :=
  let c0_i32_2255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2254 : BitVec 32 := 1#32
  let v2206 : BitVec 32 := Scalar.muli v24 c1_i32_2254
  let v2207 : BitVec 32 := Scalar.addi c0_i32_2255 v2206
  v2207.toNat
def k0_dev92 (d0 : Dev nD) : Nat :=
  let c0_i32_2263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2262 : BitVec 32 := 1#32
  let v2208 : BitVec 32 := Scalar.muli v13 c1_i32_2262
  let v2209 : BitVec 32 := Scalar.addi c0_i32_2263 v2208
  v2209.toNat
def k0_dev93 (d0 : Dev nD) : Nat :=
  let c0_i32_2302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2301 : BitVec 32 := 1#32
  let v2248 : BitVec 32 := Scalar.muli v13 c1_i32_2301
  let v2249 : BitVec 32 := Scalar.addi c0_i32_2302 v2248
  v2249.toNat
def k0_dev94 (d0 : Dev nD) : Nat :=
  let c0_i32_2310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2309 : BitVec 32 := 1#32
  let v2250 : BitVec 32 := Scalar.muli v24 c1_i32_2309
  let v2251 : BitVec 32 := Scalar.addi c0_i32_2310 v2250
  v2251.toNat
def k0_dev95 (d0 : Dev nD) : Nat :=
  let c0_i32_2364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2363 : BitVec 32 := 1#32
  let v2314 : BitVec 32 := Scalar.muli v24 c1_i32_2363
  let v2315 : BitVec 32 := Scalar.addi c0_i32_2364 v2314
  v2315.toNat
def k0_dev96 (d0 : Dev nD) : Nat :=
  let c0_i32_2372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2371 : BitVec 32 := 1#32
  let v2316 : BitVec 32 := Scalar.muli v13 c1_i32_2371
  let v2317 : BitVec 32 := Scalar.addi c0_i32_2372 v2316
  v2317.toNat
def k0_dev97 (d0 : Dev nD) : Nat :=
  let c0_i32_2411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2410 : BitVec 32 := 1#32
  let v2356 : BitVec 32 := Scalar.muli v13 c1_i32_2410
  let v2357 : BitVec 32 := Scalar.addi c0_i32_2411 v2356
  v2357.toNat
def k0_dev98 (d0 : Dev nD) : Nat :=
  let c0_i32_2419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2418 : BitVec 32 := 1#32
  let v2358 : BitVec 32 := Scalar.muli v24 c1_i32_2418
  let v2359 : BitVec 32 := Scalar.addi c0_i32_2419 v2358
  v2359.toNat
def k0_dev99 (d0 : Dev nD) : Nat :=
  let c0_i32_2458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2457 : BitVec 32 := 1#32
  let v2398 : BitVec 32 := Scalar.muli v24 c1_i32_2457
  let v2399 : BitVec 32 := Scalar.addi c0_i32_2458 v2398
  v2399.toNat
def k0_dev100 (d0 : Dev nD) : Nat :=
  let c0_i32_2466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2465 : BitVec 32 := 1#32
  let v2400 : BitVec 32 := Scalar.muli v13 c1_i32_2465
  let v2401 : BitVec 32 := Scalar.addi c0_i32_2466 v2400
  v2401.toNat
def k0_dev101 (d0 : Dev nD) : Nat :=
  let c0_i32_2505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2504 : BitVec 32 := 1#32
  let v2440 : BitVec 32 := Scalar.muli v13 c1_i32_2504
  let v2441 : BitVec 32 := Scalar.addi c0_i32_2505 v2440
  v2441.toNat
def k0_dev102 (d0 : Dev nD) : Nat :=
  let c0_i32_2513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2512 : BitVec 32 := 1#32
  let v2442 : BitVec 32 := Scalar.muli v24 c1_i32_2512
  let v2443 : BitVec 32 := Scalar.addi c0_i32_2513 v2442
  v2443.toNat
def k0_dev103 (d0 : Dev nD) : Nat :=
  let c0_i32_2567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2566 : BitVec 32 := 1#32
  let v2506 : BitVec 32 := Scalar.muli v24 c1_i32_2566
  let v2507 : BitVec 32 := Scalar.addi c0_i32_2567 v2506
  v2507.toNat
def k0_dev104 (d0 : Dev nD) : Nat :=
  let c0_i32_2575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2574 : BitVec 32 := 1#32
  let v2508 : BitVec 32 := Scalar.muli v13 c1_i32_2574
  let v2509 : BitVec 32 := Scalar.addi c0_i32_2575 v2508
  v2509.toNat
def k0_dev105 (d0 : Dev nD) : Nat :=
  let c0_i32_2614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2613 : BitVec 32 := 1#32
  let v2548 : BitVec 32 := Scalar.muli v13 c1_i32_2613
  let v2549 : BitVec 32 := Scalar.addi c0_i32_2614 v2548
  v2549.toNat
def k0_dev106 (d0 : Dev nD) : Nat :=
  let c0_i32_2622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2621 : BitVec 32 := 1#32
  let v2550 : BitVec 32 := Scalar.muli v24 c1_i32_2621
  let v2551 : BitVec 32 := Scalar.addi c0_i32_2622 v2550
  v2551.toNat
def k0_dev107 (d0 : Dev nD) : Nat :=
  let c0_i32_2661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2660 : BitVec 32 := 1#32
  let v2590 : BitVec 32 := Scalar.muli v24 c1_i32_2660
  let v2591 : BitVec 32 := Scalar.addi c0_i32_2661 v2590
  v2591.toNat
def k0_dev108 (d0 : Dev nD) : Nat :=
  let c0_i32_2669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2668 : BitVec 32 := 1#32
  let v2592 : BitVec 32 := Scalar.muli v13 c1_i32_2668
  let v2593 : BitVec 32 := Scalar.addi c0_i32_2669 v2592
  v2593.toNat
def k0_dev109 (d0 : Dev nD) : Nat :=
  let c0_i32_2708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2707 : BitVec 32 := 1#32
  let v2632 : BitVec 32 := Scalar.muli v13 c1_i32_2707
  let v2633 : BitVec 32 := Scalar.addi c0_i32_2708 v2632
  v2633.toNat
def k0_dev110 (d0 : Dev nD) : Nat :=
  let c0_i32_2716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2715 : BitVec 32 := 1#32
  let v2634 : BitVec 32 := Scalar.muli v24 c1_i32_2715
  let v2635 : BitVec 32 := Scalar.addi c0_i32_2716 v2634
  v2635.toNat
def k0_dev111 (d0 : Dev nD) : Nat :=
  let c0_i32_2775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2774 : BitVec 32 := 1#32
  let v2698 : BitVec 32 := Scalar.muli v13 c1_i32_2774
  let v2699 : BitVec 32 := Scalar.addi c0_i32_2775 v2698
  v2699.toNat
def k0_dev112 (d0 : Dev nD) : Nat :=
  let c0_i32_2819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2818 : BitVec 32 := 1#32
  let v2738 : BitVec 32 := Scalar.muli v24 c1_i32_2818
  let v2739 : BitVec 32 := Scalar.addi c0_i32_2819 v2738
  v2739.toNat
def k0_dev113 (d0 : Dev nD) : Nat :=
  let c0_i32_2863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2862 : BitVec 32 := 1#32
  let v2778 : BitVec 32 := Scalar.muli v13 c1_i32_2862
  let v2779 : BitVec 32 := Scalar.addi c0_i32_2863 v2778
  v2779.toNat
def k0_dev114 (d0 : Dev nD) : Nat :=
  let c0_i32_2907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2906 : BitVec 32 := 1#32
  let v2818 : BitVec 32 := Scalar.muli v24 c1_i32_2906
  let v2819 : BitVec 32 := Scalar.addi c0_i32_2907 v2818
  v2819.toNat
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3017 : Index := Scalar.indexCast v2
  let c0_3101 : Index := 0#32
  let c0_3102 : Index := 0#32
  ![v3017.toNat, 0, 0]
def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3113 : BitVec 32 := 0#32
  let c0_i32_3114 : BitVec 32 := 0#32
  ![v2.toNat, 0, 0]
def k0_dev115 (d0 : Dev nD) : Nat :=
  let c0_i32_3112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3103 : BitVec 32 := 1#32
  let v3021 : BitVec 32 := Scalar.addi v2 c1_i32_3103
  let c16_i32_3104 : BitVec 32 := 16#32
  let c0_i32_3105 : BitVec 32 := 0#32
  let v3022 : BitVec 1 := Scalar.cmpi .eq c16_i32_3104 c0_i32_3105
  let c1_i32_3106 : BitVec 32 := 1#32
  let v3023 : BitVec 32 := Scalar.select v3022 c1_i32_3106 c16_i32_3104
  let v3024 : BitVec 32 := Scalar.remsi v3021 v3023
  let c0_i32_3108 : BitVec 32 := 0#32
  let v3026 : BitVec 1 := Scalar.cmpi .slt v3024 c0_i32_3108
  let c0_i32_3109 : BitVec 32 := 0#32
  let v3027 : BitVec 1 := Scalar.cmpi .slt v3023 c0_i32_3109
  let v3028 : BitVec 1 := Scalar.xori v3026 v3027
  let c0_i32_3107 : BitVec 32 := 0#32
  let v3025 : BitVec 1 := Scalar.cmpi .ne v3024 c0_i32_3107
  let v3029 : BitVec 1 := Scalar.andi v3028 v3025
  let v3030 : BitVec 32 := Scalar.addi v3024 v3023
  let v3031 : BitVec 32 := Scalar.select v3029 v3030 v3024
  let c1_i32_3111 : BitVec 32 := 1#32
  let v3032 : BitVec 32 := Scalar.muli v3031 c1_i32_3111
  let v3033 : BitVec 32 := Scalar.addi c0_i32_3112 v3032
  v3033.toNat
def k0_dev116 (d0 : Dev nD) : Nat :=
  let c0_i32_3124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_3115 : BitVec 32 := 2#32
  let v3039 : BitVec 32 := Scalar.addi v2 c2_i32_3115
  let c16_i32_3116 : BitVec 32 := 16#32
  let c0_i32_3117 : BitVec 32 := 0#32
  let v3040 : BitVec 1 := Scalar.cmpi .eq c16_i32_3116 c0_i32_3117
  let c1_i32_3118 : BitVec 32 := 1#32
  let v3041 : BitVec 32 := Scalar.select v3040 c1_i32_3118 c16_i32_3116
  let v3042 : BitVec 32 := Scalar.remsi v3039 v3041
  let c0_i32_3120 : BitVec 32 := 0#32
  let v3044 : BitVec 1 := Scalar.cmpi .slt v3042 c0_i32_3120
  let c0_i32_3121 : BitVec 32 := 0#32
  let v3045 : BitVec 1 := Scalar.cmpi .slt v3041 c0_i32_3121
  let v3046 : BitVec 1 := Scalar.xori v3044 v3045
  let c0_i32_3119 : BitVec 32 := 0#32
  let v3043 : BitVec 1 := Scalar.cmpi .ne v3042 c0_i32_3119
  let v3047 : BitVec 1 := Scalar.andi v3046 v3043
  let v3048 : BitVec 32 := Scalar.addi v3042 v3041
  let v3049 : BitVec 32 := Scalar.select v3047 v3048 v3042
  let c1_i32_3123 : BitVec 32 := 1#32
  let v3050 : BitVec 32 := Scalar.muli v3049 c1_i32_3123
  let v3051 : BitVec 32 := Scalar.addi c0_i32_3124 v3050
  v3051.toNat
def k0_dev117 (d0 : Dev nD) : Nat :=
  let c0_i32_3136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_3127 : BitVec 32 := 3#32
  let v3057 : BitVec 32 := Scalar.addi v2 c3_i32_3127
  let c16_i32_3128 : BitVec 32 := 16#32
  let c0_i32_3129 : BitVec 32 := 0#32
  let v3058 : BitVec 1 := Scalar.cmpi .eq c16_i32_3128 c0_i32_3129
  let c1_i32_3130 : BitVec 32 := 1#32
  let v3059 : BitVec 32 := Scalar.select v3058 c1_i32_3130 c16_i32_3128
  let v3060 : BitVec 32 := Scalar.remsi v3057 v3059
  let c0_i32_3132 : BitVec 32 := 0#32
  let v3062 : BitVec 1 := Scalar.cmpi .slt v3060 c0_i32_3132
  let c0_i32_3133 : BitVec 32 := 0#32
  let v3063 : BitVec 1 := Scalar.cmpi .slt v3059 c0_i32_3133
  let v3064 : BitVec 1 := Scalar.xori v3062 v3063
  let c0_i32_3131 : BitVec 32 := 0#32
  let v3061 : BitVec 1 := Scalar.cmpi .ne v3060 c0_i32_3131
  let v3065 : BitVec 1 := Scalar.andi v3064 v3061
  let v3066 : BitVec 32 := Scalar.addi v3060 v3059
  let v3067 : BitVec 32 := Scalar.select v3065 v3066 v3060
  let c1_i32_3135 : BitVec 32 := 1#32
  let v3068 : BitVec 32 := Scalar.muli v3067 c1_i32_3135
  let v3069 : BitVec 32 := Scalar.addi c0_i32_3136 v3068
  v3069.toNat
def k0_dev118 (d0 : Dev nD) : Nat :=
  let c0_i32_3148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3139 : BitVec 32 := 4#32
  let v3075 : BitVec 32 := Scalar.addi v2 c4_i32_3139
  let c16_i32_3140 : BitVec 32 := 16#32
  let c0_i32_3141 : BitVec 32 := 0#32
  let v3076 : BitVec 1 := Scalar.cmpi .eq c16_i32_3140 c0_i32_3141
  let c1_i32_3142 : BitVec 32 := 1#32
  let v3077 : BitVec 32 := Scalar.select v3076 c1_i32_3142 c16_i32_3140
  let v3078 : BitVec 32 := Scalar.remsi v3075 v3077
  let c0_i32_3144 : BitVec 32 := 0#32
  let v3080 : BitVec 1 := Scalar.cmpi .slt v3078 c0_i32_3144
  let c0_i32_3145 : BitVec 32 := 0#32
  let v3081 : BitVec 1 := Scalar.cmpi .slt v3077 c0_i32_3145
  let v3082 : BitVec 1 := Scalar.xori v3080 v3081
  let c0_i32_3143 : BitVec 32 := 0#32
  let v3079 : BitVec 1 := Scalar.cmpi .ne v3078 c0_i32_3143
  let v3083 : BitVec 1 := Scalar.andi v3082 v3079
  let v3084 : BitVec 32 := Scalar.addi v3078 v3077
  let v3085 : BitVec 32 := Scalar.select v3083 v3084 v3078
  let c1_i32_3147 : BitVec 32 := 1#32
  let v3086 : BitVec 32 := Scalar.muli v3085 c1_i32_3147
  let v3087 : BitVec 32 := Scalar.addi c0_i32_3148 v3086
  v3087.toNat
def k0_dev119 (d0 : Dev nD) : Nat :=
  let c0_i32_3160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_3151 : BitVec 32 := 5#32
  let v3093 : BitVec 32 := Scalar.addi v2 c5_i32_3151
  let c16_i32_3152 : BitVec 32 := 16#32
  let c0_i32_3153 : BitVec 32 := 0#32
  let v3094 : BitVec 1 := Scalar.cmpi .eq c16_i32_3152 c0_i32_3153
  let c1_i32_3154 : BitVec 32 := 1#32
  let v3095 : BitVec 32 := Scalar.select v3094 c1_i32_3154 c16_i32_3152
  let v3096 : BitVec 32 := Scalar.remsi v3093 v3095
  let c0_i32_3156 : BitVec 32 := 0#32
  let v3098 : BitVec 1 := Scalar.cmpi .slt v3096 c0_i32_3156
  let c0_i32_3157 : BitVec 32 := 0#32
  let v3099 : BitVec 1 := Scalar.cmpi .slt v3095 c0_i32_3157
  let v3100 : BitVec 1 := Scalar.xori v3098 v3099
  let c0_i32_3155 : BitVec 32 := 0#32
  let v3097 : BitVec 1 := Scalar.cmpi .ne v3096 c0_i32_3155
  let v3101 : BitVec 1 := Scalar.andi v3100 v3097
  let v3102 : BitVec 32 := Scalar.addi v3096 v3095
  let v3103 : BitVec 32 := Scalar.select v3101 v3102 v3096
  let c1_i32_3159 : BitVec 32 := 1#32
  let v3104 : BitVec 32 := Scalar.muli v3103 c1_i32_3159
  let v3105 : BitVec 32 := Scalar.addi c0_i32_3160 v3104
  v3105.toNat
def k0_dev120 (d0 : Dev nD) : Nat :=
  let c0_i32_3172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_3163 : BitVec 32 := 6#32
  let v3111 : BitVec 32 := Scalar.addi v2 c6_i32_3163
  let c16_i32_3164 : BitVec 32 := 16#32
  let c0_i32_3165 : BitVec 32 := 0#32
  let v3112 : BitVec 1 := Scalar.cmpi .eq c16_i32_3164 c0_i32_3165
  let c1_i32_3166 : BitVec 32 := 1#32
  let v3113 : BitVec 32 := Scalar.select v3112 c1_i32_3166 c16_i32_3164
  let v3114 : BitVec 32 := Scalar.remsi v3111 v3113
  let c0_i32_3168 : BitVec 32 := 0#32
  let v3116 : BitVec 1 := Scalar.cmpi .slt v3114 c0_i32_3168
  let c0_i32_3169 : BitVec 32 := 0#32
  let v3117 : BitVec 1 := Scalar.cmpi .slt v3113 c0_i32_3169
  let v3118 : BitVec 1 := Scalar.xori v3116 v3117
  let c0_i32_3167 : BitVec 32 := 0#32
  let v3115 : BitVec 1 := Scalar.cmpi .ne v3114 c0_i32_3167
  let v3119 : BitVec 1 := Scalar.andi v3118 v3115
  let v3120 : BitVec 32 := Scalar.addi v3114 v3113
  let v3121 : BitVec 32 := Scalar.select v3119 v3120 v3114
  let c1_i32_3171 : BitVec 32 := 1#32
  let v3122 : BitVec 32 := Scalar.muli v3121 c1_i32_3171
  let v3123 : BitVec 32 := Scalar.addi c0_i32_3172 v3122
  v3123.toNat
def k0_dev121 (d0 : Dev nD) : Nat :=
  let c0_i32_3184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_3175 : BitVec 32 := 7#32
  let v3129 : BitVec 32 := Scalar.addi v2 c7_i32_3175
  let c16_i32_3176 : BitVec 32 := 16#32
  let c0_i32_3177 : BitVec 32 := 0#32
  let v3130 : BitVec 1 := Scalar.cmpi .eq c16_i32_3176 c0_i32_3177
  let c1_i32_3178 : BitVec 32 := 1#32
  let v3131 : BitVec 32 := Scalar.select v3130 c1_i32_3178 c16_i32_3176
  let v3132 : BitVec 32 := Scalar.remsi v3129 v3131
  let c0_i32_3180 : BitVec 32 := 0#32
  let v3134 : BitVec 1 := Scalar.cmpi .slt v3132 c0_i32_3180
  let c0_i32_3181 : BitVec 32 := 0#32
  let v3135 : BitVec 1 := Scalar.cmpi .slt v3131 c0_i32_3181
  let v3136 : BitVec 1 := Scalar.xori v3134 v3135
  let c0_i32_3179 : BitVec 32 := 0#32
  let v3133 : BitVec 1 := Scalar.cmpi .ne v3132 c0_i32_3179
  let v3137 : BitVec 1 := Scalar.andi v3136 v3133
  let v3138 : BitVec 32 := Scalar.addi v3132 v3131
  let v3139 : BitVec 32 := Scalar.select v3137 v3138 v3132
  let c1_i32_3183 : BitVec 32 := 1#32
  let v3140 : BitVec 32 := Scalar.muli v3139 c1_i32_3183
  let v3141 : BitVec 32 := Scalar.addi c0_i32_3184 v3140
  v3141.toNat
def k0_dev122 (d0 : Dev nD) : Nat :=
  let c0_i32_3196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_3187 : BitVec 32 := 8#32
  let v3147 : BitVec 32 := Scalar.addi v2 c8_i32_3187
  let c16_i32_3188 : BitVec 32 := 16#32
  let c0_i32_3189 : BitVec 32 := 0#32
  let v3148 : BitVec 1 := Scalar.cmpi .eq c16_i32_3188 c0_i32_3189
  let c1_i32_3190 : BitVec 32 := 1#32
  let v3149 : BitVec 32 := Scalar.select v3148 c1_i32_3190 c16_i32_3188
  let v3150 : BitVec 32 := Scalar.remsi v3147 v3149
  let c0_i32_3192 : BitVec 32 := 0#32
  let v3152 : BitVec 1 := Scalar.cmpi .slt v3150 c0_i32_3192
  let c0_i32_3193 : BitVec 32 := 0#32
  let v3153 : BitVec 1 := Scalar.cmpi .slt v3149 c0_i32_3193
  let v3154 : BitVec 1 := Scalar.xori v3152 v3153
  let c0_i32_3191 : BitVec 32 := 0#32
  let v3151 : BitVec 1 := Scalar.cmpi .ne v3150 c0_i32_3191
  let v3155 : BitVec 1 := Scalar.andi v3154 v3151
  let v3156 : BitVec 32 := Scalar.addi v3150 v3149
  let v3157 : BitVec 32 := Scalar.select v3155 v3156 v3150
  let c1_i32_3195 : BitVec 32 := 1#32
  let v3158 : BitVec 32 := Scalar.muli v3157 c1_i32_3195
  let v3159 : BitVec 32 := Scalar.addi c0_i32_3196 v3158
  v3159.toNat
def k0_dev123 (d0 : Dev nD) : Nat :=
  let c0_i32_3208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_3199 : BitVec 32 := 9#32
  let v3165 : BitVec 32 := Scalar.addi v2 c9_i32_3199
  let c16_i32_3200 : BitVec 32 := 16#32
  let c0_i32_3201 : BitVec 32 := 0#32
  let v3166 : BitVec 1 := Scalar.cmpi .eq c16_i32_3200 c0_i32_3201
  let c1_i32_3202 : BitVec 32 := 1#32
  let v3167 : BitVec 32 := Scalar.select v3166 c1_i32_3202 c16_i32_3200
  let v3168 : BitVec 32 := Scalar.remsi v3165 v3167
  let c0_i32_3204 : BitVec 32 := 0#32
  let v3170 : BitVec 1 := Scalar.cmpi .slt v3168 c0_i32_3204
  let c0_i32_3205 : BitVec 32 := 0#32
  let v3171 : BitVec 1 := Scalar.cmpi .slt v3167 c0_i32_3205
  let v3172 : BitVec 1 := Scalar.xori v3170 v3171
  let c0_i32_3203 : BitVec 32 := 0#32
  let v3169 : BitVec 1 := Scalar.cmpi .ne v3168 c0_i32_3203
  let v3173 : BitVec 1 := Scalar.andi v3172 v3169
  let v3174 : BitVec 32 := Scalar.addi v3168 v3167
  let v3175 : BitVec 32 := Scalar.select v3173 v3174 v3168
  let c1_i32_3207 : BitVec 32 := 1#32
  let v3176 : BitVec 32 := Scalar.muli v3175 c1_i32_3207
  let v3177 : BitVec 32 := Scalar.addi c0_i32_3208 v3176
  v3177.toNat
def k0_dev124 (d0 : Dev nD) : Nat :=
  let c0_i32_3220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_3211 : BitVec 32 := 10#32
  let v3183 : BitVec 32 := Scalar.addi v2 c10_i32_3211
  let c16_i32_3212 : BitVec 32 := 16#32
  let c0_i32_3213 : BitVec 32 := 0#32
  let v3184 : BitVec 1 := Scalar.cmpi .eq c16_i32_3212 c0_i32_3213
  let c1_i32_3214 : BitVec 32 := 1#32
  let v3185 : BitVec 32 := Scalar.select v3184 c1_i32_3214 c16_i32_3212
  let v3186 : BitVec 32 := Scalar.remsi v3183 v3185
  let c0_i32_3216 : BitVec 32 := 0#32
  let v3188 : BitVec 1 := Scalar.cmpi .slt v3186 c0_i32_3216
  let c0_i32_3217 : BitVec 32 := 0#32
  let v3189 : BitVec 1 := Scalar.cmpi .slt v3185 c0_i32_3217
  let v3190 : BitVec 1 := Scalar.xori v3188 v3189
  let c0_i32_3215 : BitVec 32 := 0#32
  let v3187 : BitVec 1 := Scalar.cmpi .ne v3186 c0_i32_3215
  let v3191 : BitVec 1 := Scalar.andi v3190 v3187
  let v3192 : BitVec 32 := Scalar.addi v3186 v3185
  let v3193 : BitVec 32 := Scalar.select v3191 v3192 v3186
  let c1_i32_3219 : BitVec 32 := 1#32
  let v3194 : BitVec 32 := Scalar.muli v3193 c1_i32_3219
  let v3195 : BitVec 32 := Scalar.addi c0_i32_3220 v3194
  v3195.toNat
def k0_dev125 (d0 : Dev nD) : Nat :=
  let c0_i32_3232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_3223 : BitVec 32 := 11#32
  let v3201 : BitVec 32 := Scalar.addi v2 c11_i32_3223
  let c16_i32_3224 : BitVec 32 := 16#32
  let c0_i32_3225 : BitVec 32 := 0#32
  let v3202 : BitVec 1 := Scalar.cmpi .eq c16_i32_3224 c0_i32_3225
  let c1_i32_3226 : BitVec 32 := 1#32
  let v3203 : BitVec 32 := Scalar.select v3202 c1_i32_3226 c16_i32_3224
  let v3204 : BitVec 32 := Scalar.remsi v3201 v3203
  let c0_i32_3228 : BitVec 32 := 0#32
  let v3206 : BitVec 1 := Scalar.cmpi .slt v3204 c0_i32_3228
  let c0_i32_3229 : BitVec 32 := 0#32
  let v3207 : BitVec 1 := Scalar.cmpi .slt v3203 c0_i32_3229
  let v3208 : BitVec 1 := Scalar.xori v3206 v3207
  let c0_i32_3227 : BitVec 32 := 0#32
  let v3205 : BitVec 1 := Scalar.cmpi .ne v3204 c0_i32_3227
  let v3209 : BitVec 1 := Scalar.andi v3208 v3205
  let v3210 : BitVec 32 := Scalar.addi v3204 v3203
  let v3211 : BitVec 32 := Scalar.select v3209 v3210 v3204
  let c1_i32_3231 : BitVec 32 := 1#32
  let v3212 : BitVec 32 := Scalar.muli v3211 c1_i32_3231
  let v3213 : BitVec 32 := Scalar.addi c0_i32_3232 v3212
  v3213.toNat
def k0_dev126 (d0 : Dev nD) : Nat :=
  let c0_i32_3244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_3235 : BitVec 32 := 12#32
  let v3219 : BitVec 32 := Scalar.addi v2 c12_i32_3235
  let c16_i32_3236 : BitVec 32 := 16#32
  let c0_i32_3237 : BitVec 32 := 0#32
  let v3220 : BitVec 1 := Scalar.cmpi .eq c16_i32_3236 c0_i32_3237
  let c1_i32_3238 : BitVec 32 := 1#32
  let v3221 : BitVec 32 := Scalar.select v3220 c1_i32_3238 c16_i32_3236
  let v3222 : BitVec 32 := Scalar.remsi v3219 v3221
  let c0_i32_3240 : BitVec 32 := 0#32
  let v3224 : BitVec 1 := Scalar.cmpi .slt v3222 c0_i32_3240
  let c0_i32_3241 : BitVec 32 := 0#32
  let v3225 : BitVec 1 := Scalar.cmpi .slt v3221 c0_i32_3241
  let v3226 : BitVec 1 := Scalar.xori v3224 v3225
  let c0_i32_3239 : BitVec 32 := 0#32
  let v3223 : BitVec 1 := Scalar.cmpi .ne v3222 c0_i32_3239
  let v3227 : BitVec 1 := Scalar.andi v3226 v3223
  let v3228 : BitVec 32 := Scalar.addi v3222 v3221
  let v3229 : BitVec 32 := Scalar.select v3227 v3228 v3222
  let c1_i32_3243 : BitVec 32 := 1#32
  let v3230 : BitVec 32 := Scalar.muli v3229 c1_i32_3243
  let v3231 : BitVec 32 := Scalar.addi c0_i32_3244 v3230
  v3231.toNat
def k0_dev127 (d0 : Dev nD) : Nat :=
  let c0_i32_3256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_3247 : BitVec 32 := 13#32
  let v3237 : BitVec 32 := Scalar.addi v2 c13_i32_3247
  let c16_i32_3248 : BitVec 32 := 16#32
  let c0_i32_3249 : BitVec 32 := 0#32
  let v3238 : BitVec 1 := Scalar.cmpi .eq c16_i32_3248 c0_i32_3249
  let c1_i32_3250 : BitVec 32 := 1#32
  let v3239 : BitVec 32 := Scalar.select v3238 c1_i32_3250 c16_i32_3248
  let v3240 : BitVec 32 := Scalar.remsi v3237 v3239
  let c0_i32_3252 : BitVec 32 := 0#32
  let v3242 : BitVec 1 := Scalar.cmpi .slt v3240 c0_i32_3252
  let c0_i32_3253 : BitVec 32 := 0#32
  let v3243 : BitVec 1 := Scalar.cmpi .slt v3239 c0_i32_3253
  let v3244 : BitVec 1 := Scalar.xori v3242 v3243
  let c0_i32_3251 : BitVec 32 := 0#32
  let v3241 : BitVec 1 := Scalar.cmpi .ne v3240 c0_i32_3251
  let v3245 : BitVec 1 := Scalar.andi v3244 v3241
  let v3246 : BitVec 32 := Scalar.addi v3240 v3239
  let v3247 : BitVec 32 := Scalar.select v3245 v3246 v3240
  let c1_i32_3255 : BitVec 32 := 1#32
  let v3248 : BitVec 32 := Scalar.muli v3247 c1_i32_3255
  let v3249 : BitVec 32 := Scalar.addi c0_i32_3256 v3248
  v3249.toNat
def k0_dev128 (d0 : Dev nD) : Nat :=
  let c0_i32_3268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_3259 : BitVec 32 := 14#32
  let v3255 : BitVec 32 := Scalar.addi v2 c14_i32_3259
  let c16_i32_3260 : BitVec 32 := 16#32
  let c0_i32_3261 : BitVec 32 := 0#32
  let v3256 : BitVec 1 := Scalar.cmpi .eq c16_i32_3260 c0_i32_3261
  let c1_i32_3262 : BitVec 32 := 1#32
  let v3257 : BitVec 32 := Scalar.select v3256 c1_i32_3262 c16_i32_3260
  let v3258 : BitVec 32 := Scalar.remsi v3255 v3257
  let c0_i32_3264 : BitVec 32 := 0#32
  let v3260 : BitVec 1 := Scalar.cmpi .slt v3258 c0_i32_3264
  let c0_i32_3265 : BitVec 32 := 0#32
  let v3261 : BitVec 1 := Scalar.cmpi .slt v3257 c0_i32_3265
  let v3262 : BitVec 1 := Scalar.xori v3260 v3261
  let c0_i32_3263 : BitVec 32 := 0#32
  let v3259 : BitVec 1 := Scalar.cmpi .ne v3258 c0_i32_3263
  let v3263 : BitVec 1 := Scalar.andi v3262 v3259
  let v3264 : BitVec 32 := Scalar.addi v3258 v3257
  let v3265 : BitVec 32 := Scalar.select v3263 v3264 v3258
  let c1_i32_3267 : BitVec 32 := 1#32
  let v3266 : BitVec 32 := Scalar.muli v3265 c1_i32_3267
  let v3267 : BitVec 32 := Scalar.addi c0_i32_3268 v3266
  v3267.toNat
def k0_dev129 (d0 : Dev nD) : Nat :=
  let c0_i32_3279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v3273 : BitVec 32 := Scalar.addi v2 c15_i32
  let c16_i32_3271 : BitVec 32 := 16#32
  let c0_i32_3272 : BitVec 32 := 0#32
  let v3274 : BitVec 1 := Scalar.cmpi .eq c16_i32_3271 c0_i32_3272
  let c1_i32_3273 : BitVec 32 := 1#32
  let v3275 : BitVec 32 := Scalar.select v3274 c1_i32_3273 c16_i32_3271
  let v3276 : BitVec 32 := Scalar.remsi v3273 v3275
  let c0_i32_3275 : BitVec 32 := 0#32
  let v3278 : BitVec 1 := Scalar.cmpi .slt v3276 c0_i32_3275
  let c0_i32_3276 : BitVec 32 := 0#32
  let v3279 : BitVec 1 := Scalar.cmpi .slt v3275 c0_i32_3276
  let v3280 : BitVec 1 := Scalar.xori v3278 v3279
  let c0_i32_3274 : BitVec 32 := 0#32
  let v3277 : BitVec 1 := Scalar.cmpi .ne v3276 c0_i32_3274
  let v3281 : BitVec 1 := Scalar.andi v3280 v3277
  let v3282 : BitVec 32 := Scalar.addi v3276 v3275
  let v3283 : BitVec 32 := Scalar.select v3281 v3282 v3276
  let c1_i32_3278 : BitVec 32 := 1#32
  let v3284 : BitVec 32 := Scalar.muli v3283 c1_i32_3278
  let v3285 : BitVec 32 := Scalar.addi c0_i32_3279 v3284
  v3285.toNat
def k0_off10 (d0 : Dev nD) (c1_i32_3282 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3291 : BitVec 32 := Scalar.addi v2 c1_i32_3282
  let c16_i32_3283 : BitVec 32 := 16#32
  let c0_i32_3284 : BitVec 32 := 0#32
  let v3292 : BitVec 1 := Scalar.cmpi .eq c16_i32_3283 c0_i32_3284
  let c1_i32_3285 : BitVec 32 := 1#32
  let v3293 : BitVec 32 := Scalar.select v3292 c1_i32_3285 c16_i32_3283
  let v3294 : BitVec 32 := Scalar.remsi v3291 v3293
  let c0_i32_3287 : BitVec 32 := 0#32
  let v3296 : BitVec 1 := Scalar.cmpi .slt v3294 c0_i32_3287
  let c0_i32_3288 : BitVec 32 := 0#32
  let v3297 : BitVec 1 := Scalar.cmpi .slt v3293 c0_i32_3288
  let v3298 : BitVec 1 := Scalar.xori v3296 v3297
  let c0_i32_3286 : BitVec 32 := 0#32
  let v3295 : BitVec 1 := Scalar.cmpi .ne v3294 c0_i32_3286
  let v3299 : BitVec 1 := Scalar.andi v3298 v3295
  let v3300 : BitVec 32 := Scalar.addi v3294 v3293
  let v3301 : BitVec 32 := Scalar.select v3299 v3300 v3294
  ![v3301.toNat]
def k0_off11 (d0 : Dev nD) (c1_i32_3282 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3291 : BitVec 32 := Scalar.addi v2 c1_i32_3282
  let c16_i32_3283 : BitVec 32 := 16#32
  let c0_i32_3284 : BitVec 32 := 0#32
  let v3292 : BitVec 1 := Scalar.cmpi .eq c16_i32_3283 c0_i32_3284
  let c1_i32_3285 : BitVec 32 := 1#32
  let v3293 : BitVec 32 := Scalar.select v3292 c1_i32_3285 c16_i32_3283
  let v3294 : BitVec 32 := Scalar.remsi v3291 v3293
  let c0_i32_3287 : BitVec 32 := 0#32
  let v3296 : BitVec 1 := Scalar.cmpi .slt v3294 c0_i32_3287
  let c0_i32_3288 : BitVec 32 := 0#32
  let v3297 : BitVec 1 := Scalar.cmpi .slt v3293 c0_i32_3288
  let v3298 : BitVec 1 := Scalar.xori v3296 v3297
  let c0_i32_3286 : BitVec 32 := 0#32
  let v3295 : BitVec 1 := Scalar.cmpi .ne v3294 c0_i32_3286
  let v3299 : BitVec 1 := Scalar.andi v3298 v3295
  let v3300 : BitVec 32 := Scalar.addi v3294 v3293
  let v3301 : BitVec 32 := Scalar.select v3299 v3300 v3294
  let c0_i32_3292 : BitVec 32 := 0#32
  let c0_i32_3293 : BitVec 32 := 0#32
  ![v3301.toNat, 0, 0]
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .local _ .vmem, ⟨0, _⟩ => ⟨S4096x4096, .bf16⟩
  | .local _ .vmem, ⟨1, _⟩ => ⟨S4096x8192, .bf16⟩
  | .local _ .vmem, ⟨2, _⟩ => ⟨S4096x8192, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Prog.lean ====
module

public import proofs.«01_k».proof.Proof.Gen.KernelIdeal.Points
public import proofs.«01_k».proof.Proof.Gen.KernelIdeal.Launch
public import proofs.«01_k».proof.Proof.Gen.KernelIdeal.Frame

/-! # The kernel body, grouped by what it does

The same sequence of operations as the printed body, written with one definition per kind of step and
one parameter for the unit: a unit is one quarter of a row block, going round the ring in its own
direction.  Units 0 and 1 go to the right, units 2 and 3 to the left; units 0 and 2 are the upper half
of the rows, units 1 and 3 the lower half. -/

@[expose] public section

noncomputable section

namespace Cert.KernelIdeal.Own

open Idealize.ShloMosaic Idealize.ShloMosaic.TcCoe
open Idealize.SL Idealize.SL.Sem
open Cert.KernelIdeal Cert.KernelIdeal.Gen

variable {F : FTy → Type} [FloatOps F]

/-- Programs of the kernel's core. -/
abbrev PG (F : FTy → Type) [FloatOps F] := Prog (TpuEff nD τ sig (Elt F) Λ₀ .tc) PUnit

/-! ## The buffers and the counters -/

abbrev xIn : Memref sig .tc .vmem S4096x256 .bf16 := Memref.whole cc0_stg0_0
abbrev wIn : Memref sig .tc .vmem S256x8192 .bf16 := Memref.whole cc0_stg1_0
abbrev oM : Memref sig .tc .vmem S256x8192 .f32 := Memref.whole cc0_stg2_0
abbrev xM : Memref sig .tc .vmem S4096x256 .bf16 := Memref.whole cc0_scratch0
abbrev wM : Memref sig .tc .vmem S256x8192 .bf16 := Memref.whole cc0_scratch1
abbrev aSrc : Memref sig .tc .vmem S1x8x128 .f32 := Memref.whole cc0_scratch22
abbrev aBuf : Memref sig .tc .vmem S16x8x128 .f32 := Memref.whole cc0_scratch23

/-- The buffer of partial sums a unit sends from. -/
def accM (u : Fin 4) : Memref sig .tc .vmem S2x128x4096 .i16 :=
  match u with
  | 0 => Memref.whole cc0_scratch2 | 1 => Memref.whole cc0_scratch3
  | 2 => Memref.whole cc0_scratch4 | 3 => Memref.whole cc0_scratch5
/-- The buffer a unit receives into. -/
def recvM (u : Fin 4) : Memref sig .tc .vmem S2x128x4096 .i16 :=
  match u with
  | 0 => Memref.whole cc0_scratch6 | 1 => Memref.whole cc0_scratch7
  | 2 => Memref.whole cc0_scratch8 | 3 => Memref.whole cc0_scratch9
theorem accM_whole : ∀ u, (accM u).IsWhole
  | 0 => Memref.isWhole_whole _ | 1 => Memref.isWhole_whole _
  | 2 => Memref.isWhole_whole _ | 3 => Memref.isWhole_whole _
theorem recvM_whole : ∀ u, (recvM u).IsWhole
  | 0 => Memref.isWhole_whole _ | 1 => Memref.isWhole_whole _
  | 2 => Memref.isWhole_whole _ | 3 => Memref.isWhole_whole _

def ssem (u : Fin 4) : DmaSems sig S2 :=
  match u with | 0 => cc0_scratch10 | 1 => cc0_scratch12 | 2 => cc0_scratch14 | 3 => cc0_scratch16
def rsem (u : Fin 4) : DmaSems sig S2 :=
  match u with | 0 => cc0_scratch11 | 1 => cc0_scratch13 | 2 => cc0_scratch15 | 3 => cc0_scratch17
def csem (u : Fin 4) : Sems sig S_ :=
  match u with | 0 => cc0_scratch18 | 1 => cc0_scratch19 | 2 => cc0_scratch20 | 3 => cc0_scratch21

/-! ## The two slots of a unit's buffers -/

theorem slot_inb : ∀ (p : Fin 2) (a), (![p.val, 0, 0] : Fin 3 → Nat) a + S1x128x4096.size a ≤ S2x128x4096.size a := by decide
abbrev slotR (p : Fin 2) : Rect S2x128x4096 := Rect.unit (s := S2x128x4096) ![p.val, 0, 0] S1x128x4096.size (slot_inb p)
theorem slot_packed : ∀ p : Fin 2, (slotR p).PackedRows (EltTy.packing .i16) := by decide
theorem slot_words : ∀ p : Fin 2, (slotR p).WholeWords (EltTy.packing .i16) := by decide
theorem sem_inb : ∀ (p : Fin 2) (a), (![p.val] : Fin 1 → Nat) a + S1.size a ≤ S2.size a := by decide

abbrev slotOf (m : Memref sig .tc .vmem S2x128x4096 .i16) (p : Fin 2) : Memref sig .tc .vmem S128x4096 .i16 :=
  (m.slice (slotR p) (fun _ => rfl)).squeeze S128x4096 squeezes_S1x128x4096_S128x4096
abbrev semOf (m : DmaSems sig S2) (p : Fin 2) : DmaSems sig S_ :=
  (m.slice (Rect.unit (s := S2) ![p.val] S1.size (sem_inb p))).squeeze S_ squeezes_S1_S_
theorem slot_exact {m : Memref sig .tc .vmem S2x128x4096 .i16} (h : m.IsWhole) (p : Fin 2) :
    (slotOf m p).view.WordExact :=
  (h.wordExact_slice rfl _ (slot_words p)).reshape _ _

/-- The slot message `s` travels by. -/
abbrev par (s : ℕ) : Fin 2 := ⟨s % 2, Nat.mod_lt _ (by decide)⟩

/-! ## Which rows and columns -/

/-- The half of the rows a unit works on. -/
def half (u : Fin 4) : Fin 2 := match u with | 0 => 0 | 1 => 1 | 2 => 0 | 3 => 1

/-- Whether a unit goes to the left. -/
def goesLeft (u : Fin 4) : Bool := match u with | 0 => false | 1 => false | 2 => true | 3 => true

def off0 (d : Dev nD) (u : Fin 4) : Fin 2 → ℕ :=
  match u with
  | 0 => k0_off2 d 0#32 | 1 => k0_off2 d 128#32 | 2 => k0_off4 d 0#32 | 3 => k0_off4 d 128#32
theorem off0_inb (d : Dev nD) : ∀ (u : Fin 4) (a), off0 d u a + S128x256.size a ≤ S4096x256.size a
  | 0 => k0_off2_inb d 0 | 1 => k0_off2_inb d 1 | 2 => k0_off4_inb d 0 | 3 => k0_off4_inb d 1
def offS (d : Dev nD) (u : Fin 4) (s : ℕ) : Fin 2 → ℕ :=
  match u with
  | 0 => k0_off5 d (BitVec.ofNat 32 s) 0#32 | 1 => k0_off5 d (BitVec.ofNat 32 s) 128#32
  | 2 => k0_off6 d (BitVec.ofNat 32 s) 0#32 | 3 => k0_off6 d (BitVec.ofNat 32 s) 128#32
theorem offS_inb (d : Dev nD) (s : Fin 15) : ∀ (u : Fin 4) (a), offS d u s a + S128x256.size a ≤ S4096x256.size a
  | 0 => k0_off5_inb d s 0 | 1 => k0_off5_inb d s 1 | 2 => k0_off6_inb d s 0 | 3 => k0_off6_inb d s 1

def offW (u : Fin 4) : Fin 2 → ℕ :=
  match u with | 0 => ![0, 0] | 1 => ![0, 0] | 2 => ![0, 4096] | 3 => ![0, 4096]
theorem offW_inb : ∀ (u : Fin 4) (a), offW u a + S256x4096.size a ≤ S256x8192.size a
  | 0 => inb_S256x8192_S256x4096_0_0 | 1 => inb_S256x8192_S256x4096_0_0
  | 2 => inb_S256x8192_S256x4096_0_4096 | 3 => inb_S256x8192_S256x4096_0_4096
def offO (u : Fin 4) : Fin 2 → ℕ :=
  match u with | 0 => ![0, 0] | 1 => ![128, 0] | 2 => ![0, 4096] | 3 => ![128, 4096]
theorem offO_inb : ∀ (u : Fin 4) (a), offO u a + S128x4096.size a ≤ S256x8192.size a
  | 0 => inb_S256x8192_S128x4096_0_0 | 1 => inb_S256x8192_S128x4096_128_0
  | 2 => inb_S256x8192_S128x4096_0_4096 | 3 => inb_S256x8192_S128x4096_128_4096

abbrev xR0 (d : Dev nD) (u : Fin 4) : Rect S4096x256 := Rect.unit (s := S4096x256) (off0 d u) S128x256.size (off0_inb d u)
abbrev xRS (d : Dev nD) (u : Fin 4) (s : Fin 15) : Rect S4096x256 := Rect.unit (s := S4096x256) (offS d u s) S128x256.size (offS_inb d s u)
abbrev wR (u : Fin 4) : Rect S256x8192 := Rect.unit (s := S256x8192) (offW u) S256x4096.size (offW_inb u)
abbrev oR (u : Fin 4) : Rect S256x8192 := Rect.unit (s := S256x8192) (offO u) S128x4096.size (offO_inb u)

/-! ## Which device -/

def devMsg (d : Dev nD) (u : Fin 4) : Dev nD :=
  match u with
  | 0 => ⟨k0_dev8 d, k0_dev8_lt d⟩ | 1 => ⟨k0_dev8 d, k0_dev8_lt d⟩
  | 2 => ⟨k0_dev10 d, k0_dev10_lt d⟩ | 3 => ⟨k0_dev10 d, k0_dev10_lt d⟩
def devCrd (d : Dev nD) (u : Fin 4) : Dev nD :=
  match u with
  | 0 => ⟨k0_dev7 d, k0_dev7_lt d⟩ | 1 => ⟨k0_dev7 d, k0_dev7_lt d⟩
  | 2 => ⟨k0_dev9 d, k0_dev9_lt d⟩ | 3 => ⟨k0_dev9 d, k0_dev9_lt d⟩
def devAmx (d : Dev nD) (k : Fin 15) : Dev nD :=
  match k with
  | 0 => ⟨k0_dev115 d, k0_dev115_lt d⟩
  | 1 => ⟨k0_dev116 d, k0_dev116_lt d⟩
  | 2 => ⟨k0_dev117 d, k0_dev117_lt d⟩
  | 3 => ⟨k0_dev118 d, k0_dev118_lt d⟩
  | 4 => ⟨k0_dev119 d, k0_dev119_lt d⟩
  | 5 => ⟨k0_dev120 d, k0_dev120_lt d⟩
  | 6 => ⟨k0_dev121 d, k0_dev121_lt d⟩
  | 7 => ⟨k0_dev122 d, k0_dev122_lt d⟩
  | 8 => ⟨k0_dev123 d, k0_dev123_lt d⟩
  | 9 => ⟨k0_dev124 d, k0_dev124_lt d⟩
  | 10 => ⟨k0_dev125 d, k0_dev125_lt d⟩
  | 11 => ⟨k0_dev126 d, k0_dev126_lt d⟩
  | 12 => ⟨k0_dev127 d, k0_dev127_lt d⟩
  | 13 => ⟨k0_dev128 d, k0_dev128_lt d⟩
  | 14 => ⟨k0_dev129 d, k0_dev129_lt d⟩

/-! ## What is computed -/

/-- A product of a strip of rows with a half of the columns. -/
def prod (x : Vec F S128x256 .bf16) (w : Vec F S256x4096 .bf16) : FVec F S128x4096 .f32 :=
  matmul dot_S128x256_S256x4096_S128x4096_1_0_0_1_n_n none x w (constant S128x4096 .f32 0x00000000#32)

/-- The product on the wire: in steps of 1/2048. -/
def qpart (x : Vec F S128x256 .bf16) (w : Vec F S256x4096 .bf16) : IVec S128x4096 16 :=
  fptosi 16 (roundeven (mulf (prod x w) (broadcast S128x4096 (Scalar.ofBits (F := F) .f32 0x45000000#32))))

/-- A slot as a unit's sum, and back. -/
def fromSlot (v : Vec F S1x128x4096 .i16) : IVec S128x4096 16 := shapeCast S128x4096 v shapeCasts_S1x128x4096_S128x4096
def toSlot (v : IVec S128x4096 16) : IVec S1x128x4096 16 := shapeCast S1x128x4096 v shapeCasts_S128x4096_S1x128x4096

/-- The finished quarter: what arrived, back from the wire, and the device's own product, never negative. -/
def lastSum (r : IVec S128x4096 16) (x : Vec F S128x256 .bf16) (w : Vec F S256x4096 .bf16) : FVec F S128x4096 .f32 :=
  maximumf (addf (mulf (sitofp .f32 r) (broadcast S128x4096 (Scalar.ofBits (F := F) .f32 0x3A000000#32))) (prod x w))
    (broadcast S128x4096 (Scalar.ofBits (F := F) .f32 0x00000000#32))

/-- The largest entry of a quarter and of what came before it. -/
def maxWith (m : F .f32) (y : FVec F S128x4096 .f32) : F .f32 :=
  Scalar.maximumf m (extractAt ![0, 0, 0] (shapeCast S1x1x1 (multiReduction .maximumf [1, 2] S1
    (shapeCast S1x128x4096 y shapeCasts_S128x4096_S1x128x4096) 0xFF800000#32 reduces_S1x128x4096_S1 (.inl rfl) rfl)
    shapeCasts_S1_S1x1x1) inpos_S1x1x1_p0_0_0)

/-- The scale: the largest entry anywhere over 448. -/
def scaleOf (b : Vec F S16x8x128 .f32) : F .f32 :=
  Scalar.divf (extractAt ![0, 0, 0, 0] (shapeCast S1x1x1x1 (multiReduction .maximumf [1, 2, 3] S1
    (shapeCast S1x16x8x128 b shapeCasts_S16x8x128_S1x16x8x128) 0xFF800000#32 reduces_S1x16x8x128_S1 (.inl rfl) rfl)
    shapeCasts_S1_S1x1x1x1) inpos_S1x1x1x1_p0_0_0_0) (Scalar.ofBits .f32 0x43E00000#32)

/-- A chunk of the result through the quantiser. -/
def quant (b : Vec F S16x8x128 .f32) (y : Vec F S256x2048 .f32) : FVec F S256x2048 .f32 :=
  mulf (extf .f32 (truncf .fp8e4m3 (mulf (shapeCast S256x2048 y shapeCasts_S256x2048_S256x2048)
      (broadcast S256x2048 (Scalar.divf (Scalar.ofBits .f32 0x3F800000#32) (scaleOf b)))) bitsLt_fp8e4m3_f32) bitsLt_fp8e4m3_f32)
    (broadcast S256x2048 (scaleOf b))

def spread (m : F .f32) : FVec F S1x8x128 .f32 :=
  shapeCast S1x8x128 (broadcast S1x8x128 m) shapeCasts_S1x8x128_S1x8x128
def again (v : Vec F S1x8x128 .f32) : FVec F S1x8x128 .f32 :=
  shapeCast S1x8x128 v shapeCasts_S1x8x128_S1x8x128

/-! ## The steps of a unit -/

def send (d : Dev nD) (u : Fin 4) (p : Fin 2) (k : PG F) : PG F :=
  .op (.enqueueDma (slotOf (accM u) p) (.remote (Dev.tc (devMsg d u)) (slotOf (recvM u) p) (.dma (semOf (ssem u) p).sem))
    (.dma (semOf (rsem u) p).sem) (slot_exact (accM_whole u) p) (slot_exact (recvM_whole u) p) ⟨⟨rfl, Or.inl rfl⟩, trivial⟩) fun _ => k
def waitSend (u : Fin 4) (p : Fin 2) (k : PG F) : PG F :=
  .op (.waitDma2 (semOf (ssem u) p).sem (slotOf (recvM u) p) (slotOf (accM u) p)
    (slot_exact (recvM_whole u) p) (slot_exact (accM_whole u) p)) fun _ => k
def waitRecv (u : Fin 4) (p : Fin 2) (k : PG F) : PG F :=
  .op (.waitDma2 (semOf (rsem u) p).sem (slotOf (accM u) p) (slotOf (recvM u) p)
    (slot_exact (accM_whole u) p) (slot_exact (recvM_whole u) p)) fun _ => k
def credit (d : Dev nD) (u : Fin 4) (k : PG F) : PG F :=
  (semSignalWord (devCrd d u) (csem u).sem 1#32).bind fun _ => k
def waitCredit (u : Fin 4) (k : PG F) : PG F :=
  (semWaitWord (csem u).sem 1#32).bind fun _ => k

def readRecv (u : Fin 4) (p : Fin 2) (k : Vec F S1x128x4096 .i16 → PG F) : PG F :=
  .op (.load (recvM u) (slotR p).toLoadRect (View.loadsAt_vmem h_S1x128x4096)) k
/-- A sum into a slot of the unit's buffer; the slot is read first and the value not used. -/
def putAcc (u : Fin 4) (p : Fin 2) (v : Vec F S1x128x4096 .i16) (k : PG F) : PG F :=
  .op (.load (accM u) (slotR p).toLoadRect (View.loadsAt_vmem h_S1x128x4096)) fun _ =>
  .op (.store (accM u) (slotR p) v Finset.univ
    (View.stores_vmem h_S1x128x4096 ((accM_whole u).storeExact_slice rfl _ (slot_packed p)) (fun _ => rfl)) (.inl rfl)) fun _ => k
def putOut (u : Fin 4) (v : Vec F S128x4096 .f32) (k : PG F) : PG F :=
  .op (.load oM (oR u).toLoadRect (View.loadsAt_vmem h_S128x4096)) fun _ =>
  .op (.store oM (oR u) v Finset.univ (View.stores_vmem_bits_univ h_S128x4096 rfl) (.inl rfl)) fun _ => k

def unitInit (d : Dev nD) (u : Fin 4) (k : PG F) : PG F :=
  .op (.load xM (xR0 d u).toLoadRect (View.loadsAt_vmem h_S128x256)) fun x =>
  .op (.load wM (wR u).toLoadRect (View.loadsAt_vmem h_S256x4096)) fun w =>
  putAcc u 0 (toSlot (qpart (F := F) x w)) (send d u 0 k)

def stepHead (d : Dev nD) (u : Fin 4) (s : Fin 15) (k : Vec F S128x256 .bf16 → Vec F S256x4096 .bf16 → PG F) : PG F :=
  .op (.load xM (xRS d u s).toLoadRect (View.loadsAt_vmem h_S128x256)) fun x =>
  .op (.load wM (wR u).toLoadRect (View.loadsAt_vmem h_S256x4096)) fun w => k x w

def sumIn (u : Fin 4) (s : Fin 15) (x : Vec F S128x256 .bf16) (w : Vec F S256x4096 .bf16) (k : PG F) : PG F :=
  waitRecv u (par s) (readRecv u (par s) fun r =>
    putAcc u (par (s + 1)) (toSlot (addi (fromSlot (F := F) r) (qpart (F := F) x w))) k)

def unitFirst (d : Dev nD) (u : Fin 4) (k : PG F) : PG F :=
  stepHead d u 0 fun x w => sumIn u 0 x w (credit d u (send d u 1 k))
def unitMid (d : Dev nD) (s : Fin 15) (u : Fin 4) (k : PG F) : PG F :=
  stepHead d u s fun x w => waitSend u (par (s + 1)) (sumIn u s x w (credit d u (waitCredit u (send d u (par (s + 1)) k))))
def unitLate (d : Dev nD) (u : Fin 4) (k : PG F) : PG F :=
  stepHead d u 13 fun x w => waitSend u 0 (sumIn u 13 x w (waitCredit u (send d u 0 k)))
def unitLast (d : Dev nD) (u : Fin 4) (m : F .f32) (k : F .f32 → PG F) : PG F :=
  stepHead d u 14 fun x w => waitSend u 1 (waitRecv u 0 (readRecv u 0 fun r =>
    putOut u (lastSum (fromSlot (F := F) r) x w) (k (maxWith m (lastSum (fromSlot (F := F) r) x w)))))

/-- The four units of a step, in the body's order. -/
def quad (f : Fin 4 → PG F → PG F) (k : PG F) : PG F := f 0 (f 2 (f 1 (f 3 k)))

/-- Steps `12 - n + 1` to 12. -/
def mids (d : Dev nD) : (n : ℕ) → n < 13 → PG F → PG F
  | 0, _, k => k
  | n + 1, h, k => quad (unitMid d ⟨12 - n, by omega⟩) (mids d n (by omega) k)

/-! ## Before the ring and after it -/

abbrev wAll : Rect S256x8192 := Rect.unit (s := S256x8192) ![0, 0] S256x8192.size inb_S256x8192_S256x8192_0_0
abbrev xAll : Rect S4096x256 := Rect.unit (s := S4096x256) ![0, 0] S4096x256.size inb_S4096x256_S4096x256_0_0
abbrev xBlk1 (d : Dev nD) : Rect S4096x256 := Rect.unit (s := S4096x256) (k0_off1 d) S256x256.size (k0_off1_inb d)
abbrev xBlk3 (d : Dev nD) : Rect S4096x256 := Rect.unit (s := S4096x256) (k0_off3 d) S256x256.size (k0_off3_inb d)

def copyW (k : PG F) : PG F :=
  .op (.load wIn wAll.toLoadRect (View.loadsAt_vmem h_S256x8192)) fun v =>
  .op (.load wM wAll.toLoadRect (View.loadsAt_vmem h_S256x8192)) fun _ =>
  .op (.store wM wAll (shapeCast S256x8192 (shapeCast S256x8192 v shapeCasts_S256x8192_S256x8192) shapeCasts_S256x8192_S256x8192) Finset.univ (View.stores_vmem h_S256x8192 ((Memref.isWhole_whole cc0_scratch1).storeExact_slice rfl _ packedbf16_S256x8192_S256x8192_0_0) (fun _ => rfl)) (.inl rfl)) fun _ => k
def copyX1 (d : Dev nD) (k : PG F) : PG F :=
  .op (.load xIn (xBlk1 d).toLoadRect (View.loadsAt_vmem h_S256x256)) fun v =>
  .op (.load xM (xBlk1 d).toLoadRect (View.loadsAt_vmem h_S256x256)) fun _ =>
  .op (.store xM (xBlk1 d) (shapeCast S256x256 (shapeCast S256x256 v shapeCasts_S256x256_S256x256) shapeCasts_S256x256_S256x256) Finset.univ (View.stores_vmem h_S256x256 ((Memref.isWhole_whole cc0_scratch0).storeExact_slice rfl _ (k0_off1_packedbf16 d)) (fun _ => rfl)) (.inl rfl)) fun _ => k
def copyX3 (d : Dev nD) (k : PG F) : PG F :=
  .op (.load xIn (xBlk3 d).toLoadRect (View.loadsAt_vmem h_S256x256)) fun v =>
  .op (.load xM (xBlk3 d).toLoadRect (View.loadsAt_vmem h_S256x256)) fun _ =>
  .op (.store xM (xBlk3 d) (shapeCast S256x256 (shapeCast S256x256 v shapeCasts_S256x256_S256x256) shapeCasts_S256x256_S256x256) Finset.univ (View.stores_vmem h_S256x256 ((Memref.isWhole_whole cc0_scratch0).storeExact_slice rfl _ (k0_off3_packedbf16 d)) (fun _ => rfl)) (.inl rfl)) fun _ => k
def copyX (k : PG F) : PG F :=
  .op (.load xIn xAll.toLoadRect (View.loadsAt_vmem h_S4096x256)) fun v =>
  .op (.load xM xAll.toLoadRect (View.loadsAt_vmem h_S4096x256)) fun _ =>
  .op (.store xM xAll (shapeCast S4096x256 (shapeCast S4096x256 v shapeCasts_S4096x256_S4096x256) shapeCasts_S4096x256_S4096x256) Finset.univ (View.stores_vmem h_S4096x256 ((Memref.isWhole_whole cc0_scratch0).storeExact_slice rfl _ packedbf16_S4096x256_S4096x256_0_0) (fun _ => rfl)) (.inl rfl)) fun _ => k

def prologue (d : Dev nD) (k : PG F) : PG F :=
  copyW (copyX1 d (unitInit d 0 (unitInit d 1 (copyX3 d (unitInit d 2 (unitInit d 3 (copyX k)))))))

abbrev barS : Sems sig S_ := SemArray.scalar (sig.barrier 0 rfl)
def meet (d : Dev nD) (k : PG F) : PG F :=
  (semSignalWord (⟨k0_dev1 d, k0_dev1_lt d⟩ : Dev nD) barS.sem 1#32).bind fun _ =>
  (semSignalWord (⟨k0_dev2 d, k0_dev2_lt d⟩ : Dev nD) barS.sem 1#32).bind fun _ =>
  (semWaitWord barS.sem 2#32).bind fun _ => k

abbrev aAll : Rect S1x8x128 := Rect.unit (s := S1x8x128) ![0, 0, 0] S1x8x128.size inb_S1x8x128_S1x8x128_0_0_0
abbrev bAll : Rect S16x8x128 := Rect.unit (s := S16x8x128) ![0, 0, 0] S16x8x128.size inb_S16x8x128_S16x8x128_0_0_0
abbrev rowOwn (d : Dev nD) : Rect S16x8x128 := Rect.unit (s := S16x8x128) (k0_off7 d) S1x8x128.size (k0_off7_inb d)
abbrev rowTo (d : Dev nD) : Memref sig .tc .vmem S1x8x128 .f32 :=
  aBuf.slice (Rect.unit (s := S16x8x128) (k0_off9 d) S1x8x128.size (k0_off9_inb d)) (fun _ => rfl)
abbrev rowFrom (d : Dev nD) (k : Fin 15) : Memref sig .tc .vmem S1x8x128 .f32 :=
  aBuf.slice (Rect.unit (s := S16x8x128) (k0_off11 d (BitVec.ofNat 32 (1 + k.val))) S1x8x128.size (k0_off11_inb d k)) (fun _ => rfl)
theorem as_inb : ∀ (k : Fin 15) (a), (![k.val] : Fin 1 → Nat) a + S1.size a ≤ S15.size a := by decide
abbrev asS (k : Fin 15) : DmaSems sig S_ :=
  (cc0_scratch24.slice (Rect.unit (s := S15) ![k.val] S1.size (as_inb k))).squeeze S_ squeezes_S1_S_
abbrev arTo (d : Dev nD) : DmaSems sig S_ :=
  (cc0_scratch25.slice (Rect.unit (s := S16) (k0_off8 d) S1.size (k0_off8_inb d))).squeeze S_ squeezes_S1_S_
abbrev arFrom (d : Dev nD) (k : Fin 15) : DmaSems sig S_ :=
  (cc0_scratch25.slice (Rect.unit (s := S16) (k0_off10 d (BitVec.ofNat 32 (1 + k.val))) S1.size (k0_off10_inb d k))).squeeze S_ squeezes_S1_S_

def putMax (d : Dev nD) (m : F .f32) (k : PG F) : PG F :=
  .op (.load aSrc aAll.toLoadRect (View.loadsAt_vmem h_S1x8x128)) fun _ =>
  .op (.store aSrc aAll (spread m) Finset.univ (View.stores_vmem_bits_univ h_S1x8x128 rfl) (.inl rfl)) fun _ =>
  .op (.load aSrc aAll.toLoadRect (View.loadsAt_vmem h_S1x8x128)) fun v =>
  .op (.load aBuf (rowOwn d).toLoadRect (View.loadsAt_vmem h_S1x8x128)) fun _ =>
  .op (.store aBuf (rowOwn d) (again v) Finset.univ (View.stores_vmem_bits_univ h_S1x8x128 rfl) (.inl rfl)) fun _ => k
def sendMax (d : Dev nD) (k : Fin 15) (q : PG F) : PG F :=
  .op (.enqueueDma aSrc (.remote (Dev.tc (devAmx d k)) (rowTo d) (.dma (asS k).sem)) (.dma (arTo d).sem)
    (Memref.isWhole_whole cc0_scratch22).wordExact (View.wordExact_bits rfl) ⟨⟨rfl, Or.inl rfl⟩, trivial⟩) fun _ => q
def recvMax (d : Dev nD) (k : Fin 15) (q : PG F) : PG F :=
  .op (.waitDma2 (arFrom d k).sem aSrc (rowFrom d k) (Memref.isWhole_whole cc0_scratch22).wordExact (View.wordExact_bits rfl)) fun _ => q
def sentMax (d : Dev nD) (k : Fin 15) (q : PG F) : PG F :=
  .op (.waitDma2 (asS k).sem (rowTo d) aSrc (View.wordExact_bits rfl) (Memref.isWhole_whole cc0_scratch22).wordExact) fun _ => q

/-- The 15 other devices, nearest on the right first, from `15 - n` on. -/
def others (f : Fin 15 → PG F → PG F) : (n : ℕ) → n ≤ 15 → PG F → PG F
  | 0, _, k => k
  | n + 1, h, k => f ⟨14 - n, by omega⟩ (others f n (by omega) k)

theorem chunk_inb : ∀ (j : Fin 4) (a), (![0, 2048 * j.val] : Fin 2 → Nat) a + S256x2048.size a ≤ S256x8192.size a := by decide
abbrev chunkR (j : Fin 4) : Rect S256x8192 := Rect.unit (s := S256x8192) ![0, 2048 * j.val] S256x2048.size (chunk_inb j)
def chunk (b : Vec F S16x8x128 .f32) (j : Fin 4) (k : PG F) : PG F :=
  .op (.load oM (chunkR j).toLoadRect (View.loadsAt_vmem h_S256x2048)) fun y =>
  .op (.load oM (chunkR j).toLoadRect (View.loadsAt_vmem h_S256x2048)) fun _ =>
  .op (.store oM (chunkR j) (quant b y) Finset.univ (View.stores_vmem_bits_univ h_S256x2048 rfl) (.inl rfl)) fun _ => k

def tail : PG F :=
  .op (.load aBuf bAll.toLoadRect (View.loadsAt_vmem h_S16x8x128)) fun b =>
  chunk b 0 (chunk b 1 (chunk b 2 (chunk b 3 (.ret ⟨⟩))))

def exchange (d : Dev nD) (m : F .f32) : PG F :=
  waitSend 0 0 (waitSend 2 0 (waitSend 1 0 (waitSend 3 0 (putMax d m
    (others (sendMax d) 15 (by decide) (others (recvMax d) 15 (by decide) (others (sentMax d) 15 (by decide) tail)))))))

def finish (d : Dev nD) : PG F :=
  unitLast d 0 (Scalar.ofBits .f32 0x00000000#32) fun m => unitLast d 2 m fun m => unitLast d 1 m fun m => unitLast d 3 m fun m => exchange d m

/-- The whole body on device `d`. -/
def onDev (d : Dev nD) : PG F :=
  meet d (prologue d (quad (unitFirst d) (mids d 12 (by decide) (quad (unitLate d) (finish d)))))
def whole : PG F := .op .deviceId fun d => onDev d

end Cert.KernelIdeal.Own

end
-- ==== Proof.Protocol.lean ====
module

public import proofs.«01_k».proof.Proof.Prog
public import Idealize.ShloMosaic.Lib.Pipeline.Launch
public import Idealize.ShloMosaic.Lib.Pipeline.Kit
public import Idealize.ShloMosaic.Lib.Release
public import Idealize.ShloMosaic.Lib.Transfers
public import Idealize.ShloMosaic.Lib.Tactic

/-! # Who pays what to whom

Every counter of the kernel as a cell with its duties, what each payment hands over, what each device owes
when it starts, and the numbers that travel round the ring. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The resource algebra -/

/-- What a device reads into: a slot of a unit's receive buffer, or the row of the `k`-th device on its left. -/
abbrev KI : Type := (Fin 4 × Fin 2) ⊕ Fin 15
abbrev Key : Type := Dev nD × KI
abbrev UB : Type := URounds (GSem nD τ sig) ℕ
abbrev US : Type := Release.USlots Key
abbrev UU : Type := UR sig nD τ × (UB × US)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × US)).trans embR
abbrev EL : Emb US (MT nD τ sig ℕ (Elt F) ℕ UU ℕ) := (Emb.inr : Emb US (UB × US)).trans embR

/-! ## The devices -/

def nxt (c : Dev nD) : Dev nD := ⟨(c.val + 1) % 16, Nat.mod_lt _ (by decide)⟩
def prv (c : Dev nD) : Dev nD := ⟨(c.val + 15) % 16, Nat.mod_lt _ (by decide)⟩
/-- Where unit `u` sends from `c`, and from where it arrives. -/
def dn (u : Fin 4) (c : Dev nD) : Dev nD := if goesLeft u then prv c else nxt c
def up (u : Fin 4) (c : Dev nD) : Dev nD := if goesLeft u then nxt c else prv c
/-- The `k`-th device on the right, the nearest counted 0, and on the left. -/
def shift (k : Fin 15) (c : Dev nD) : Dev nD := ⟨(c.val + k.val + 1) % 16, Nat.mod_lt _ (by decide)⟩
def src (k : Fin 15) (c : Dev nD) : Dev nD := ⟨(c.val + 15 - k.val) % 16, Nat.mod_lt _ (by decide)⟩

theorem prv_nxt (c : Dev nD) : prv (nxt c) = c := by revert c; decide +kernel
theorem nxt_prv (c : Dev nD) : nxt (prv c) = c := by revert c; decide +kernel
theorem up_dn (u : Fin 4) (c : Dev nD) : up u (dn u c) = c := by revert u c; decide +kernel
theorem dn_up (u : Fin 4) (c : Dev nD) : dn u (up u c) = c := by revert u c; decide +kernel
theorem src_shift (k : Fin 15) (c : Dev nD) : src k (shift k c) = c := by revert k c; decide +kernel
theorem shift_src (k : Fin 15) (c : Dev nD) : shift k (src k c) = c := by revert k c; decide +kernel
theorem src_ne (k : Fin 15) (c : Dev nD) : src k c ≠ c := by revert k c; decide +kernel
theorem shift_ne (k : Fin 15) (c : Dev nD) : shift k c ≠ c := by revert k c; decide +kernel

theorem devMsg_eq (c : Dev nD) (u : Fin 4) : devMsg c u = dn u c := by revert c u; decide +kernel
theorem devCrd_eq (c : Dev nD) (u : Fin 4) : devCrd c u = up u c := by revert c u; decide +kernel
theorem devAmx_eq (c : Dev nD) (k : Fin 15) : devAmx c k = shift k c := by revert c k; decide +kernel

/-! ## The cells -/

/-- The kernel's own counters: sends and receives of the two slots of a unit, a unit's credits, the sends and the
    receives of the largest entries. -/
abbrev CK : Type := (Fin 4 × Fin 2) ⊕ (Fin 4 × Fin 2) ⊕ Fin 4 ⊕ Fin 15 ⊕ Fin 16
/-- With the counter devices meet on. -/
abbrev KK : Type := Option CK

instance instDecCK : DecidableEq CK := inferInstance
instance instDecKK : DecidableEq KK := @Option.instDecidableEq CK instDecCK

abbrev kBar : KK := none
abbrev kSnd (u : Fin 4) (p : Fin 2) : KK := some (.inl (u, p))
abbrev kRcv (u : Fin 4) (p : Fin 2) : KK := some (.inr (.inl (u, p)))
abbrev kCrd (u : Fin 4) : KK := some (.inr (.inr (.inl u)))
abbrev kAsn (k : Fin 15) : KK := some (.inr (.inr (.inr (.inl k))))
abbrev kArc (i : Fin 16) : KK := some (.inr (.inr (.inr (.inr i))))

def semC : CK → SemLoc sig
  | .inl (u, p) => .dma (semOf (ssem u) p).sem
  | .inr (.inl (u, p)) => .dma (semOf (rsem u) p).sem
  | .inr (.inr (.inl u)) => .reg (csem u).sem
  | .inr (.inr (.inr (.inl k))) => .dma (asS k).sem
  | .inr (.inr (.inr (.inr i))) => .dma (arTo i).sem
def semO : KK → SemLoc sig
  | none => .reg barS.sem
  | some k => semC k

theorem semO_injective : Function.Injective semO := by decide +kernel

/-- The cell of device `c` that a counter names. -/
abbrev kcell (c : Dev nD) (k : KK) : GSem nD τ sig := ((c.tc : Thread nD τ), semO k)

theorem kcell_inj {c c' : Dev nD} {k k' : KK} (h : kcell c k = kcell c' k') : c = c' ∧ k = k' :=
  ⟨congrArg (fun g : GSem nD τ sig => g.1.1) h, semO_injective (congrArg Prod.snd h)⟩

open Classical in
/-- Which counter a semaphore is. -/
def kindOf (sm : SemLoc sig) : Option KK := if h : ∃ k, semO k = sm then some h.choose else none
theorem kindOf_sem (k : KK) : kindOf (semO k) = some k := by
  have h : ∃ k', semO k' = semO k := ⟨k, rfl⟩
  unfold kindOf; rw [dif_pos h]; exact congrArg some (semO_injective h.choose_spec)

/-! ## Amounts -/

/-- What a slot and what a row bring on arrival. -/
abbrev NS : ℕ := (slotOf (recvM 0) 0).view.dmaCredit
abbrev NA : ℕ := (aSrc : Memref sig .tc .vmem S1x8x128 .f32).view.dmaCredit
theorem NS_pos : 0 < NS := View.dmaCredit_pos _ (by decide)
theorem NA_pos : 0 < NA := View.dmaCredit_pos _ (by decide)
theorem credit_recv (u : Fin 4) (p : Fin 2) : (slotOf (recvM u) p).view.dmaCredit = NS := by
  match u with | 0 => rfl | 1 => rfl | 2 => rfl | 3 => rfl
theorem credit_acc (u : Fin 4) (p : Fin 2) : (slotOf (accM u) p).view.dmaCredit = NS := by
  match u with | 0 => rfl | 1 => rfl | 2 => rfl | 3 => rfl
theorem credit_row (c : Dev nD) : (rowTo c).view.dmaCredit = NA := rfl
theorem credit_rowFrom (c : Dev nD) (k : Fin 15) : (rowFrom c k).view.dmaCredit = NA := rfl

/-! ## What is computed -/

def fin15 (s : ℕ) : Fin 15 := ⟨s % 15, Nat.mod_lt _ (by decide)⟩
theorem fin15_val (s : Fin 15) : fin15 s.val = s := Fin.ext (Nat.mod_eq_of_lt s.isLt)

section Values

variable (X : Dev nD → (cc0_scratch0 : Ref sig .tc).ty.Contents (Elt F)) (Wt : Dev nD → (cc0_scratch1 : Ref sig .tc).ty.Contents (Elt F))

def x0 (u : Fin 4) (c : Dev nD) : Vec F S128x256 .bf16 := xM.view.readAt (Elt F) (xR0 c u).toLoadRect (X c)
def xs (u : Fin 4) (c : Dev nD) (s : ℕ) : Vec F S128x256 .bf16 := xM.view.readAt (Elt F) (xRS c u (fin15 s)).toLoadRect (X c)
def ws (u : Fin 4) (c : Dev nD) : Vec F S256x4096 .bf16 := wM.view.readAt (Elt F) (wR u).toLoadRect (Wt c)

/-- The sum message `s` of unit `u` carries away from `c`. -/
def accV (u : Fin 4) : ℕ → Dev nD → IVec S128x4096 16
  | 0, c => qpart (F := F) (x0 X u c) (ws Wt u c)
  | s + 1, c => addi (accV u s (up u c)) (qpart (F := F) (xs X u c s) (ws Wt u c))

/-- The quarter unit `u` ends with on `c`. -/
def yq (u : Fin 4) (c : Dev nD) : FVec F S128x4096 .f32 := lastSum (accV X Wt u 14 (up u c)) (xs X u c 14) (ws Wt u c)
/-- The largest entry on `c`. -/
def lmax (c : Dev nD) : F .f32 :=
  maxWith (maxWith (maxWith (maxWith (Scalar.ofBits .f32 0x00000000#32) (yq X Wt 0 c)) (yq X Wt 2 c)) (yq X Wt 1 c)) (yq X Wt 3 c)
/-- The rows of largest entries, one a device. -/
def amaxB : (cc0_scratch23 : Ref sig .tc).ty.Contents (Elt F) := fun i => lmax X Wt (i 0)

end Values

/-! ## Points-to -/

abbrev slotPts (m : Memref sig .tc .vmem S2x128x4096 .i16) (c : Dev nD) (p : Fin 2)
    (f : Buf (Elt F) ((slotOf m p).view.loc (c : Thread nD τ))) : sProp 𝕄 :=
  (slotOf m p).view.loc (c : Thread nD τ) ↦[(slotOf m p).view.set]{fullShare} f
/-- A slot, whatever it holds. -/
def slotAny (m : Memref sig .tc .vmem S2x128x4096 .i16) (c : Dev nD) (p : Fin 2) : sProp 𝕄 := iprop(∃ f, slotPts m c p f)
def slotHas (m : Memref sig .tc .vmem S2x128x4096 .i16) (c : Dev nD) (p : Fin 2) (v : IVec S128x4096 16) : sProp 𝕄 :=
  iprop(∃ f, ⌜(slotOf m p).view.read (Elt F) f = v⌝ ∗ slotPts m c p f)
abbrev rowPts (c : Dev nD) (i : Dev nD) (f : Buf (Elt F) ((rowTo i).view.loc (c : Thread nD τ))) : sProp 𝕄 :=
  (rowTo i).view.loc (c : Thread nD τ) ↦[(rowTo i).view.set]{fullShare} f
def rowAny (c : Dev nD) (i : Dev nD) : sProp 𝕄 := iprop(∃ f, rowPts c i f)

/-- The place a key names. -/
def Sl : Key → sProp 𝕄
  | (e, .inl (u, p)) => slotAny (recvM u) e p
  | (e, .inr k) => rowAny e (src k e)

instance slotAny_storable (m) (c : Dev nD) (p) : BI.Storable (upEmb : UEmb _ 𝕄) (slotAny (F := F) m c p) := by unfold slotAny; infer_instance
instance slotHas_storable (m) (c : Dev nD) (p) (v) : BI.Storable (upEmb : UEmb _ 𝕄) (slotHas (F := F) m c p v) := by unfold slotHas; infer_instance
instance rowAny_storable (c i : Dev nD) : BI.Storable (upEmb : UEmb _ 𝕄) (rowAny (F := F) c i) := by unfold rowAny; infer_instance
instance Sl_storable (k : Key) : BI.Storable (upEmb : UEmb _ 𝕄) (Sl (F := F) k) := by
  rcases k with ⟨e, ⟨u, p⟩ | k⟩ <;> unfold Sl <;> infer_instance

/-! ## What a payment says -/

/-- Message `s` of unit `u` may be sent into `e`. -/
def canSend (u : Fin 4) (e : Dev nD) (s : ℕ) : sProp 𝕄 :=
  iprop(Release.released EL ((e, .inl (u, par s)) : Key) (s / 2 + 1) ∗ reached ER (kcell e (kRcv u (par s))) (s / 2))
/-- All of `e`'s rows for others are open. -/
def relA (e : Dev nD) : sProp 𝕄 := bigSep Finset.univ fun k : Fin 15 => Release.released EL ((e, .inr k) : Key) 1
/-- So are those of the `s + 1` devices up from `c`. -/
def relUp (u : Fin 4) : ℕ → Dev nD → sProp 𝕄
  | 0, c => relA c
  | s + 1, c => iprop(relA c ∗ relUp u s (up u c))
/-- Messages up to `k` have been read by `e`. -/
def crdPay (u : Fin 4) (e : Dev nD) (k : ℕ) : sProp 𝕄 := bigSep (Finset.range (k + 1)) fun j => canSend u e (j + 2)
def barPay (c : Dev nD) (d : ℕ) : sProp 𝕄 :=
  if d = 0 then iprop((canSend 2 (prv c) 0 ∗ canSend 2 (prv c) 1) ∗ canSend 3 (prv c) 0 ∗ canSend 3 (prv c) 1)
  else iprop((canSend 0 (nxt c) 0 ∗ canSend 0 (nxt c) 1) ∗ canSend 1 (nxt c) 0 ∗ canSend 1 (nxt c) 1)

instance canSend_persistent (u) (e : Dev nD) (s) : BI.Persistent (canSend (F := F) u e s) := by unfold canSend; infer_instance
instance canSend_storable (u) (e : Dev nD) (s) : BI.Storable (upEmb : UEmb _ 𝕄) (canSend (F := F) u e s) := by unfold canSend; infer_instance
instance relA_persistent (e : Dev nD) : BI.Persistent (relA (F := F) e) := by unfold relA; infer_instance
instance relA_storable (e : Dev nD) : BI.Storable (upEmb : UEmb _ 𝕄) (relA (F := F) e) := by unfold relA; infer_instance
instance relUp_persistent (u) (s) (c : Dev nD) : BI.Persistent (relUp (F := F) u s c) := by
  induction s generalizing c with
  | zero => unfold relUp; infer_instance
  | succ s ih => unfold relUp; have := ih (up u c); infer_instance
instance relUp_storable (u) (s) (c : Dev nD) : BI.Storable (upEmb : UEmb _ 𝕄) (relUp (F := F) u s c) := by
  induction s generalizing c with
  | zero => unfold relUp; infer_instance
  | succ s ih => unfold relUp; have := ih (up u c); infer_instance
instance crdPay_persistent (u) (e : Dev nD) (k) : BI.Persistent (crdPay (F := F) u e k) := by unfold crdPay; infer_instance
instance crdPay_storable (u) (e : Dev nD) (k) : BI.Storable (upEmb : UEmb _ 𝕄) (crdPay (F := F) u e k) := by unfold crdPay; infer_instance
instance barPay_persistent (c : Dev nD) (d) : BI.Persistent (barPay (F := F) c d) := by unfold barPay; split <;> infer_instance
instance barPay_storable (c : Dev nD) (d) : BI.Storable (upEmb : UEmb _ 𝕄) (barPay (F := F) c d) := by unfold barPay; split <;> infer_instance

section Sched

variable (X : Dev nD → (cc0_scratch0 : Ref sig .tc).ty.Contents (Elt F)) (Wt : Dev nD → (cc0_scratch1 : Ref sig .tc).ty.Contents (Elt F))

abbrev aSrcPts (c : Dev nD) (q : PosShare TreeShare) (f : Buf (Elt F) ((aSrc : Memref sig .tc .vmem S1x8x128 .f32).view.loc (c : Thread nD τ))) : sProp 𝕄 :=
  aSrc.view.loc (c : Thread nD τ) ↦[aSrc.view.set]{q} f
/-- The share of the device's largest entry that the `k`-th transfer reads. -/
abbrev shr (k : Fin 15) : PosShare TreeShare := Transfers.shareTok fullShare 15 k

/-- What the payment of duty `d` in round `r` of a cell of `c` hands over. -/
def payK (c : Dev nD) (r d : ℕ) : KK → sProp 𝕄
  | none => barPay c d
  | some (.inl (u, p)) => slotAny (accM u) c p
  | some (.inr (.inl (u, p))) => iprop(slotHas (recvM u) c p (accV X Wt u (2 * r + p.val) (up u c)) ∗ relUp u (2 * r + p.val) (up u c))
  | some (.inr (.inr (.inl u))) => crdPay u (dn u c) d
  | some (.inr (.inr (.inr (.inl k)))) => aSrcPts c (shr k) (fun _ => lmax X Wt c)
  | some (.inr (.inr (.inr (.inr i)))) => rowPts c i (amaxB X Wt)
instance payK_storable (c : Dev nD) (r d : ℕ) (k : KK) : BI.Storable (upEmb : UEmb _ 𝕄) (payK X Wt c r d k) := by
  rcases k with _ | ⟨u, p⟩ | ⟨u, p⟩ | u | k | i <;> unfold payK <;> infer_instance

def dutK (c : Dev nD) (r : ℕ) : KK → Finset ℕ
  | none => if r = 0 then {0, 1} else ∅
  | some (.inl (u, p)) => if r + p.val < 8 then {0} else ∅
  | some (.inr (.inl (u, p))) => if r + p.val < 8 then {0} else ∅
  | some (.inr (.inr (.inl u))) => if r = 0 then Finset.range 13 else ∅
  | some (.inr (.inr (.inr (.inl k)))) => if r = 0 then {0} else ∅
  | some (.inr (.inr (.inr (.inr i)))) => if r = 0 ∧ i ≠ c then {0} else ∅

def amtK : KK → ℕ
  | none => 1
  | some (.inl _) => NS
  | some (.inr (.inl _)) => NS
  | some (.inr (.inr (.inl _))) => 1
  | some (.inr (.inr (.inr (.inl _)))) => NA
  | some (.inr (.inr (.inr (.inr _)))) => NA
theorem amtK_pos (k : KK) : 0 < amtK k := by
  rcases k with _ | ⟨u, p⟩ | ⟨u, p⟩ | u | k | i <;> unfold amtK <;> first | exact Nat.one_pos | exact NS_pos | exact NA_pos

/-- All cells' rounds. -/
def sch : Rounds.Schedule (GSem nD τ sig) ℕ 𝕄 where
  duties g r := if g.1.2 = .tc then (match kindOf g.2 with | none => ∅ | some k => dutK g.1.1 r k) else ∅
  unitless _ := False
  amount g _ _ := match kindOf g.2 with | none => 1 | some k => amtK k
  payload g r d := match kindOf g.2 with | none => iprop(emp) | some k => payK X Wt g.1.1 r d k
  amount_pos g _ _ _ := by
    cases kindOf g.2 with
    | none => exact Nat.one_pos
    | some k => exact amtK_pos k

instance sch_storable (g : GSem nD τ sig) (r : ℕ) (d : ℕ) : BI.Storable (upEmb : UEmb _ 𝕄) ((sch (F := F) X Wt).payload g r d) := by
  show BI.Storable upEmb (match kindOf g.2 with | none => iprop(emp) | some k => payK X Wt g.1.1 r d k)
  cases kindOf g.2 with
  | none => infer_instance
  | some k => exact payK_storable X Wt _ _ _ k

theorem sch_duties (c : Dev nD) (k : KK) (r : ℕ) : (sch (F := F) X Wt).duties (kcell c k) r = dutK c r k := by
  dsimp only [sch]; rw [if_pos rfl, kindOf_sem]
theorem sch_amount (c : Dev nD) (k : KK) (r d : ℕ) : (sch (F := F) X Wt).amount (kcell c k) r d = amtK k := by
  dsimp only [sch]; rw [kindOf_sem]
theorem sch_payload (c : Dev nD) (k : KK) (r d : ℕ) : (sch (F := F) X Wt).payload (kcell c k) r d = payK X Wt c r d k := by
  dsimp only [sch]; rw [kindOf_sem]
theorem sch_expect (c : Dev nD) (k : KK) (r : ℕ) : (sch (F := F) X Wt).expect (kcell c k) r = (dutK c r k).card * amtK k := by
  unfold Schedule.expect Schedule.amountOf
  rw [sch_duties, Finset.sum_congr rfl fun d _ => sch_amount X Wt c k r d, Finset.sum_const, smul_eq_mul]

end Sched

/-! ## What each device owes -/

/-- A device's payments to others: meeting its two neighbours, the messages, the credits, its largest entry. -/
abbrev TK : Type := Fin 2 ⊕ (Fin 4 × Fin 15) ⊕ (Fin 4 × Fin 13) ⊕ Fin 15
instance instDecTK : DecidableEq TK := inferInstance
abbrev tBar (b : Fin 2) : TK := .inl b
abbrev tMsg (u : Fin 4) (j : Fin 15) : TK := .inr (.inl (u, j))
abbrev tCrd (u : Fin 4) (k : Fin 13) : TK := .inr (.inr (.inl (u, k)))
abbrev tAmx (k : Fin 15) : TK := .inr (.inr (.inr k))

def tgt (c : Dev nD) : TK → Dev nD
  | .inl b => if b = 0 then nxt c else prv c
  | .inr (.inl (u, _)) => dn u c
  | .inr (.inr (.inl (u, _))) => up u c
  | .inr (.inr (.inr k)) => shift k c
/-- Who pays `c` so. -/
def payer (c : Dev nD) : TK → Dev nD
  | .inl b => if b = 0 then prv c else nxt c
  | .inr (.inl (u, _)) => up u c
  | .inr (.inr (.inl (u, _))) => dn u c
  | .inr (.inr (.inr k)) => src k c
def kind (c : Dev nD) : TK → KK
  | .inl _ => kBar
  | .inr (.inl (u, j)) => kRcv u (par j)
  | .inr (.inr (.inl (u, _))) => kCrd u
  | .inr (.inr (.inr _)) => kArc c
def rnd : TK → ℕ
  | .inl _ => 0
  | .inr (.inl (_, j)) => j.val / 2
  | .inr (.inr (.inl _)) => 0
  | .inr (.inr (.inr _)) => 0
def dut : TK → ℕ
  | .inl b => b.val
  | .inr (.inl _) => 0
  | .inr (.inr (.inl (_, k))) => k.val
  | .inr (.inr (.inr _)) => 0
def ix : TK → ℕ
  | .inl _ => 1
  | .inr (.inl (_, j)) => 2 * j.val + 2
  | .inr (.inr (.inl (_, k))) => 2 * k.val + 3
  | .inr (.inr (.inr _)) => 100

theorem tgt_payer (c : Dev nD) (x : TK) : tgt (payer c x) x = c := by
  rcases x with b | ⟨u, j⟩ | ⟨u, k⟩ | k <;> unfold tgt payer <;> dsimp only
  · split <;> [exact nxt_prv c; exact prv_nxt c]
  · exact dn_up u c
  · exact up_dn u c
  · exact shift_src k c
theorem payer_tgt (c : Dev nD) (x : TK) : payer (tgt c x) x = c := by
  rcases x with b | ⟨u, j⟩ | ⟨u, k⟩ | k <;> unfold tgt payer <;> dsimp only
  · split <;> [exact prv_nxt c; exact nxt_prv c]
  · exact up_dn u c
  · exact dn_up u c
  · exact src_shift k c

/-- One payment, as owed by `c`. -/
def tal (c : Dev nD) (x : TK) : CellTallies nD τ sig ℕ := tallyAt (kcell (tgt c x) (kind c x)) (ix x) (amtK (kind c x))
/-- The same, as awaited by `c`. -/
def cre (c : Dev nD) (x : TK) : CellTallies nD τ sig ℕ := tallyAt (kcell c (kind (payer c x) x)) (ix x) (amtK (kind (payer c x) x))

/-- Payments still to make. -/
def owedL (c : Dev nD) (l : List TK) : CellTallies nD τ sig ℕ := (l.map (tal c)).sum
theorem owedL_cons (c : Dev nD) (x : TK) (l : List TK) : owedL c (x :: l) = owedL c l + tal c x := by
  unfold owedL; rw [List.map_cons, List.sum_cons, add_comm]
theorem owedL_nil (c : Dev nD) : owedL c [] = 0 := rfl

/-- The order of payment. -/
def amxL : List TK := (List.finRange 15).map tAmx
def lateL : List TK := tMsg 0 14 :: tMsg 2 14 :: tMsg 1 14 :: tMsg 3 14 :: amxL
def stepL (k : Fin 13) (j : Fin 15) (l : List TK) : List TK :=
  tCrd 0 k :: tMsg 0 j :: tCrd 2 k :: tMsg 2 j :: tCrd 1 k :: tMsg 1 j :: tCrd 3 k :: tMsg 3 j :: l
def midL : (n : ℕ) → n < 13 → List TK
  | 0, _ => lateL
  | n + 1, h => stepL ⟨12 - n, by omega⟩ ⟨13 - n, by omega⟩ (midL n (by omega))
def ringL : List TK := stepL 0 1 (midL 12 (by decide))
def proL : List TK := tMsg 0 0 :: tMsg 1 0 :: tMsg 2 0 :: tMsg 3 0 :: ringL
def allL : List TK := tBar 1 :: tBar 0 :: proL

theorem allL_nodup : allL.Nodup := by decide +kernel
theorem allL_toFinset : allL.toFinset = (Finset.univ : Finset TK) := by decide +kernel

def O₀ (c : Dev nD) : CellTallies nD τ sig ℕ := owedL c allL

/-! ### Levels -/

def L (g : GSem nD τ sig) : Finset ℕ := if g.1.2 = .tc then Finset.range 128 else ∅
def lv (_ : GSem nD τ sig) (i : ℕ) : ℕ := i
theorem L_of_ne (g : GSem nD τ sig) (h : g.1.2 ≠ .tc) : L g = ∅ := if_neg h
theorem ix_lt (x : TK) : ix x < 128 := by
  rcases x with b | ⟨u, j⟩ | ⟨u, k⟩ | k <;> unfold ix <;> dsimp only <;> first | decide | omega
theorem ix_pos (x : TK) : 0 < ix x := by
  rcases x with b | ⟨u, j⟩ | ⟨u, k⟩ | k <;> unfold ix <;> dsimp only <;> first | decide | omega

theorem owedL_pos {c : Dev nD} {l : List TK} {g : GSem nD τ sig} {i : ℕ} (h : 0 < owedL c l g i) :
    g.1.2 = .tc ∧ ∃ x ∈ l, i = ix x := by
  induction l with
  | nil => exact absurd h (by rw [owedL_nil]; exact Nat.lt_irrefl 0)
  | cons x l ih =>
    rw [owedL_cons, Pi.add_apply, Finsupp.add_apply] at h
    by_cases h1 : 0 < owedL c l g i
    · obtain ⟨h2, y, hy, hi⟩ := ih h1; exact ⟨h2, y, List.mem_cons_of_mem _ hy, hi⟩
    · have h2 : 0 < tal c x g i := by omega
      unfold tal at h2; rw [tallyAt_apply] at h2
      by_cases h3 : g = kcell (tgt c x) (kind c x) ∧ i = ix x
      · exact ⟨by rw [h3.1], x, List.mem_cons_self, h3.2⟩
      · rw [if_neg h3] at h2; exact absurd h2 (Nat.lt_irrefl 0)

/-- Waiting at index `i` is allowed while everything owed is at greater indices. -/
theorem mayWait (c : Dev nD) (sm : SemLoc sig) (i : ℕ) (l : List TK) (hi : i < 128) (h : ∀ x ∈ l, i < ix x) :
    (levAts L lv : sProp 𝕄) ⊢ MayWait (c : Thread nD τ) sm i (owedL c l) :=
  Pipeline.mayWait_of_levAts (by unfold L; rw [if_pos rfl]; exact Finset.mem_range.mpr hi) fun g j hj => by
    obtain ⟨hg, x, hx, rfl⟩ := owedL_pos hj
    refine ⟨by unfold L; rw [if_pos hg]; exact Finset.mem_range.mpr (ix_lt x), ?_⟩
    unfold lv; exact h x hx

abbrev 𝒱₀ : Variants := Variants.none

/-- A device's outstanding payments, at whatever waits it has made. -/
def Owe (c : Dev nD) (l : List TK) : sProp 𝕄 := iprop(∃ W, owes (c : Thread nD τ) (owedL c l) W)

end Cert.KernelIdeal.Own

end
-- ==== Proof.Steps.lean ====
module

public import proofs.«01_k».proof.Proof.Protocol
public import Idealize.ShloMosaic.Lib.Pipeline.Value

/-! # The single steps

One rule for each kind of operation: what the device holds before it and what it holds after. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

/-- A program of device `c`'s core, run to the end. -/
abbrev WP (c : Dev nD) (k : PG F) (Q : PUnit → sProp 𝕄) : sProp 𝕄 :=
  wp frame (wpE (defs₀ (F := F)) 𝒱₀ (c : Thread nD τ) none) Set.univ k Q

variable (X : Dev nD → (cc0_scratch0 : Ref sig .tc).ty.Contents (Elt F)) (Wt : Dev nD → (cc0_scratch1 : Ref sig .tc).ty.Contents (Elt F))
variable (Kn : Dev nD × KK → ℕ) (ιn : Key → ℕ)

/-- What everyone knows: every cell and every place under its name, every cell's first round, the levels. -/
def Ctx : sProp 𝕄 :=
  iprop((bigSep Finset.univ fun ck : Dev nD × KK => cellInv ER (sch X Wt) (Kn ck) (kcell ck.1 ck.2))
    ∗ (bigSep Finset.univ fun ck : Dev nD × KK => reached ER (kcell ck.1 ck.2) 0)
    ∗ (bigSep Finset.univ fun k : Key => Release.slotInv EL (ιn k) k (Sl k)) ∗ levAts L lv)
instance Ctx_persistent : BI.Persistent (Ctx X Wt Kn ιn) := by unfold Ctx; infer_instance

theorem ctx_cell (c : Dev nD) (k : KK) : Ctx X Wt Kn ιn ⊢ cellInv ER (sch X Wt) (Kn (c, k)) (kcell c k) := by
  have h : (bigSep Finset.univ fun ck : Dev nD × KK => cellInv ER (sch X Wt) (Kn ck) (kcell ck.1 ck.2)) ⊢ cellInv ER (sch X Wt) (Kn (c, k)) (kcell c k) :=
    bigSep_elim (Finset.mem_univ (c, k))
  unfold Ctx; iintro ⟨H, -⟩; iapply h; iexact H
theorem ctx_reached (c : Dev nD) (k : KK) : Ctx X Wt Kn ιn ⊢ reached ER (kcell c k) 0 := by
  have h : (bigSep Finset.univ fun ck : Dev nD × KK => (reached ER (kcell ck.1 ck.2) 0 : sProp 𝕄)) ⊢ reached ER (kcell c k) 0 :=
    bigSep_elim (Finset.mem_univ (c, k))
  unfold Ctx; iintro ⟨-, H, -⟩; iapply h; iexact H
theorem ctx_slot (k : Key) : Ctx X Wt Kn ιn ⊢ Release.slotInv EL (ιn k) k (Sl k) := by
  have h : (bigSep Finset.univ fun k : Key => Release.slotInv EL (ιn k) k (Sl (F := F) k)) ⊢ Release.slotInv EL (ιn k) k (Sl k) :=
    bigSep_elim (Finset.mem_univ k)
  unfold Ctx; iintro ⟨-, -, H, -⟩; iapply h; iexact H
theorem ctx_lev : Ctx X Wt Kn ιn ⊢ levAts L lv := by unfold Ctx; iintro ⟨-, -, -, H⟩; iexact H
theorem ctx_wait (c : Dev nD) (sm : SemLoc sig) (i : ℕ) (l : List TK) (hi : i < 128) (h : ∀ x ∈ l, i < ix x) :
    Ctx X Wt Kn ιn ⊢ MayWait (c : Thread nD τ) sm i (owedL c l) := by
  unfold Ctx
  iintro ⟨-, -, -, H⟩
  iapply (mayWait (F := F) c sm i l hi h)
  iexact H

/-! ## What a unit holds -/

def sndReady (u : Fin 4) (c : Dev nD) (s : ℕ) : sProp 𝕄 :=
  iprop(atPos ER (kcell c (kSnd u (par s))) (s / 2) ∅ 0 ∗ reached ER (kcell c (kSnd u (par s))) (s / 2))
def rcvReady (u : Fin 4) (c : Dev nD) (s : ℕ) : sProp 𝕄 :=
  iprop(atPos ER (kcell c (kRcv u (par s))) (s / 2) ∅ 0 ∗ reached ER (kcell c (kRcv u (par s))) (s / 2))
/-- Message `s` is under way. -/
def inFlight (u : Fin 4) (c : Dev nD) (s : ℕ) : sProp 𝕄 :=
  iprop(atPos ER (kcell c (kSnd u (par s))) (s / 2) ∅ 0 ∗ cred (tallyAt (kcell c (kSnd u (par s))) 0 NS))
def rdr (u : Fin 4) (c : Dev nD) (s : ℕ) : sProp 𝕄 := Release.readerAt EL ((c, .inl (u, par s)) : Key) (s / 2 + 1)
/-- The right to send message `s`; -/
def tokM (u : Fin 4) (c : Dev nD) (s : ℕ) : sProp 𝕄 :=
  iprop(dutyTok ER (kcell c (kSnd u (par s))) (s / 2) 0 ∗ dutyTok ER (kcell (dn u c) (kRcv u (par s))) (s / 2) 0
    ∗ Release.writeTok EL ((dn u c, .inl (u, par s)) : Key) (s / 2 + 1))
/-- to receive it; -/
def tokR (u : Fin 4) (c : Dev nD) (s : ℕ) : sProp 𝕄 := cred (tallyAt (kcell c (kRcv u (par s))) (2 * s + 2) NS)
/-- to say that it was read; -/
def tokC (u : Fin 4) (c : Dev nD) (k : ℕ) : sProp 𝕄 := dutyTok ER (kcell (up u c) (kCrd u)) 0 k
/-- and to hear it. -/
def tokW (u : Fin 4) (c : Dev nD) (k : ℕ) : sProp 𝕄 := cred (tallyAt (kcell c (kCrd u)) (2 * k + 3) 1)
/-- `m` credits heard. -/
def crdSt (u : Fin 4) (c : Dev nD) (m : ℕ) : sProp 𝕄 :=
  iprop(∃ T, atPos ER (kcell c (kCrd u)) 0 T m ∗ bigSep T fun k => crdPay u (dn u c) k)
def crdDone (u : Fin 4) (c : Dev nD) : sProp 𝕄 := atPos ER (kcell c (kCrd u)) 1 ∅ 0

theorem par_add (s : ℕ) : par (s + 2) = par s := Fin.ext (Nat.add_mod_right s 2)
theorem half_add (s : ℕ) : (s + 2) / 2 = s / 2 + 1 := Nat.add_div_right s (by decide)
theorem par_le (s : ℕ) (h : s < 15) : s / 2 + (par s).val < 8 := by show s / 2 + s % 2 < 8; omega
theorem two_half (s : ℕ) : 2 * (s / 2) + (par s).val = s := by show 2 * (s / 2) + s % 2 = s; omega

theorem dutK_snd (c : Dev nD) (u) (s : ℕ) (h : s < 15) : dutK c (s / 2) (kSnd u (par s)) = {0} := if_pos (par_le s h)
theorem dutK_rcv (c : Dev nD) (u) (s : ℕ) (h : s < 15) : dutK c (s / 2) (kRcv u (par s)) = {0} := if_pos (par_le s h)
theorem dutK_crd (c : Dev nD) (u) : dutK c 0 (kCrd u) = Finset.range 13 := by unfold dutK; exact if_pos rfl

theorem expect_one (c : Dev nD) (k : KK) (r : ℕ) (h : dutK c r k = {0}) : (sch X Wt).expect (kcell c k) r = amtK k := by
  rw [sch_expect, h, Finset.card_singleton, one_mul]
theorem rest_one (c : Dev nD) (k : KK) (r : ℕ) (h : dutK c r k = {0}) :
    bigSep ((sch X Wt).duties (kcell c k) r \ ∅) (fun d => (sch X Wt).payload (kcell c k) r d) = payK X Wt c r 0 k := by
  rw [Finset.sdiff_empty, sch_duties, h, bigSep_singleton, sch_payload]

/-! ## Waits -/

/-- A wait for the only payment of a round. -/
theorem wp_wait_one (c : Dev nD) (k : KK) (r i : ℕ) (l : List TK) (hd : dutK c r k = {0}) (hi : i < 128) (hl : ∀ x ∈ l, i < ix x)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (semO k) (amtK k) K)
    (q : PG F) (Q : PUnit → sProp 𝕄) :
    iprop(Ctx X Wt Kn ιn ∗ atPos ER (kcell c k) r ∅ 0 ∗ cred (tallyAt (kcell c k) i (amtK k)) ∗ Owe c l)
      ⊢ iprop(((payK X Wt c r 0 k ∗ atPos ER (kcell c k) (r + 1) ∅ 0 ∗ reached ER (kcell c k) (r + 1) ∗ Owe c l) -∗ WP c q Q)
        -∗ WP c (.op w fun _ => q) Q) := by
  unfold Owe
  iintro ⟨#HC, Hat, Hcr, ⟨%W, Ho⟩⟩ Hk
  iapply (Rounds.wp_wait_rest_token 𝒱₀ ER (sch X Wt) (c : Thread nD τ) none (κ := Kn (c, k)) hw (Set.mem_univ _) i
    (O := owedL c l) (W := W) (R := r) (m := 0) (T := ∅) (by rw [Nat.zero_add, expect_one X Wt c k r hd])) $$ [Hat Hcr Ho]
  · isplitr; · iapply (ctx_cell X Wt Kn ιn c k); iexact HC
    isplitl [Hcr]; · iexact Hcr
    isplitl [Ho]; · iexact Ho
    isplitr; · iapply (ctx_wait X Wt Kn ιn c (semO k) i l hi hl); iexact HC
    iexact Hat
  iintro ⟨Ho, Hat, Hr, Hp⟩
  iapply Hk
  isplitl [Hp]; · iapply (Entails.of_eq (rest_one X Wt c k r hd)); iexact Hp
  isplitl [Hat]; · iexact Hat
  isplitl [Hr]; · iexact Hr
  iexists _; iexact Ho

theorem wp_waitSend (c : Dev nD) (u : Fin 4) (s : ℕ) (hs : s < 15) (p : Fin 2) (hp : p = par s) (l : List TK) (q : PG F) (Q : PUnit → sProp 𝕄) :
    iprop(Ctx X Wt Kn ιn ∗ inFlight u c s ∗ Owe c l)
      ⊢ iprop(((slotAny (accM u) c p ∗ sndReady u c (s + 2) ∗ Owe c l) -∗ WP c q Q) -∗ WP c (waitSend u p q) Q) := by
  subst hp
  unfold inFlight sndReady waitSend
  rw [par_add, half_add]
  iintro ⟨#HC, ⟨Hat, Hcr⟩, Ho⟩ Hk
  iapply (wp_wait_one X Wt Kn ιn c (kSnd u (par s)) (s / 2) 0 l (dutK_snd c u s hs) (by decide) (fun x _ => ix_pos x)
    (fun K => (wpE_waitDma2_eq 𝒱₀ (c : Thread nD τ) none Set.univ K).trans (by rw [credit_acc]; rfl)) q Q) $$ [Hat Hcr Ho]
  · isplitr; · iexact HC
    isplitl [Hat]; · iexact Hat
    isplitl [Hcr]; · iexact Hcr
    iexact Ho
  iintro ⟨Hp, Hat, Hr, Ho⟩
  iapply Hk
  isplitl [Hp]
  · iapply (Entails.of_eq (show payK X Wt c (s / 2) 0 (kSnd u (par s)) = slotAny (accM u) c (par s) by unfold payK; rfl)); iexact Hp
  isplitr [Ho]
  · isplitl [Hat]; · iexact Hat
    iexact Hr
  iexact Ho

theorem wp_waitRecv (c : Dev nD) (u : Fin 4) (s : ℕ) (hs : s < 15) (p : Fin 2) (hp : p = par s) (l : List TK) (hl : ∀ x ∈ l, 2 * s + 2 < ix x)
    (q : PG F) (Q : PUnit → sProp 𝕄) :
    iprop(Ctx X Wt Kn ιn ∗ (rcvReady u c s ∗ tokR u c s) ∗ Owe c l)
      ⊢ iprop((((slotHas (recvM u) c p (accV X Wt u s (up u c)) ∗ relUp u s (up u c)) ∗ rcvReady u c (s + 2) ∗ Owe c l) -∗ WP c q Q)
        -∗ WP c (waitRecv u p q) Q) := by
  subst hp
  unfold rcvReady tokR waitRecv
  rw [par_add, half_add]
  iintro ⟨#HC, ⟨⟨Hat, -⟩, Hcr⟩, Ho⟩ Hk
  iapply (wp_wait_one X Wt Kn ιn c (kRcv u (par s)) (s / 2) (2 * s + 2) l (dutK_rcv c u s hs) (by omega) hl
    (fun K => (wpE_waitDma2_eq 𝒱₀ (c : Thread nD τ) none Set.univ K).trans (by rw [credit_recv]; rfl)) q Q) $$ [Hat Hcr Ho]
  · isplitr; · iexact HC
    isplitl [Hat]; · iexact Hat
    isplitl [Hcr]; · iexact Hcr
    iexact Ho
  iintro ⟨Hp, Hat, Hr, Ho⟩
  iapply Hk
  isplitl [Hp]
  · iapply (Entails.of_eq (show payK X Wt c (s / 2) 0 (kRcv u (par s)) = iprop(slotHas (recvM u) c (par s) (accV X Wt u s (up u c)) ∗ relUp u s (up u c)) by
      unfold payK; dsimp only; rw [two_half])); iexact Hp
  isplitr [Ho]
  · isplitl [Hat]; · iexact Hat
    iexact Hr
  iexact Ho

/-! ## Sends -/

theorem wp_sendTo (c n : Dev nD) (u : Fin 4) (hn : n = dn u c) (s : Fin 15) (p : Fin 2) (hp : p = par s.val)
    {hsc : (slotOf (recvM u) p).view.ref.isScScratch = false} {hsrc : (slotOf (accM u) p).view.WordExact} {hdst : (slotOf (recvM u) p).view.WordExact}
    {hsem : DmaTarget.Typed .vmem (.dma (semOf (rsem u) p).sem) (.remote (Dev.tc n : Thread nD τ) (slotOf (recvM u) p) (.dma (semOf (ssem u) p).sem) hsc)}
    (l : List TK) (q : PG F) (Q : PUnit → sProp 𝕄) :
    iprop(Ctx X Wt Kn ιn ∗ slotHas (accM u) c p (accV X Wt u s.val c) ∗ relUp u s.val c ∗ sndReady u c s.val ∗ tokM u c s.val ∗ canSend u (dn u c) s.val
        ∗ Owe c (tMsg u s :: l))
      ⊢ iprop(((inFlight u c s.val ∗ Owe c l) -∗ WP c q Q)
        -∗ WP c (.op (.enqueueDma (slotOf (accM u) p) (.remote (Dev.tc n : Thread nD τ) (slotOf (recvM u) p) (.dma (semOf (ssem u) p).sem) hsc)
            (.dma (semOf (rsem u) p).sem) hsrc hdst hsem) fun _ => q) Q) := by
  subst hn hp
  have hs : s.val < 15 := s.isLt
  unfold slotHas sndReady tokM canSend Owe inFlight
  iintro ⟨#HC, ⟨%fs, %hfs, Hsrc⟩, #HU, ⟨Hat, #Hrs⟩, ⟨Ht1, Ht2, Hw⟩, ⟨#Hrel, #Hrr⟩, ⟨%W, Ho⟩⟩ Hk
  imod (Release.slot_take EL (Set.mem_univ (ιn (dn u c, .inl (u, par s.val)))) (k := ((dn u c, .inl (u, par s.val)) : Key)) (S := Sl (F := F) (dn u c, .inl (u, par s.val))) (s.val / 2 + 1)) $$ [Hw] with Hdst
  · isplitr; · iapply (ctx_slot X Wt Kn ιn (dn u c, .inl (u, par s.val))); iexact HC
    isplitr; · iexact Hrel
    iexact Hw
  unfold Sl slotAny
  icases Hdst with ⟨%fd, Hdst⟩
  iapply (Rounds.wp_send_pointsTo_with 𝒱₀ ER (sch X Wt) (c : Thread nD τ) none (κ₁ := Kn (c, kSnd u (par s.val))) (κ₂ := Kn (dn u c, kRcv u (par s.val)))
    (r₁ := s.val / 2) (r₂ := s.val / 2) (d₁ := 0) (d₂ := 0) (fd := fd) (F := relUp u s.val c)
    (sS := semO (kSnd u (par s.val))) (sem := semO (kRcv u (par s.val)))
    (by rw [sch_duties X Wt c (kSnd u (par s.val)), dutK_snd c u s.val hs]; exact Finset.mem_singleton_self _)
    (by rw [sch_duties X Wt (dn u c) (kRcv u (par s.val)), dutK_rcv _ u s.val hs]; exact Finset.mem_singleton_self _)
    (2 * s.val + 2) 0 NS (credit_recv u (par s.val)) (sch_amount X Wt c (kSnd u (par s.val)) _ _) (sch_amount X Wt (dn u c) (kRcv u (par s.val)) _ _)
    (owedL c l) (owedL_cons c (tMsg u s) l) (W := W)
    (by rw [sch_payload X Wt c (kSnd u (par s.val))]; unfold payK slotAny; iintro H; iexists fs; iexact H)
    (by
      rw [sch_payload X Wt (dn u c) (kRcv u (par s.val))]; unfold payK slotHas; dsimp only
      rw [two_half, up_dn]
      iintro ⟨H, HU⟩
      isplitl [H]
      · iexists ((slotOf (recvM u) (par s.val)).view.write (Elt F) fd ((slotOf (accM u) (par s.val)).view.read (Elt F) fs) Finset.univ)
        isplitr; · ipureintro; exact (View.read_write_univ _ _).trans hfs
        iexact H
      iexact HU)) $$ [Hsrc Hdst Ho Ht1 Ht2]
  · isplitr; · iapply (ctx_cell X Wt Kn ιn c (kSnd u (par s.val))); iexact HC
    isplitr; · iapply (ctx_cell X Wt Kn ιn (dn u c) (kRcv u (par s.val))); iexact HC
    isplitl [Hsrc]; · iexact Hsrc
    isplitl [Hdst]
    · isplitl [Hdst]; · iexact Hdst
      iexact HU
    isplitl [Ho]; · iexact Ho
    isplitl [Ht1]; · iexact Ht1
    isplitr; · iexact Hrs
    isplitl [Ht2]; · iexact Ht2
    iexact Hrr
  iintro ⟨Hcr, Ho⟩
  iapply Hk
  isplitl [Hat Hcr]
  · isplitl [Hat]; · iexact Hat
    iexact Hcr
  iexists W; iexact Ho

theorem wp_send (c : Dev nD) (u : Fin 4) (s : Fin 15) (p : Fin 2) (hp : p = par s.val) (l : List TK) (q : PG F) (Q : PUnit → sProp 𝕄) :
    iprop(Ctx X Wt Kn ιn ∗ slotHas (accM u) c p (accV X Wt u s.val c) ∗ relUp u s.val c ∗ sndReady u c s.val ∗ tokM u c s.val ∗ canSend u (dn u c) s.val
        ∗ Owe c (tMsg u s :: l))
      ⊢ iprop(((inFlight u c s.val ∗ Owe c l) -∗ WP c q Q) -∗ WP c (send c u p q) Q) :=
  wp_sendTo X Wt Kn ιn c (devMsg c u) u (devMsg_eq c u) s p hp l q Q

/-! ## Credits -/

abbrev ccell (e : Dev nD) (u : Fin 4) : GSem nD τ sig := ((e.tc : Thread nD τ), .reg (csem u).sem)
theorem crd_duties (e : Dev nD) (u : Fin 4) : (sch X Wt).duties (ccell e u) 0 = Finset.range 13 :=
  (sch_duties X Wt e (kCrd u) 0).trans (dutK_crd e u)
theorem crd_expect (e : Dev nD) (u : Fin 4) : (sch X Wt).expect (ccell e u) 0 = 13 :=
  (sch_expect X Wt e (kCrd u) 0).trans (by rw [dutK_crd]; rfl)
theorem crd_amount (e : Dev nD) (u : Fin 4) (d : ℕ) : (sch X Wt).amount (ccell e u) 0 d = 1 := sch_amount X Wt e (kCrd u) 0 d
theorem crd_payload (e : Dev nD) (u : Fin 4) (d : ℕ) : (sch X Wt).payload (ccell e u) 0 d = crdPay u (dn u e) d :=
  (sch_payload X Wt e (kCrd u) 0 d).trans (by unfold payK; rfl)

theorem wp_creditTo (c n : Dev nD) (u : Fin 4) (hn : n = up u c) (k : Fin 13) (l : List TK) (q : PG F) (Q : PUnit → sProp 𝕄) :
    iprop(Ctx X Wt Kn ιn ∗ tokC u c k.val ∗ crdPay u c k.val ∗ Owe c (tCrd u k :: l))
      ⊢ iprop((Owe c l -∗ WP c q Q) -∗ WP c ((semSignalWord n (csem u).sem 1#32).bind fun _ => q) Q) := by
  subst hn
  simp only [semSignalWord, Prog.bind_op, Prog.bind_ret]
  unfold Owe tokC
  iintro ⟨#HC, Ht, #Hp, ⟨%W, Ho⟩⟩ Hk
  iapply (Rounds.wp_signal 𝒱₀ ER (sch X Wt) (c : Thread nD τ) none (dst := (up u c : Thread nD τ)) (κ := Kn (up u c, kCrd u)) (r := 0) (d := k.val)
      (by rw [crd_duties]; exact Finset.mem_range.mpr k.isLt)
      ((crd_amount X Wt (up u c) u _).trans (show (1 : ℕ) = (1#32).toNat from rfl)) (2 * k.val + 3) (owedL c l) (owedL_cons c (tCrd u k) l)) $$ [Ht Ho]
  · isplitr; · iapply (ctx_cell X Wt Kn ιn (up u c) (kCrd u)); iexact HC
    isplitl [Ho]; · iexact Ho
    isplitl [Ht]; · iexact Ht
    isplitr
    · iapply (Entails.of_eq (show crdPay u c k.val = (sch X Wt).payload (ccell (up u c) u) 0 k.val by
        rw [crd_payload, dn_up])); iexact Hp
    iapply (ctx_reached X Wt Kn ιn (up u c) (kCrd u)); iexact HC
  iintro Ho
  iapply Hk
  iexists W; iexact Ho

theorem wp_credit (c : Dev nD) (u : Fin 4) (k : Fin 13) (l : List TK) (q : PG F) (Q : PUnit → sProp 𝕄) :
    iprop(Ctx X Wt Kn ιn ∗ tokC u c k.val ∗ crdPay u c k.val ∗ Owe c (tCrd u k :: l))
      ⊢ iprop((Owe c l -∗ WP c q Q) -∗ WP c (credit c u q) Q) :=
  wp_creditTo X Wt Kn ιn c (devCrd c u) u (devCrd_eq c u) k l q Q

theorem crdPay_at (u : Fin 4) (e : Dev nD) {k m : ℕ} (h : m ≤ k) : crdPay (F := F) u e k ⊢ canSend u e (m + 2) := by
  unfold crdPay
  exact bigSep_elim (Φ := fun j => canSend (F := F) u e (j + 2)) (Finset.mem_range.mpr (by omega))

theorem crd_take (S : Finset ℕ) (u : Fin 4) (e : Dev nD) {k m : ℕ} (hk : k ∈ S) (h : m ≤ k) :
    (bigSep S fun d => crdPay (F := F) u e d) ⊢ canSend u e (m + 2) :=
  (bigSep_elim (Φ := fun d => crdPay (F := F) u e d) hk).trans (crdPay_at u e h)

theorem exists_ge {S : Finset ℕ} {m : ℕ} (h : m < S.card) : ∃ k ∈ S, m ≤ k := by
  by_contra hn
  have : S ⊆ Finset.range m := fun x hx => Finset.mem_range.mpr (by by_contra h'; exact hn ⟨x, hx, by omega⟩)
  have := Finset.card_le_card this
  rw [Finset.card_range] at this; omega

theorem bigSep_diff {T S : Finset ℕ} (h : T ⊆ S) (Φ : ℕ → sProp 𝕄) : iprop(bigSep T Φ ∗ bigSep (S \ T) Φ) ⊢ bigSep S Φ :=
  Entails.of_eq (BI.bigSep_sdiff_split h).symm

theorem crd_payloads (c : Dev nD) (u : Fin 4) (S : Finset ℕ) :
    bigSep S (fun d => (sch X Wt).payload (ccell c u) 0 d) = bigSep S fun d => crdPay u (dn u c) d :=
  bigSep_congr fun d _ => crd_payload X Wt c u d

theorem wp_waitCredit (c : Dev nD) (u : Fin 4) (m : ℕ) (hm : m < 13) (l : List TK) (hl : ∀ x ∈ l, 2 * m + 3 < ix x) (q : PG F) (Q : PUnit → sProp 𝕄) :
    iprop(Ctx X Wt Kn ιn ∗ crdSt u c m ∗ tokW u c m ∗ Owe c l)
      ⊢ iprop(((crdSt u c (m + 1) ∗ canSend u (dn u c) (m + 2) ∗ Owe c l) -∗ WP c q Q) -∗ WP c (waitCredit u q) Q) := by
  simp only [waitCredit, semWaitWord, Prog.bind_op, Prog.bind_ret]
  unfold Owe tokW
  conv_lhs => unfold crdSt
  iintro ⟨#HC, ⟨%T, Hat, HT⟩, Hcr, ⟨%W, Ho⟩⟩ Hk
  iapply (Rounds.wp_wait 𝒱₀ ER (sch X Wt) (c : Thread nD τ) none (κ := Kn (c, kCrd u)) (wpE_semWait_eq 𝒱₀ (c : Thread nD τ) none Set.univ) (Set.mem_univ _)
    (cr := Finsupp.single (2 * m + 3) 1) (O := owedL c l) (W := W) {(semO (kCrd u), 2 * m + 3)} (R := 0) (m := m) (T := T)
    (by rw [Util.total_single]; decide) (image_single_subset (semO (kCrd u)) (2 * m + 3) 1)) $$ [Hat Hcr Ho]
  · isplitr; · iapply (ctx_cell X Wt Kn ιn c (kCrd u)); iexact HC
    isplitl [Hcr]; · iexact Hcr
    isplitl [Ho]; · iexact Ho
    isplitr; · iapply (ctx_wait X Wt Kn ιn c (semO (kCrd u)) (2 * m + 3) l (by omega) hl); iexact HC
    iexact Hat
  iintro %S ⟨%hS, Ho, Hat, Hp⟩
  obtain ⟨hTS, hSd, hc⟩ := hS
  rw [crd_duties] at hSd
  rw [crd_duties, crd_expect, Finset.card_sdiff_of_subset hSd, Finset.card_range] at hc
  have hc' : m < S.card := by
    have h1 : S.card ≤ 13 := (Finset.card_le_card hSd).trans (by rw [Finset.card_range])
    have h2 : m + 1 + (13 - S.card) ≤ 13 := hc
    omega
  obtain ⟨k, hkS, hmk⟩ := exists_ge hc'
  ihave Hp' := (Entails.of_eq (crd_payloads X Wt c u (S \ T))) $$ Hp
  ihave #HA := (bigSep_diff hTS (fun d => crdPay (F := F) u (dn u c) d)) $$ [HT Hp']
  · isplitl [HT] <;> iassumption
  iapply Hk
  isplitl [Hat]
  · unfold crdSt; iexists S
    isplitl [Hat]; · iexact Hat
    iexact HA
  isplitr
  · iapply (crd_take S u (dn u c) hkS hmk); iexact HA
  iexists _; iexact Ho

theorem wp_lastCredit (c : Dev nD) (u : Fin 4) (l : List TK) (hl : ∀ x ∈ l, 27 < ix x) (q : PG F) (Q : PUnit → sProp 𝕄) :
    iprop(Ctx X Wt Kn ιn ∗ crdSt u c 12 ∗ tokW u c 12 ∗ Owe c l)
      ⊢ iprop(((crdDone u c ∗ canSend u (dn u c) 14 ∗ Owe c l) -∗ WP c q Q) -∗ WP c (waitCredit u q) Q) := by
  simp only [waitCredit, semWaitWord, Prog.bind_op, Prog.bind_ret]
  unfold Owe tokW crdSt crdDone
  iintro ⟨#HC, ⟨%T, Hat, #HT⟩, Hcr, ⟨%W, Ho⟩⟩ Hk
  iapply (Rounds.wp_wait_rest_token 𝒱₀ ER (sch X Wt) (c : Thread nD τ) none (κ := Kn (c, kCrd u)) (wpE_semWait_eq 𝒱₀ (c : Thread nD τ) none Set.univ) (Set.mem_univ _)
    (2 * 12 + 3) (O := owedL c l) (W := W) (R := 0) (m := 12) (T := T)
    (by rw [crd_expect]; rfl)) $$ [Hat Hcr Ho]
  · isplitr; · iapply (ctx_cell X Wt Kn ιn c (kCrd u)); iexact HC
    isplitl [Hcr]; · iexact Hcr
    isplitl [Ho]; · iexact Ho
    isplitr; · iapply (ctx_wait X Wt Kn ιn c (semO (kCrd u)) (2 * 12 + 3) l (by omega) hl); iexact HC
    iexact Hat
  iintro ⟨Ho, Hat, -, Hp⟩
  ihave #Hp' := (Entails.of_eq (crd_payloads X Wt c u ((sch X Wt).duties (ccell c u) 0 \ T))) $$ Hp
  iapply Hk
  isplitl [Hat]; · iexact Hat
  isplitr
  · by_cases h : 12 ∈ T
    · iapply (crd_take T u (dn u c) h (le_refl 12)); iexact HT
    · have h' : 12 ∈ (sch X Wt).duties (ccell c u) 0 \ T :=
        Finset.mem_sdiff.mpr ⟨by rw [crd_duties]; decide, h⟩
      iapply (crd_take _ u (dn u c) h' (le_refl 12)); iexact Hp'
  iexists _; iexact Ho

/-! ## The buffers -/

theorem slot_set (m : Memref sig .tc .vmem S2x128x4096 .i16) (p : Fin 2) : (slotOf m p).view.set = m.view.setOn (slotR p).toLoadRect.set := by
  show ((m.view.slice (slotR p)).reshape _ _).set = _
  rw [View.set_reshape, View.set_slice]; rfl

theorem fromSlot_read (m : Memref sig .tc .vmem S2x128x4096 .i16) (p : Fin 2) (f : m.view.ty.Contents (Elt F)) :
    fromSlot (F := F) (m.view.readAt (Elt F) (slotR p).toLoadRect f) = (slotOf m p).view.read (Elt F) f := rfl

theorem wp_readRecv (c : Dev nD) (u : Fin 4) (p : Fin 2) (v : IVec S128x4096 16) (k : Vec F S1x128x4096 .i16 → PG F) (Q : PUnit → sProp 𝕄) :
    slotHas (recvM u) c p v
      ⊢ iprop((∀ r, ⌜fromSlot (F := F) r = v⌝ -∗ slotAny (recvM u) c p -∗ WP c (k r) Q) -∗ WP c (readRecv u p k) Q) := by
  unfold slotHas readRecv
  iintro ⟨%f, %hf, H⟩ Hk
  iapply (wp_load 𝒱₀ (c : Thread nD τ) none Set.univ (m := recvM u) (r := (slotR p).toLoadRect) (S := (slotOf (recvM u) p).view.set) (slot_set (recvM u) p).ge) $$ H
  iintro H
  iapply Hk
  · ipureintro; exact (fromSlot_read (recvM u) p f).trans hf
  unfold slotAny; iexists f; iexact H

theorem wp_putAcc (c : Dev nD) (u : Fin 4) (p : Fin 2) (v : IVec S128x4096 16) (k : PG F) (Q : PUnit → sProp 𝕄) :
    slotAny (accM u) c p ⊢ iprop((slotHas (accM u) c p v -∗ WP c k Q) -∗ WP c (putAcc u p (toSlot v) k) Q) := by
  unfold slotAny slotHas putAcc
  iintro ⟨%f, H⟩ Hk
  iapply (wp_load 𝒱₀ (c : Thread nD τ) none Set.univ (m := accM u) (r := (slotR p).toLoadRect) (S := (slotOf (accM u) p).view.set) (slot_set (accM u) p).ge) $$ H
  iintro H
  iapply (wp_store 𝒱₀ (c : Thread nD τ) none Set.univ (m := accM u) (r := slotR p) (w := toSlot v) (Mk := Finset.univ) (S := (slotOf (accM u) p).view.set)
    (by rw [slot_set, View.setOn_univ, View.set_slice]; exact Finset.Subset.refl _)) $$ H
  iintro H
  iapply Hk
  iexists (((accM u).access (slotR p)).write (Elt F) f (toSlot v) Finset.univ)
  isplitr
  · ipureintro
    rw [← fromSlot_read]
    show shapeCast S128x4096 (((accM u).access (slotR p)).read (Elt F) (((accM u).access (slotR p)).write (Elt F) f (toSlot v) Finset.univ)) _ = v
    rw [View.read_write_univ]
    unfold toSlot
    exact shapeCast_shapeCast _ _ _
  iexact H

abbrev xPts (c : Dev nD) (f : (cc0_scratch0 : Ref sig .tc).ty.Contents (Elt F)) : sProp 𝕄 := ((c : Thread nD τ).loc cc0_scratch0) ↦{fullShare} f
abbrev wPts (c : Dev nD) (f : (cc0_scratch1 : Ref sig .tc).ty.Contents (Elt F)) : sProp 𝕄 := ((c : Thread nD τ).loc cc0_scratch1) ↦{fullShare} f
abbrev oPts (c : Dev nD) (f : (cc0_stg2_0 : Ref sig .tc).ty.Contents (Elt F)) : sProp 𝕄 := ((c : Thread nD τ).loc cc0_stg2_0) ↦{fullShare} f

theorem wp_head (c : Dev nD) (u : Fin 4) (s : Fin 15) (k : Vec F S128x256 .bf16 → Vec F S256x4096 .bf16 → PG F) (Q : PUnit → sProp 𝕄) :
    iprop(xPts c (X c) ∗ wPts c (Wt c))
      ⊢ iprop(((xPts c (X c) ∗ wPts c (Wt c)) -∗ WP c (k (xs X u c s.val) (ws Wt u c)) Q) -∗ WP c (stepHead c u s k) Q) := by
  unfold stepHead xs ws
  rw [fin15_val]
  iintro ⟨Hx, Hw⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply Hk
  isplitl [Hx] <;> iassumption

/-- What a quarter's store leaves in the result. -/
def wrOut (u : Fin 4) (f : (cc0_stg2_0 : Ref sig .tc).ty.Contents (Elt F)) (v : Vec F S128x4096 .f32) : (cc0_stg2_0 : Ref sig .tc).ty.Contents (Elt F) :=
  (oM.access (oR u) : View sig .tc _ _ _).write (Elt F) f v Finset.univ

theorem wp_putOut (c : Dev nD) (u : Fin 4) (f) (v : Vec F S128x4096 .f32) (k : PG F) (Q : PUnit → sProp 𝕄) :
    oPts c f ⊢ iprop((oPts c (wrOut u f v) -∗ WP c k Q) -∗ WP c (putOut u v k) Q) := by
  unfold putOut wrOut
  iintro Ho Hk
  iapply (wp_load 𝒱₀ (c : Thread nD τ) none Set.univ (m := oM) (Finset.subset_univ _)) $$ Ho; iintro Ho
  iapply (wp_store 𝒱₀ (c : Thread nD τ) none Set.univ (m := oM) (r := oR u) (Mk := Finset.univ) (Finset.subset_univ _)) $$ Ho; iintro Ho
  iapply Hk; iexact Ho

/-! ## Opening a slot again -/

theorem slot_nonempty (m : Memref sig .tc .vmem S2x128x4096 .i16) (p : Fin 2) : (slotOf m p).view.set.Nonempty :=
  ⟨_, Finset.mem_map.mpr ⟨fun a => ⟨0, by fin_cases a <;> decide⟩, Finset.mem_univ _, rfl⟩⟩
theorem row_nonempty (i : Dev nD) : (rowTo i).view.set.Nonempty :=
  ⟨_, Finset.mem_map.mpr ⟨fun a => ⟨0, by fin_cases a <;> decide⟩, Finset.mem_univ _, rfl⟩⟩

theorem Sl_excl (k : Key) : iprop(Sl (F := F) k ∗ Sl k) ⊢ (False : sProp 𝕄) := by
  rcases k with ⟨e, ⟨u, p⟩ | k⟩
  · exact Release.slot_slot_false (slot_nonempty (recvM u) p)
  · exact Release.slot_slot_false (row_nonempty (src k e))

theorem open_slot (u : Fin 4) (c : Dev nD) (s : ℕ) :
    iprop(Ctx X Wt Kn ιn ∗ rdr u c s ∗ slotAny (recvM u) c (par s) ∗ reached ER (kcell c (kRcv u (par (s + 2)))) ((s + 2) / 2))
      ⊢ (|={Set.univ}=> (rdr u c (s + 2) ∗ canSend u c (s + 2)) : sProp 𝕄) := by
  unfold rdr canSend
  rw [par_add, half_add]
  iintro ⟨#HC, Hr, Hs, #Hrr⟩
  imod (Release.slot_release EL (Set.mem_univ (ιn (c, .inl (u, par s)))) (k := ((c, .inl (u, par s)) : Key)) (Sl_excl (F := F) (c, .inl (u, par s))) (s / 2 + 1)) $$ [Hr Hs] with ⟨Hr, Hrel⟩
  · isplitr; · iapply (ctx_slot X Wt Kn ιn (c, .inl (u, par s))); iexact HC
    isplitl [Hr]; · iexact Hr
    unfold Sl; iexact Hs
  imodintro
  isplitl [Hr]; · iexact Hr
  isplitl [Hrel]; · iexact Hrel
  iexact Hrr

end Cert.KernelIdeal.Own

end
-- ==== Proof.Units.lean ====
module

public import proofs.«01_k».proof.Proof.Steps

/-! # The steps of a unit

What a unit holds between two steps of the ring, and that each step leads from one such state to the next. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (X : Dev nD → (cc0_scratch0 : Ref sig .tc).ty.Contents (Elt F)) (Wt : Dev nD → (cc0_scratch1 : Ref sig .tc).ty.Contents (Elt F))
variable (Kn : Dev nD × KK → ℕ) (ιn : Key → ℕ)

theorem ico_head {a b : ℕ} (h : a < b) (Φ : ℕ → sProp 𝕄) : bigSep (Finset.Ico a b) Φ = iprop(Φ a ∗ bigSep (Finset.Ico (a + 1) b) Φ) := by
  have e : Finset.Ico a b = insert a (Finset.Ico (a + 1) b) := by
    ext x; simp only [Finset.mem_Ico, Finset.mem_insert]; omega
  rw [e, bigSep_insert (by simp)]; rfl
theorem crdPay_succ (u : Fin 4) (c : Dev nD) (k : ℕ) : crdPay (F := F) u c (k + 1) = iprop(canSend u c (k + 3) ∗ crdPay u c k) := by
  unfold crdPay
  rw [Finset.range_add_one (n := k + 1), bigSep_insert Finset.notMem_range_self]; rfl
theorem crdPay_zero (u : Fin 4) (c : Dev nD) : crdPay (F := F) u c 0 = canSend u c 2 := by
  unfold crdPay; rw [Finset.range_one, bigSep_singleton]

theorem rcv_open (u : Fin 4) (c : Dev nD) (s : ℕ) :
    rcvReady (F := F) u c s ⊢ iprop(rcvReady u c s ∗ reached ER (kcell c (kRcv u (par s))) (s / 2)) := by
  unfold rcvReady
  iintro ⟨Ha, #Hr⟩
  isplitl [Ha]
  · isplitl [Ha]; · iexact Ha
    iexact Hr
  iexact Hr
theorem lt_two {n : ℕ} {a b : TK} {l : List TK} (ha : n < ix a) (hb : n < ix b) (hl : ∀ x ∈ l, n < ix x) : ∀ x ∈ a :: b :: l, n < ix x := by
  intro x hx
  rcases List.mem_cons.mp hx with rfl | hx
  · exact ha
  rcases List.mem_cons.mp hx with rfl | hx
  · exact hb
  exact hl x hx

/-- The unit's rights still to be used: from message `i` to send, from message `j` to receive, from credit `k` to give, from credit `m` to hear. -/
def rights (u : Fin 4) (c : Dev nD) (i j k m : ℕ) : sProp 𝕄 :=
  iprop(bigSep (Finset.Ico i 15) (tokM u c) ∗ bigSep (Finset.Ico j 15) (tokR u c) ∗ bigSep (Finset.Ico k 13) (tokC u c) ∗ bigSep (Finset.Ico m 13) (tokW u c))
/-- The unit's places in the rounds of its arrivals, and its slots' reader marks, at messages `s` and `s + 1`. -/
def reads (u : Fin 4) (c : Dev nD) (s : ℕ) : sProp 𝕄 :=
  iprop((rcvReady u c s ∗ rcvReady u c (s + 1)) ∗ rdr u c s ∗ rdr u c (s + 1))

/-- After its first message; -/
def St0 (u : Fin 4) (c : Dev nD) : sProp 𝕄 :=
  iprop((inFlight u c 0 ∗ slotAny (accM u) c 1 ∗ sndReady u c 1) ∗ reads u c 0 ∗ rights u c 1 0 0 0 ∗ crdSt u c 0 ∗ canSend u (dn u c) 1)
/-- after step `t`; -/
def St (u : Fin 4) (c : Dev nD) (t : ℕ) : sProp 𝕄 :=
  iprop((inFlight u c t ∗ inFlight u c (t + 1)) ∗ reads u c (t + 1) ∗ rights u c (t + 2) (t + 1) (t + 1) t ∗ crdSt u c t ∗ crdPay u c t)
/-- after step 13; -/
def SL (u : Fin 4) (c : Dev nD) : sProp 𝕄 :=
  iprop((inFlight u c 13 ∗ inFlight u c 14) ∗ (rcvReady u c 14 ∗ rcvReady u c 15) ∗ slotAny (recvM u) c 1 ∗ tokR u c 14 ∗ crdDone u c)
/-- and after step 14. -/
def SE (u : Fin 4) (c : Dev nD) : sProp 𝕄 :=
  iprop((inFlight u c 14 ∗ slotAny (accM u) c 1 ∗ sndReady u c 15) ∗ (rcvReady u c 15 ∗ rcvReady u c 16) ∗ (slotAny (recvM u) c 0 ∗ slotAny (recvM u) c 1)
    ∗ crdDone u c ∗ relUp u 14 (up u c))

abbrev bufs (c : Dev nD) : sProp 𝕄 := iprop(xPts c (X c) ∗ wPts c (Wt c))

theorem unit_first (c : Dev nD) (u : Fin 4) (l : List TK) (hl : ∀ x ∈ l, 2 < ix x) (q : PG F) (Q : PUnit → sProp 𝕄) :
    iprop(Ctx X Wt Kn ιn ∗ relA c ∗ bufs X Wt c ∗ St0 u c ∗ Owe c (tCrd u 0 :: tMsg u 1 :: l))
      ⊢ iprop(((bufs X Wt c ∗ St u c 0 ∗ Owe c l) -∗ WP c q Q) -∗ WP c (unitFirst c u q) Q) := by
  unfold unitFirst St0 St rights reads sumIn bufs
  rw [ico_head (show 1 < 15 by decide), ico_head (show 0 < 15 by decide), ico_head (show 0 < 13 by decide) (tokC u c)]
  iintro ⟨#HC, #HA, Hb, ⟨⟨Hi0, Ha1, Hs1⟩, ⟨⟨Hr0, Hr1⟩, Hd0, Hd1⟩, ⟨⟨Hm1, HM⟩, ⟨Ht0, HR⟩, ⟨Hc0, HCr⟩, HW⟩, Hcs, #Hcan⟩, Ho⟩ Hk
  iapply (wp_head X Wt c u 0 _ Q) $$ [Hb]; · iexact Hb
  iintro Hb
  iapply (wp_waitRecv X Wt Kn ιn c u 0 (by decide) _ rfl (tCrd u 0 :: tMsg u 1 :: l)
    (lt_two (show 2 < 2 * 0 + 3 by decide) (show 2 < 2 * 1 + 2 by decide) hl) _ Q) $$ [Hr0 Ht0 Ho]
  · isplitr; · iexact HC
    isplitr [Ho]
    · isplitl [Hr0] <;> iassumption
    iexact Ho
  iintro ⟨⟨Hv, #HU⟩, Hr2, Ho⟩
  iapply (wp_readRecv c u (par 0) _ _ Q) $$ Hv
  iintro %r %hr Hv
  rw [hr]
  iapply (wp_putAcc c u _ _ _ Q) $$ Ha1
  iintro Hacc
  ihave Hr2 := (rcv_open u c 2) $$ Hr2
  icases Hr2 with ⟨Hr2, #Hrr⟩
  imod (open_slot X Wt Kn ιn u c 0) $$ [Hd0 Hv] with ⟨Hd2, #Hcan2⟩
  · isplitr; · iexact HC
    isplitl [Hd0]; · iexact Hd0
    isplitl [Hv]; · iexact Hv
    iexact Hrr
  iapply (wp_credit X Wt Kn ιn c u 0 (tMsg u 1 :: l) _ Q) $$ [Hc0 Ho]
  · isplitr; · iexact HC
    isplitl [Hc0]; · iexact Hc0
    isplitr; · iapply (Entails.of_eq (crdPay_zero (F := F) u c).symm); iexact Hcan2
    iexact Ho
  iintro Ho
  iapply (wp_send X Wt Kn ιn c u 1 _ rfl l q Q) $$ [Hacc Hs1 Hm1 Ho]
  · isplitr; · iexact HC
    isplitl [Hacc]; · iexact Hacc
    isplitr
    · iapply (Entails.of_eq (show iprop(relA c ∗ relUp u 0 (up u c)) = relUp (F := F) u 1 c from rfl))
      isplitr; · iexact HA
      iexact HU
    isplitl [Hs1]; · iexact Hs1
    isplitl [Hm1]; · iexact Hm1
    isplitr; · iexact Hcan
    iexact Ho
  iintro ⟨Hi1, Ho⟩
  iapply Hk
  isplitl [Hb]; · iexact Hb
  isplitr [Ho]
  · isplitl [Hi0 Hi1]
    · isplitl [Hi0]; · iexact Hi0
      iexact Hi1
    isplitl [Hr1 Hr2 Hd1 Hd2]
    · isplitl [Hr1 Hr2]
      · isplitl [Hr1]; · iexact Hr1
        iexact Hr2
      isplitl [Hd1]; · iexact Hd1
      iexact Hd2
    isplitl [HM HR HCr HW]
    · isplitl [HM]; · iexact HM
      isplitl [HR]; · iexact HR
      isplitl [HCr]; · iexact HCr
      iexact HW
    isplitl [Hcs]; · iexact Hcs
    iapply (Entails.of_eq (crdPay_zero (F := F) u c).symm); iexact Hcan2
  iexact Ho

theorem unit_mid (c : Dev nD) (u : Fin 4) (t : ℕ) (ht : t < 12) (s : Fin 15) (hs : s.val = t + 1) (k : Fin 13) (hk : k.val = t + 1)
    (j : Fin 15) (hj : j.val = t + 2) (l : List TK) (hl : ∀ x ∈ l, 2 * t + 4 < ix x)
    (q : PG F) (Q : PUnit → sProp 𝕄) :
    iprop(Ctx X Wt Kn ιn ∗ relA c ∗ bufs X Wt c ∗ St u c t ∗ Owe c (tCrd u k :: tMsg u j :: l))
      ⊢ iprop(((bufs X Wt c ∗ St u c (t + 1) ∗ Owe c l) -∗ WP c q Q) -∗ WP c (unitMid c s u q) Q) := by
  unfold unitMid St rights reads sumIn bufs
  rw [ico_head (show t + 2 < 15 by omega), ico_head (show t + 1 < 15 by omega), ico_head (show t + 1 < 13 by omega) (tokC u c),
    ico_head (show t < 13 by omega) (tokW u c), crdPay_succ]
  have hlm : ∀ x ∈ tMsg u j :: l, 2 * t + 3 < ix x := by
    intro x hx
    rcases List.mem_cons.mp hx with rfl | hx
    · show 2 * t + 3 < 2 * j.val + 2; omega
    · have := hl x hx; omega
  have hlc : ∀ x ∈ tCrd u k :: tMsg u j :: l, 2 * (t + 1) + 2 < ix x :=
    lt_two (show 2 * (t + 1) + 2 < 2 * k.val + 3 by omega) (show 2 * (t + 1) + 2 < 2 * j.val + 2 by omega) (fun x hx => by have := hl x hx; omega)
  iintro ⟨#HC, #HA, Hb, ⟨⟨Hi0, Hi1⟩, ⟨⟨Hr0, Hr1⟩, Hd0, Hd1⟩, ⟨⟨Hm1, HM⟩, ⟨Ht0, HR⟩, ⟨Hc0, HCr⟩, ⟨Hw0, HW⟩⟩, Hcs, #Hcan⟩, Ho⟩ Hk
  iapply (wp_head X Wt c u s _ Q) $$ [Hb]; · iexact Hb
  iintro Hb
  iapply (wp_waitSend X Wt Kn ιn c u t (by omega) (par (s.val + 1)) (by rw [hs]; exact par_add t) _ _ Q) $$ [Hi0 Ho]
  · isplitr; · iexact HC
    isplitl [Hi0] <;> iassumption
  iintro ⟨Ha1, Hs1, Ho⟩
  iapply (wp_waitRecv X Wt Kn ιn c u (t + 1) (by omega) (par s.val) (by rw [hs]) (tCrd u k :: tMsg u j :: l) hlc _ Q) $$ [Hr0 Ht0 Ho]
  · isplitr; · iexact HC
    isplitr [Ho]
    · isplitl [Hr0] <;> iassumption
    iexact Ho
  iintro ⟨⟨Hv, #HU⟩, Hr2, Ho⟩
  iapply (wp_readRecv c u (par s.val) _ _ Q) $$ Hv
  iintro %r %hr Hv
  rw [hr]
  iapply (wp_putAcc c u _ _ _ Q) $$ Ha1
  iintro Hacc
  ihave Hr2 := (rcv_open u c (t + 1 + 2)) $$ Hr2
  icases Hr2 with ⟨Hr2, #Hrr⟩
  imod (open_slot X Wt Kn ιn u c (t + 1)) $$ [Hd0 Hv] with ⟨Hd2, #Hcan2⟩
  · isplitr; · iexact HC
    isplitl [Hd0]; · iexact Hd0
    isplitl [Hv]; · rw [← hs]; iexact Hv
    iexact Hrr
  iapply (wp_credit X Wt Kn ιn c u k (tMsg u j :: l) _ Q) $$ [Hc0 Ho]
  · isplitr; · iexact HC
    isplitl [Hc0]; · rw [hk]; iexact Hc0
    isplitr
    · rw [hk, crdPay_succ]
      isplitr; · iexact Hcan2
      iexact Hcan
    iexact Ho
  iintro Ho
  iapply (wp_waitCredit X Wt Kn ιn c u t (by omega) (tMsg u j :: l) hlm _ Q) $$ [Hcs Hw0 Ho]
  · isplitr; · iexact HC
    isplitl [Hcs]; · iexact Hcs
    isplitl [Hw0] <;> iassumption
  iintro ⟨Hcs, #Hto, Ho⟩
  iapply (wp_send X Wt Kn ιn c u j (par (s.val + 1)) (by rw [hs, hj]) l q Q) $$ [Hacc Hs1 Hm1 Ho]
  · isplitr; · iexact HC
    rw [hj]
    isplitl [Hacc]; · rw [hs, show accV X Wt u (t + 2) c = addi (accV X Wt u (t + 1) (up u c)) (qpart (F := F) (xs X u c (t + 1)) (ws Wt u c)) from rfl]; iexact Hacc
    isplitr
    · iapply (Entails.of_eq (show iprop(relA c ∗ relUp u (t + 1) (up u c)) = relUp (F := F) u (t + 2) c from rfl))
      isplitr; · iexact HA
      iexact HU
    isplitl [Hs1]; · iexact Hs1
    isplitl [Hm1]; · iexact Hm1
    isplitr; · iexact Hto
    iexact Ho
  rw [hj]
  iintro ⟨Hi2, Ho⟩
  iapply Hk
  isplitl [Hb]; · iexact Hb
  isplitr [Ho]
  · isplitl [Hi1 Hi2]
    · isplitl [Hi1]; · iexact Hi1
      iexact Hi2
    isplitl [Hr1 Hr2 Hd1 Hd2]
    · isplitl [Hr1 Hr2]
      · isplitl [Hr1]; · iexact Hr1
        iexact Hr2
      isplitl [Hd1]; · iexact Hd1
      iexact Hd2
    isplitl [HM HR HCr HW]
    · isplitl [HM]; · iexact HM
      isplitl [HR]; · iexact HR
      isplitl [HCr]; · iexact HCr
      iexact HW
    isplitl [Hcs]; · iexact Hcs
    isplitr; · iexact Hcan2
    iexact Hcan
  iexact Ho

theorem unit_late (c : Dev nD) (u : Fin 4) (l : List TK) (hl : ∀ x ∈ l, 28 < ix x) (q : PG F) (Q : PUnit → sProp 𝕄) :
    iprop(Ctx X Wt Kn ιn ∗ relA c ∗ bufs X Wt c ∗ St u c 12 ∗ Owe c (tMsg u 14 :: l))
      ⊢ iprop(((bufs X Wt c ∗ SL u c ∗ Owe c l) -∗ WP c q Q) -∗ WP c (unitLate c u q) Q) := by
  unfold unitLate St SL rights reads sumIn bufs
  rw [ico_head (show 12 + 2 < 15 by decide), ico_head (show 12 + 1 < 15 by decide), ico_head (show 12 + 1 + 1 < 15 by decide),
    ico_head (show 12 < 13 by decide) (tokW u c)]
  have hlm : ∀ x ∈ tMsg u 14 :: l, 28 < ix x := by
    intro x hx
    rcases List.mem_cons.mp hx with rfl | hx
    · show 28 < 2 * 14 + 2; decide
    · exact hl x hx
  iintro ⟨#HC, #HA, Hb, ⟨⟨Hi0, Hi1⟩, ⟨⟨Hr0, Hr1⟩, Hd0, Hd1⟩, ⟨⟨Hm1, HM⟩, ⟨Ht0, Ht1, HR⟩, HCr, ⟨Hw0, HW⟩⟩, Hcs, #Hcan⟩, Ho⟩ Hk
  iapply (wp_head X Wt c u 13 _ Q) $$ [Hb]; · iexact Hb
  iintro Hb
  iapply (wp_waitSend X Wt Kn ιn c u 12 (by decide) 0 rfl _ _ Q) $$ [Hi0 Ho]
  · isplitr; · iexact HC
    isplitl [Hi0] <;> iassumption
  iintro ⟨Ha1, Hs1, Ho⟩
  iapply (wp_waitRecv X Wt Kn ιn c u 13 (by decide) (par 13) rfl (tMsg u 14 :: l) hlm _ Q) $$ [Hr0 Ht0 Ho]
  · isplitr; · iexact HC
    isplitr [Ho]
    · isplitl [Hr0] <;> iassumption
    iexact Ho
  iintro ⟨⟨Hv, #HU⟩, Hr2, Ho⟩
  iapply (wp_readRecv c u (par 13) _ _ Q) $$ Hv
  iintro %r %hr Hv
  rw [hr]
  iapply (wp_putAcc c u _ _ _ Q) $$ Ha1
  iintro Hacc
  iapply (wp_lastCredit X Wt Kn ιn c u (tMsg u 14 :: l) (fun x hx => Nat.lt_of_succ_lt (hlm x hx)) _ Q) $$ [Hcs Hw0 Ho]
  · isplitr; · iexact HC
    isplitl [Hcs]; · iexact Hcs
    isplitl [Hw0] <;> iassumption
  iintro ⟨Hcs, #Hto, Ho⟩
  iapply (wp_send X Wt Kn ιn c u 14 0 rfl l q Q) $$ [Hacc Hs1 Hm1 Ho]
  · isplitr; · iexact HC
    isplitl [Hacc]; · iexact Hacc
    isplitr
    · iapply (Entails.of_eq (show iprop(relA c ∗ relUp u 13 (up u c)) = relUp (F := F) u 14 c from rfl))
      isplitr; · iexact HA
      iexact HU
    isplitl [Hs1]; · iexact Hs1
    isplitl [Hm1]; · iexact Hm1
    isplitr; · iexact Hto
    iexact Ho
  iintro ⟨Hi2, Ho⟩
  iapply Hk
  isplitl [Hb]; · iexact Hb
  isplitr [Ho]
  · isplitl [Hi1 Hi2]
    · isplitl [Hi1]; · iexact Hi1
      iexact Hi2
    isplitl [Hr1 Hr2]
    · isplitl [Hr1]; · iexact Hr1
      iexact Hr2
    isplitl [Hv]; · iexact Hv
    isplitl [Ht1]; · iexact Ht1
    iexact Hcs
  iexact Ho

theorem unit_last (c : Dev nD) (u : Fin 4) (l : List TK) (hl : ∀ x ∈ l, 30 < ix x) (m : F .f32) (fo) (q : F .f32 → PG F) (Q : PUnit → sProp 𝕄) :
    iprop(Ctx X Wt Kn ιn ∗ bufs X Wt c ∗ oPts c fo ∗ SL u c ∗ Owe c l)
      ⊢ iprop(((bufs X Wt c ∗ oPts c (wrOut u fo (yq X Wt u c)) ∗ SE u c ∗ Owe c l) -∗ WP c (q (maxWith m (yq X Wt u c))) Q)
        -∗ WP c (unitLast c u m q) Q) := by
  unfold unitLast SL SE bufs yq
  iintro ⟨#HC, Hb, Hout, ⟨⟨Hi0, Hi1⟩, ⟨Hr0, Hr1⟩, Hv1, Ht0, Hcs⟩, Ho⟩ Hk
  iapply (wp_head X Wt c u 14 _ Q) $$ [Hb]; · iexact Hb
  iintro Hb
  iapply (wp_waitSend X Wt Kn ιn c u 13 (by decide) 1 rfl _ _ Q) $$ [Hi0 Ho]
  · isplitr; · iexact HC
    isplitl [Hi0] <;> iassumption
  iintro ⟨Ha1, Hs1, Ho⟩
  iapply (wp_waitRecv X Wt Kn ιn c u 14 (by decide) 0 rfl l hl _ Q) $$ [Hr0 Ht0 Ho]
  · isplitr; · iexact HC
    isplitr [Ho]
    · isplitl [Hr0] <;> iassumption
    iexact Ho
  iintro ⟨⟨Hv, #HU⟩, Hr2, Ho⟩
  iapply (wp_readRecv c u 0 _ _ Q) $$ Hv
  iintro %r %hr Hv
  rw [hr]
  iapply (wp_putOut c u fo _ _ Q) $$ Hout
  iintro Hout
  iapply Hk
  isplitl [Hb]; · iexact Hb
  isplitl [Hout]; · iexact Hout
  isplitr [Ho]
  · isplitl [Hi1 Ha1 Hs1]
    · isplitl [Hi1]; · iexact Hi1
      isplitl [Ha1]; · iexact Ha1
      iexact Hs1
    isplitl [Hr1 Hr2]
    · isplitl [Hr1]; · iexact Hr1
      iexact Hr2
    isplitl [Hv Hv1]
    · isplitl [Hv]; · iexact Hv
      iexact Hv1
    isplitl [Hcs]; · iexact Hcs
    iexact HU
  iexact Ho

end Cert.KernelIdeal.Own

end
-- ==== Proof.Ring.lean ====
module

public import proofs.«01_k».proof.Proof.Units

/-! # The ring

All four units through all their steps. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (X : Dev nD → (cc0_scratch0 : Ref sig .tc).ty.Contents (Elt F)) (Wt : Dev nD → (cc0_scratch1 : Ref sig .tc).ty.Contents (Elt F))
variable (Kn : Dev nD × KK → ℕ) (ιn : Key → ℕ)

/-- All four units, in the order of the body. -/
def four (Φ : Fin 4 → sProp 𝕄) : sProp 𝕄 := iprop(Φ 0 ∗ Φ 2 ∗ Φ 1 ∗ Φ 3)

/-- One step of all four units from a step of each. -/
theorem quad_step (c : Dev nD) (f : Fin 4 → PG F → PG F) (A B : Fin 4 → sProp 𝕄) (l0 l1 l2 l3 l4 : List TK)
    (R : sProp 𝕄)
    (h : ∀ u (q : PG F) (Q : PUnit → sProp 𝕄), iprop(Ctx X Wt Kn ιn ∗ relA c ∗ R ∗ A u ∗ Owe c (match u with | 0 => l0 | 2 => l1 | 1 => l2 | 3 => l3))
      ⊢ iprop(((R ∗ B u ∗ Owe c (match u with | 0 => l1 | 2 => l2 | 1 => l3 | 3 => l4)) -∗ WP c q Q) -∗ WP c (f u q) Q))
    (q : PG F) (Q : PUnit → sProp 𝕄) :
    iprop(Ctx X Wt Kn ιn ∗ relA c ∗ R ∗ four A ∗ Owe c l0) ⊢ iprop(((R ∗ four B ∗ Owe c l4) -∗ WP c q Q) -∗ WP c (quad f q) Q) := by
  unfold quad four
  iintro ⟨#HC, #HA, HR, ⟨H0, H2, H1, H3⟩, Ho⟩ Hk
  iapply (h 0 _ Q) $$ [HR H0 Ho]
  · isplitr; · iexact HC
    isplitr; · iexact HA
    isplitl [HR]; · iexact HR
    isplitl [H0]; · iexact H0
    iexact Ho
  iintro ⟨HR, H0, Ho⟩
  iapply (h 2 _ Q) $$ [HR H2 Ho]
  · isplitr; · iexact HC
    isplitr; · iexact HA
    isplitl [HR]; · iexact HR
    isplitl [H2]; · iexact H2
    iexact Ho
  iintro ⟨HR, H2, Ho⟩
  iapply (h 1 _ Q) $$ [HR H1 Ho]
  · isplitr; · iexact HC
    isplitr; · iexact HA
    isplitl [HR]; · iexact HR
    isplitl [H1]; · iexact H1
    iexact Ho
  iintro ⟨HR, H1, Ho⟩
  iapply (h 3 _ Q) $$ [HR H3 Ho]
  · isplitr; · iexact HC
    isplitr; · iexact HA
    isplitl [HR]; · iexact HR
    isplitl [H3]; · iexact H3
    iexact Ho
  iintro ⟨HR, H3, Ho⟩
  iapply Hk
  isplitl [HR]; · iexact HR
  isplitr [Ho]
  · isplitl [H0]; · iexact H0
    isplitl [H2]; · iexact H2
    isplitl [H1]; · iexact H1
    iexact H3
  iexact Ho

theorem quad_first (c : Dev nD) (l : List TK) (hl : ∀ x ∈ l, 2 < ix x) (q : PG F) (Q : PUnit → sProp 𝕄) :
    iprop(Ctx X Wt Kn ιn ∗ relA c ∗ bufs X Wt c ∗ four (fun u => St0 u c) ∗ Owe c (stepL 0 1 l))
      ⊢ iprop(((bufs X Wt c ∗ four (fun u => St u c 0) ∗ Owe c l) -∗ WP c q Q) -∗ WP c (quad (unitFirst c) q) Q) := by
  have h (u : Fin 4) {l : List TK} (hl : ∀ x ∈ l, 2 < ix x) : ∀ x ∈ tCrd u 0 :: tMsg u 1 :: l, 2 < ix x :=
    lt_two (show 2 < 2 * 0 + 3 by decide) (show 2 < 2 * 1 + 2 by decide) hl
  refine quad_step X Wt Kn ιn c (unitFirst c) _ _ _ (tCrd 2 0 :: tMsg 2 1 :: tCrd 1 0 :: tMsg 1 1 :: tCrd 3 0 :: tMsg 3 1 :: l)
    (tCrd 1 0 :: tMsg 1 1 :: tCrd 3 0 :: tMsg 3 1 :: l) (tCrd 3 0 :: tMsg 3 1 :: l) l _ (fun u q Q => ?_) q Q
  match u with
  | 0 => exact unit_first X Wt Kn ιn c 0 _ (h 2 (h 1 (h 3 hl))) q Q
  | 2 => exact unit_first X Wt Kn ιn c 2 _ (h 1 (h 3 hl)) q Q
  | 1 => exact unit_first X Wt Kn ιn c 1 _ (h 3 hl) q Q
  | 3 => exact unit_first X Wt Kn ιn c 3 _ hl q Q

theorem quad_mid (c : Dev nD) (t : ℕ) (ht : t < 12) (s : Fin 15) (hs : s.val = t + 1) (k : Fin 13) (hk : k.val = t + 1)
    (j : Fin 15) (hj : j.val = t + 2) (l : List TK) (hl : ∀ x ∈ l, 2 * t + 4 < ix x) (q : PG F) (Q : PUnit → sProp 𝕄) :
    iprop(Ctx X Wt Kn ιn ∗ relA c ∗ bufs X Wt c ∗ four (fun u => St u c t) ∗ Owe c (stepL k j l))
      ⊢ iprop(((bufs X Wt c ∗ four (fun u => St u c (t + 1)) ∗ Owe c l) -∗ WP c q Q) -∗ WP c (quad (unitMid c s) q) Q) := by
  have h (u : Fin 4) {l : List TK} (hl : ∀ x ∈ l, 2 * t + 4 < ix x) : ∀ x ∈ tCrd u k :: tMsg u j :: l, 2 * t + 4 < ix x :=
    lt_two (show 2 * t + 4 < 2 * k.val + 3 by omega) (show 2 * t + 4 < 2 * j.val + 2 by omega) hl
  refine quad_step X Wt Kn ιn c (unitMid c s) _ _ _ (tCrd 2 k :: tMsg 2 j :: tCrd 1 k :: tMsg 1 j :: tCrd 3 k :: tMsg 3 j :: l)
    (tCrd 1 k :: tMsg 1 j :: tCrd 3 k :: tMsg 3 j :: l) (tCrd 3 k :: tMsg 3 j :: l) l _ (fun u q Q => ?_) q Q
  match u with
  | 0 => exact unit_mid X Wt Kn ιn c 0 t ht s hs k hk j hj _ (h 2 (h 1 (h 3 hl))) q Q
  | 2 => exact unit_mid X Wt Kn ιn c 2 t ht s hs k hk j hj _ (h 1 (h 3 hl)) q Q
  | 1 => exact unit_mid X Wt Kn ιn c 1 t ht s hs k hk j hj _ (h 3 hl) q Q
  | 3 => exact unit_mid X Wt Kn ιn c 3 t ht s hs k hk j hj _ hl q Q

theorem amxL_ix : ∀ x ∈ amxL, ix x = 100 := by
  intro x hx
  obtain ⟨k, -, rfl⟩ := List.mem_map.mp hx; rfl
theorem lateL_gt : ∀ x ∈ lateL, 28 < ix x := by
  have h : ∀ x ∈ amxL, 28 < ix x := fun x hx => by rw [amxL_ix x hx]; decide
  exact lt_two (by decide) (by decide) (lt_two (by decide) (by decide) h)
theorem midL_gt : ∀ (n : ℕ) (h : n < 13), ∀ x ∈ midL n h, 28 - 2 * n < ix x
  | 0, _ => lateL_gt
  | n + 1, h => by
    have hl : ∀ x ∈ midL n (by omega), 28 - 2 * (n + 1) < ix x := fun x hx => by have := midL_gt n (by omega) x hx; omega
    have h' (u : Fin 4) {l : List TK} (hl : ∀ x ∈ l, 28 - 2 * (n + 1) < ix x) :
        ∀ x ∈ tCrd u ⟨12 - n, by omega⟩ :: tMsg u ⟨13 - n, by omega⟩ :: l, 28 - 2 * (n + 1) < ix x :=
      lt_two (show 28 - 2 * (n + 1) < 2 * (12 - n) + 3 by omega) (show 28 - 2 * (n + 1) < 2 * (13 - n) + 2 by omega) hl
    exact h' 0 (h' 2 (h' 1 (h' 3 hl)))

theorem mids_run (c : Dev nD) : ∀ (n : ℕ) (h : n < 13) (q : PG F) (Q : PUnit → sProp 𝕄),
    iprop(Ctx X Wt Kn ιn ∗ relA c ∗ bufs X Wt c ∗ four (fun u => St u c (12 - n)) ∗ Owe c (midL n h))
      ⊢ iprop(((bufs X Wt c ∗ four (fun u => St u c 12) ∗ Owe c lateL) -∗ WP c q Q) -∗ WP c (mids c n h q) Q)
  | 0, h, q, Q => by
    unfold mids midL
    iintro ⟨-, -, H⟩ Hk
    iapply Hk; iexact H
  | n + 1, h, q, Q => by
    have ih := mids_run c n (by omega) q Q
    have e : 12 - n = (12 - (n + 1)) + 1 := by omega
    rw [e] at ih
    have ht : 12 - (n + 1) < 12 := by omega
    have hn : n < 13 := by omega
    have hs : 12 - n < 15 := by omega
    have hk : 12 - n < 13 := by omega
    have hj : 13 - n < 15 := by omega
    have hj' : 13 - n = 12 - (n + 1) + 2 := by omega
    have hl : ∀ x ∈ midL n hn, 2 * (12 - (n + 1)) + 4 < ix x := fun x hx => by have := midL_gt n hn x hx; omega
    unfold mids
    iintro ⟨#HC, #HA, H⟩ Hk
    iapply (quad_mid X Wt Kn ιn c (12 - (n + 1)) ht ⟨12 - n, hs⟩ e ⟨12 - n, hk⟩ e ⟨13 - n, hj⟩ hj' (midL n hn) hl _ Q) $$ [H]
    · isplitr; · iexact HC
      isplitr; · iexact HA
      iexact H
    iintro H
    iapply ih $$ [H]
    · isplitr; · iexact HC
      isplitr; · iexact HA
      iexact H
    iexact Hk

theorem quad_late (c : Dev nD) (q : PG F) (Q : PUnit → sProp 𝕄) :
    iprop(Ctx X Wt Kn ιn ∗ relA c ∗ bufs X Wt c ∗ four (fun u => St u c 12) ∗ Owe c lateL)
      ⊢ iprop(((bufs X Wt c ∗ four (fun u => SL u c) ∗ Owe c amxL) -∗ WP c q Q) -∗ WP c (quad (unitLate c) q) Q) := by
  have h0 : ∀ x ∈ amxL, 28 < ix x := fun x hx => by rw [amxL_ix x hx]; decide
  have h (u : Fin 4) {l : List TK} (hl : ∀ x ∈ l, 28 < ix x) : ∀ x ∈ tMsg u 14 :: l, 28 < ix x := by
    intro x hx
    rcases List.mem_cons.mp hx with rfl | hx
    · show 28 < 2 * 14 + 2; decide
    · exact hl x hx
  refine quad_step X Wt Kn ιn c (unitLate c) _ _ _ (tMsg 2 14 :: tMsg 1 14 :: tMsg 3 14 :: amxL)
    (tMsg 1 14 :: tMsg 3 14 :: amxL) (tMsg 3 14 :: amxL) amxL _ (fun u q Q => ?_) q Q
  match u with
  | 0 => exact unit_late X Wt Kn ιn c 0 _ (h 2 (h 1 (h 3 h0))) q Q
  | 2 => exact unit_late X Wt Kn ιn c 2 _ (h 1 (h 3 h0)) q Q
  | 1 => exact unit_late X Wt Kn ιn c 1 _ (h 3 h0) q Q
  | 3 => exact unit_late X Wt Kn ιn c 3 _ h0 q Q

/-- The four quarters in the result. -/
def out4 (c : Dev nD) (f : (cc0_stg2_0 : Ref sig .tc).ty.Contents (Elt F)) : (cc0_stg2_0 : Ref sig .tc).ty.Contents (Elt F) :=
  wrOut 3 (wrOut 1 (wrOut 2 (wrOut 0 f (yq X Wt 0 c)) (yq X Wt 2 c)) (yq X Wt 1 c)) (yq X Wt 3 c)

theorem finish_run (c : Dev nD) (fo) (Q : PUnit → sProp 𝕄) :
    iprop(Ctx X Wt Kn ιn ∗ bufs X Wt c ∗ oPts c fo ∗ four (fun u => SL u c) ∗ Owe c amxL)
      ⊢ iprop(((bufs X Wt c ∗ oPts c (out4 X Wt c fo) ∗ four (fun u => SE u c) ∗ Owe c amxL) -∗ WP c (exchange c (lmax X Wt c)) Q)
        -∗ WP c (finish c) Q) := by
  have h0 : ∀ x ∈ amxL, 30 < ix x := fun x hx => by rw [amxL_ix x hx]; decide
  unfold finish four out4 lmax
  iintro ⟨#HC, HR, Hf, ⟨H0, H2, H1, H3⟩, Ho⟩ Hk
  iapply (unit_last X Wt Kn ιn c 0 amxL h0 _ _ _ Q) $$ [HR Hf H0 Ho]
  · isplitr; · iexact HC
    isplitl [HR]; · iexact HR
    isplitl [Hf]; · iexact Hf
    isplitl [H0]; · iexact H0
    iexact Ho
  iintro ⟨HR, Hf, H0, Ho⟩
  iapply (unit_last X Wt Kn ιn c 2 amxL h0 _ _ _ Q) $$ [HR Hf H2 Ho]
  · isplitr; · iexact HC
    isplitl [HR]; · iexact HR
    isplitl [Hf]; · iexact Hf
    isplitl [H2]; · iexact H2
    iexact Ho
  iintro ⟨HR, Hf, H2, Ho⟩
  iapply (unit_last X Wt Kn ιn c 1 amxL h0 _ _ _ Q) $$ [HR Hf H1 Ho]
  · isplitr; · iexact HC
    isplitl [HR]; · iexact HR
    isplitl [Hf]; · iexact Hf
    isplitl [H1]; · iexact H1
    iexact Ho
  iintro ⟨HR, Hf, H1, Ho⟩
  iapply (unit_last X Wt Kn ιn c 3 amxL h0 _ _ _ Q) $$ [HR Hf H3 Ho]
  · isplitr; · iexact HC
    isplitl [HR]; · iexact HR
    isplitl [Hf]; · iexact Hf
    isplitl [H3]; · iexact H3
    iexact Ho
  iintro ⟨HR, Hf, H3, Ho⟩
  iapply Hk
  isplitl [HR]; · iexact HR
  isplitl [Hf]; · iexact Hf
  isplitr [Ho]
  · isplitl [H0]; · iexact H0
    isplitl [H2]; · iexact H2
    isplitl [H1]; · iexact H1
    iexact H3
  iexact Ho

end Cert.KernelIdeal.Own

end
-- ==== Proof.Before.lean ====
module

public import proofs.«01_k».proof.Proof.Ring

/-! # Before the ring

Opening every slot, meeting the neighbours, copying the operands in, and the first messages. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (X : Dev nD → (cc0_scratch0 : Ref sig .tc).ty.Contents (Elt F)) (Wt : Dev nD → (cc0_scratch1 : Ref sig .tc).ty.Contents (Elt F))
variable (Kn : Dev nD × KK → ℕ) (ιn : Key → ℕ)

theorem sep_insert {ι : Type} [DecidableEq ι] {i : ι} {S : Finset ι} (hi : i ∉ S) (Φ : ι → sProp 𝕄) :
    bigSep (insert i S) Φ = iprop(Φ i ∗ bigSep S Φ) := bigSep_insert hi
theorem sep_sum {α β : Type} [Fintype α] [Fintype β] [DecidableEq α] [DecidableEq β] (Φ : α ⊕ β → sProp 𝕄) :
    bigSep Finset.univ Φ = iprop((bigSep Finset.univ fun a => Φ (.inl a)) ∗ bigSep Finset.univ fun b => Φ (.inr b)) := BI.bigSep_univ_sum Φ
theorem sep_two (Φ : Fin 2 → sProp 𝕄) : bigSep Finset.univ Φ = iprop(Φ 0 ∗ Φ 1) := bigSep_fin_two Φ

/-! ## Opening every slot -/

theorem open_set (c : Dev nD) (S : Finset KI) :
    iprop(Ctx X Wt Kn ιn ∗ bigSep S fun i => iprop(Release.readerAt EL ((c, i) : Key) 0 ∗ Sl (F := F) (c, i)))
      ⊢ (|={Set.univ}=> bigSep S fun i => iprop(Release.readerAt EL ((c, i) : Key) 1 ∗ Release.released EL ((c, i) : Key) 1) : sProp 𝕄) := by
  induction S using Finset.induction_on with
  | empty =>
    rw [bigSep_empty, bigSep_empty]
    iintro ⟨-, H⟩; imodintro; iexact H
  | insert i S hi ih =>
    rw [sep_insert hi, sep_insert hi]
    iintro ⟨#HC, ⟨Hr, Hs⟩, H⟩
    imod ih $$ [H] with H
    · isplitr; · iexact HC
      iexact H
    imod (Release.slot_release EL (Set.mem_univ (ιn (c, i))) (k := ((c, i) : Key)) (Sl_excl (F := F) (c, i)) 0) $$ [Hr Hs] with ⟨Hr, Hrel⟩
    · isplitr; · iapply (ctx_slot X Wt Kn ιn (c, i)); iexact HC
      isplitl [Hr]; · iexact Hr
      iexact Hs
    imodintro
    isplitr [H]
    · isplitl [Hr]; · iexact Hr
      iexact Hrel
    iexact H

/-- What a unit starts with, its receive slots aside; -/
def U0 (u : Fin 4) (c : Dev nD) : sProp 𝕄 :=
  iprop((slotAny (accM u) c 0 ∗ slotAny (accM u) c 1) ∗ (sndReady u c 0 ∗ sndReady u c 1) ∗ (rcvReady u c 0 ∗ rcvReady u c 1) ∗ rights u c 0 0 0 0 ∗ crdSt u c 0)
/-- once they are open; -/
def U1 (u : Fin 4) (c : Dev nD) : sProp 𝕄 :=
  iprop((slotAny (accM u) c 0 ∗ slotAny (accM u) c 1) ∗ (sndReady u c 0 ∗ sndReady u c 1) ∗ reads u c 0 ∗ rights u c 0 0 0 0 ∗ crdSt u c 0)
/-- and when its neighbour's are too. -/
def mayStart (u : Fin 4) (e : Dev nD) : sProp 𝕄 := iprop(canSend u e 0 ∗ canSend u e 1)
instance mayStart_persistent (u) (e : Dev nD) : BI.Persistent (mayStart (F := F) u e) := by unfold mayStart; infer_instance

theorem four_intro (Φ : Fin 4 → sProp 𝕄) : bigSep Finset.univ Φ ⊢ four Φ := by
  rw [show (Finset.univ : Finset (Fin 4)) = {0, 2, 1, 3} by decide, bigSep_insert (by decide), bigSep_insert (by decide), bigSep_insert (by decide), bigSep_singleton]
  unfold four
  exact Entails.rfl

theorem open_start (c : Dev nD) :
    iprop(Ctx X Wt Kn ιn ∗ (four fun u => U0 u c) ∗ bigSep Finset.univ fun i : KI => iprop(Release.readerAt EL ((c, i) : Key) 0 ∗ Sl (F := F) (c, i)))
      ⊢ (|={Set.univ}=> ((four fun u => U1 u c) ∗ (four fun u => mayStart u c) ∗ relA c) : sProp 𝕄) := by
  have hs : (bigSep Finset.univ fun i : KI => iprop(Release.readerAt EL ((c, i) : Key) 1 ∗ Release.released EL ((c, i) : Key) 1))
      ⊢ iprop((four fun u => iprop((rdr (F := F) u c 0 ∗ rdr u c 1) ∗ Release.released EL ((c, .inl (u, 0)) : Key) 1 ∗ Release.released EL ((c, .inl (u, 1)) : Key) 1)) ∗ relA c) := by
    rw [sep_sum, bigSep_univ_prod]
    have h0 (k : Fin 15) : iprop(Release.readerAt EL ((c, .inr k) : Key) 1 ∗ Release.released EL ((c, .inr k) : Key) 1) ⊢ (Release.released EL ((c, .inr k) : Key) 1 : sProp 𝕄) := by
      iintro ⟨-, H⟩; iexact H
    have h1 : (bigSep Finset.univ fun k : Fin 15 => iprop(Release.readerAt EL ((c, .inr k) : Key) 1 ∗ Release.released EL ((c, .inr k) : Key) 1)) ⊢ (relA (F := F) c : sProp 𝕄) := by
      unfold relA; exact bigSep_mono fun k _ => h0 k
    have h3 (u : Fin 4) : (bigSep Finset.univ fun p : Fin 2 => iprop(Release.readerAt EL ((c, .inl (u, p)) : Key) 1 ∗ Release.released EL ((c, .inl (u, p)) : Key) 1))
        ⊢ (iprop((rdr (F := F) u c 0 ∗ rdr u c 1) ∗ Release.released EL ((c, .inl (u, 0)) : Key) 1 ∗ Release.released EL ((c, .inl (u, 1)) : Key) 1) : sProp 𝕄) := by
      rw [sep_two]
      unfold rdr
      iintro ⟨⟨H1, H2⟩, H3, H4⟩
      isplitl [H1 H3]
      · isplitl [H1]; · iexact H1
        iexact H3
      isplitl [H2]; · iexact H2
      iexact H4
    have h2 : (bigSep Finset.univ fun u : Fin 4 => bigSep Finset.univ fun p : Fin 2 => iprop(Release.readerAt EL ((c, .inl (u, p)) : Key) 1 ∗ Release.released EL ((c, .inl (u, p)) : Key) 1))
        ⊢ (four fun u => iprop((rdr (F := F) u c 0 ∗ rdr u c 1) ∗ Release.released EL ((c, .inl (u, 0)) : Key) 1 ∗ Release.released EL ((c, .inl (u, 1)) : Key) 1) : sProp 𝕄) :=
      (bigSep_mono fun u _ => h3 u).trans (four_intro _)
    iintro ⟨Ha, Hb⟩
    isplitl [Ha]
    · iapply h2; iexact Ha
    iapply h1; iexact Hb
  have hu (u : Fin 4) : iprop(U0 (F := F) u c ∗ (rdr u c 0 ∗ rdr u c 1) ∗ Release.released EL ((c, .inl (u, 0)) : Key) 1 ∗ Release.released EL ((c, .inl (u, 1)) : Key) 1)
      ⊢ (iprop(U1 u c ∗ mayStart u c) : sProp 𝕄) := by
    unfold U0 U1 mayStart canSend reads
    iintro ⟨⟨Ha, Hs, ⟨H0, H1⟩, HR, Hc⟩, Hd, Hr0, Hr1⟩
    ihave H0 := (rcv_open u c 0) $$ H0
    icases H0 with ⟨H0, #Hr2⟩
    ihave H1 := (rcv_open u c 1) $$ H1
    icases H1 with ⟨H1, #Hr3⟩
    isplitr [Hr0 Hr1]
    · isplitl [Ha]; · iexact Ha
      isplitl [Hs]; · iexact Hs
      isplitl [H0 H1 Hd]
      · isplitl [H0 H1]
        · isplitl [H0]; · iexact H0
          iexact H1
        iexact Hd
      isplitl [HR]; · iexact HR
      iexact Hc
    isplitl [Hr0]
    · isplitl [Hr0]; · iexact Hr0
      iexact Hr2
    · isplitl [Hr1]; · iexact Hr1
      iexact Hr3
  iintro ⟨#HC, HU, H⟩
  imod (open_set X Wt Kn ιn c Finset.univ) $$ [H] with H
  · isplitr; · iexact HC
    iexact H
  ihave H := hs $$ H
  icases H with ⟨H, HA⟩
  imodintro
  unfold four
  icases HU with ⟨U0, U2, U1, U3⟩
  icases H with ⟨V0, V2, V1, V3⟩
  ihave W0 := (hu 0) $$ [U0 V0]
  · isplitl [U0]; · iexact U0
    iexact V0
  ihave W2 := (hu 2) $$ [U2 V2]
  · isplitl [U2]; · iexact U2
    iexact V2
  ihave W1 := (hu 1) $$ [U1 V1]
  · isplitl [U1]; · iexact U1
    iexact V1
  ihave W3 := (hu 3) $$ [U3 V3]
  · isplitl [U3]; · iexact U3
    iexact V3
  icases W0 with ⟨U0, V0⟩
  icases W2 with ⟨U2, V2⟩
  icases W1 with ⟨U1, V1⟩
  icases W3 with ⟨U3, V3⟩
  isplitl [U0 U2 U1 U3]
  · isplitl [U0]; · iexact U0
    isplitl [U2]; · iexact U2
    isplitl [U1]; · iexact U1
    iexact U3
  isplitl [V0 V2 V1 V3]
  · isplitl [V0]; · iexact V0
    isplitl [V2]; · iexact V2
    isplitl [V1]; · iexact V1
    iexact V3
  iexact HA

/-! ## Meeting -/

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel

abbrev bcell (e : Dev nD) : GSem nD τ sig := ((e.tc : Thread nD τ), .reg barS.sem)
theorem bar_duties (e : Dev nD) : (sch X Wt).duties (bcell e) 0 = {0, 1} := (sch_duties X Wt e kBar 0).trans (by unfold dutK; exact if_pos rfl)
theorem bar_expect (e : Dev nD) : (sch X Wt).expect (bcell e) 0 = 2 := (sch_expect X Wt e kBar 0).trans (by unfold dutK; rw [if_pos rfl]; rfl)
theorem bar_amount (e : Dev nD) (d : ℕ) : (sch X Wt).amount (bcell e) 0 d = 1 := sch_amount X Wt e kBar 0 d
theorem bar_payload (e : Dev nD) (d : ℕ) : (sch X Wt).payload (bcell e) 0 d = barPay e d := (sch_payload X Wt e kBar 0 d).trans (by unfold payK; rfl)

theorem wp_meetOne (c n : Dev nD) (b : Fin 2) (hn : n = tgt c (tBar b)) (l : List TK) (q : PG F) (Q : PUnit → sProp 𝕄) :
    iprop(Ctx X Wt Kn ιn ∗ dutyTok ER (bcell (tgt c (tBar b))) 0 b.val ∗ barPay (tgt c (tBar b)) b.val ∗ Owe c (tBar b :: l))
      ⊢ iprop((Owe c l -∗ WP c q Q) -∗ WP c ((semSignalWord n barS.sem 1#32).bind fun _ => q) Q) := by
  subst hn
  simp only [semSignalWord, Prog.bind_op, Prog.bind_ret]
  unfold Owe
  iintro ⟨#HC, Ht, #Hp, ⟨%W, Ho⟩⟩ Hk
  iapply (Rounds.wp_signal 𝒱₀ ER (sch X Wt) (c : Thread nD τ) none (dst := (tgt c (tBar b) : Thread nD τ)) (κ := Kn (tgt c (tBar b), kBar)) (r := 0) (d := b.val)
      (by rw [bar_duties]; revert b; decide)
      ((bar_amount X Wt (tgt c (tBar b)) _).trans (show (1 : ℕ) = (1#32).toNat from rfl)) 1 (owedL c l) (owedL_cons c (tBar b) l)) $$ [Ht Ho]
  · isplitr; · iapply (ctx_cell X Wt Kn ιn (tgt c (tBar b)) kBar); iexact HC
    isplitl [Ho]; · iexact Ho
    isplitl [Ht]; · iexact Ht
    isplitr
    · iapply (Entails.of_eq (bar_payload X Wt (tgt c (tBar b)) b.val).symm); iexact Hp
    iapply (ctx_reached X Wt Kn ιn (tgt c (tBar b)) kBar); iexact HC
  iintro Ho
  iapply Hk
  iexists W; iexact Ho

theorem cred_two (g : GSem nD τ sig) (i : ℕ) : iprop(cred (tallyAt g i 1) ∗ cred (tallyAt g i 1)) ⊢ (cred (tallyAt g i 2) : sProp 𝕄) := by
  have e : tallyAt g i 2 = tallyAt g i 1 + tallyAt g i 1 := by
    funext g' ; ext i'
    simp only [Pi.add_apply, Finsupp.add_apply, tallyAt_apply]
    split <;> rfl
  rw [e]; exact (cred_add _ _).2

theorem bar_payloads (c : Dev nD) :
    bigSep ((sch X Wt).duties (bcell c) 0 \ ∅) (fun d => (sch X Wt).payload (bcell c) 0 d) = iprop(barPay c 0 ∗ barPay c 1) := by
  rw [Finset.sdiff_empty, bar_duties, bigSep_insert (by decide), bigSep_singleton, bar_payload, bar_payload]; rfl

theorem wp_meetWait (c : Dev nD) (l : List TK) (hl : ∀ x ∈ l, 1 < ix x) (q : PG F) (Q : PUnit → sProp 𝕄) :
    iprop(Ctx X Wt Kn ιn ∗ atPos ER (bcell c) 0 ∅ 0 ∗ (cred (tallyAt (bcell c) 1 1) ∗ cred (tallyAt (bcell c) 1 1)) ∗ Owe c l)
      ⊢ iprop(((barPay c 0 ∗ barPay c 1 ∗ atPos ER (bcell c) 1 ∅ 0 ∗ Owe c l) -∗ WP c q Q) -∗ WP c ((semWaitWord barS.sem 2#32).bind fun _ => q) Q) := by
  simp only [semWaitWord, Prog.bind_op, Prog.bind_ret]
  unfold Owe
  iintro ⟨#HC, Hat, Hcr, ⟨%W, Ho⟩⟩ Hk
  ihave Hcr := (cred_two (bcell c) 1) $$ Hcr
  iapply (Rounds.wp_wait_rest_token 𝒱₀ ER (sch X Wt) (c : Thread nD τ) none (κ := Kn (c, kBar)) (wpE_semWait_eq 𝒱₀ (c : Thread nD τ) none Set.univ) (Set.mem_univ _)
    1 (O := owedL c l) (W := W) (R := 0) (m := 0) (T := ∅)
    (by rw [bar_expect]; rfl)) $$ [Hat Hcr Ho]
  · isplitr; · iapply (ctx_cell X Wt Kn ιn c kBar); iexact HC
    isplitl [Hcr]; · iexact Hcr
    isplitl [Ho]; · iexact Ho
    isplitr; · iapply (ctx_wait X Wt Kn ιn c (semO kBar) 1 l (by omega) hl); iexact HC
    iexact Hat
  iintro ⟨Ho, Hat, -, Hp⟩
  ihave Hp := (Entails.of_eq (bar_payloads X Wt c)) $$ Hp
  icases Hp with ⟨H0, H1⟩
  iapply Hk
  isplitl [H0]; · iexact H0
  isplitl [H1]; · iexact H1
  isplitl [Hat]; · iexact Hat
  iexists _; iexact Ho

theorem proL_gt : ∀ x ∈ proL, 1 < ix x := by
  have h : ∀ x ∈ stepL 0 1 (midL 12 (by decide)), 1 < ix x := by
    have h0 : ∀ x ∈ midL 12 (by decide), 1 < ix x := fun x hx => by have := midL_gt 12 (by decide) x hx; omega
    exact lt_two (by decide) (by decide) (lt_two (by decide) (by decide) (lt_two (by decide) (by decide) (lt_two (by decide) (by decide) h0)))
  exact lt_two (by decide) (by decide) (lt_two (by decide) (by decide) h)

theorem meet_run (c : Dev nD) (q : PG F) (Q : PUnit → sProp 𝕄) :
    iprop(Ctx X Wt Kn ιn ∗ (four fun u => mayStart u c) ∗ (dutyTok ER (bcell (nxt c)) 0 0 ∗ dutyTok ER (bcell (prv c)) 0 1)
        ∗ atPos ER (bcell c) 0 ∅ 0 ∗ (cred (tallyAt (bcell c) 1 1) ∗ cred (tallyAt (bcell c) 1 1)) ∗ Owe c allL)
      ⊢ iprop((((four fun u => mayStart u (dn u c)) ∗ atPos ER (bcell c) 1 ∅ 0 ∗ Owe c proL) -∗ WP c q Q) -∗ WP c (meet c q) Q) := by
  have e0 : (barPay (F := F) (nxt c) 0 : sProp 𝕄) = iprop(mayStart 2 c ∗ mayStart 3 c) := by
    unfold barPay mayStart; rw [if_pos rfl, prv_nxt]
  have e1 : (barPay (F := F) (prv c) 1 : sProp 𝕄) = iprop(mayStart 0 c ∗ mayStart 1 c) := by
    unfold barPay mayStart; rw [if_neg (by decide), nxt_prv]
  have e2 : (barPay (F := F) c 0 : sProp 𝕄) = iprop(mayStart 2 (prv c) ∗ mayStart 3 (prv c)) := by
    unfold barPay mayStart; rw [if_pos rfl]
  have e3 : (barPay (F := F) c 1 : sProp 𝕄) = iprop(mayStart 0 (nxt c) ∗ mayStart 1 (nxt c)) := by
    unfold barPay mayStart; rw [if_neg (by decide)]
  unfold meet four
  iintro ⟨#HC, #HM, ⟨Ht0, Ht1⟩, Hat, Hcr, Ho⟩ Hk
  iapply (wp_meetOne X Wt Kn ιn c _ 1 (dev1_eq c) (tBar 0 :: proL) _ Q) $$ [Ht1 Ho]
  · isplitr; · iexact HC
    isplitl [Ht1]; · iexact Ht1
    isplitr
    · iapply (Entails.of_eq e1.symm)
      icases HM with ⟨H0, -, H1, -⟩
      isplitr; · iexact H0
      iexact H1
    iexact Ho
  iintro Ho
  iapply (wp_meetOne X Wt Kn ιn c _ 0 (dev2_eq c) proL _ Q) $$ [Ht0 Ho]
  · isplitr; · iexact HC
    isplitl [Ht0]; · iexact Ht0
    isplitr
    · iapply (Entails.of_eq e0.symm)
      icases HM with ⟨-, H2, -, H3⟩
      isplitr; · iexact H2
      iexact H3
    iexact Ho
  iintro Ho
  iapply (wp_meetWait X Wt Kn ιn c proL proL_gt q Q) $$ [Hat Hcr Ho]
  · isplitr; · iexact HC
    isplitl [Hat]; · iexact Hat
    isplitl [Hcr]; · iexact Hcr
    iexact Ho
  iintro ⟨H0, H1, Hat, Ho⟩
  ihave H0 := (Entails.of_eq e2) $$ H0
  ihave H1 := (Entails.of_eq e3) $$ H1
  icases H0 with ⟨H2, H3⟩
  icases H1 with ⟨H0, H1⟩
  iapply Hk
  isplitl [H0 H1 H2 H3]
  · isplitl [H0]; · iexact H0
    isplitl [H2]; · iexact H2
    isplitl [H1]; · iexact H1
    iexact H3
  isplitl [Hat]; · iexact Hat
  iexact Ho

/-! ## Copying in, and the first messages -/

abbrev xInPts (c : Dev nD) (f : (cc0_stg0_0 : Ref sig .tc).ty.Contents (Elt F)) : sProp 𝕄 := ((c : Thread nD τ).loc cc0_stg0_0) ↦{fullShare} f
abbrev wInPts (c : Dev nD) (f : (cc0_stg1_0 : Ref sig .tc).ty.Contents (Elt F)) : sProp 𝕄 := ((c : Thread nD τ).loc cc0_stg1_0) ↦{fullShare} f

theorem off_zero : (![0, 0] : Fin 2 → ℕ) = fun _ => 0 := by decide

theorem wp_copyW (c : Dev nD) (f) (q : PG F) (Q : PUnit → sProp 𝕄) :
    iprop(wInPts c (Wt c) ∗ wPts c f) ⊢ iprop(((wInPts c (Wt c) ∗ wPts c (Wt c)) -∗ WP c q Q) -∗ WP c (copyW q) Q) := by
  have e : (wM.access wAll : View sig .tc _ _ _).write (Elt F) f (shapeCast S256x8192 (shapeCast S256x8192 (wIn.view.readAt (Elt F) wAll.toLoadRect (Wt c)) shapeCasts_S256x8192_S256x8192) shapeCasts_S256x8192_S256x8192) Finset.univ = Wt c :=
    (Memref.write_access_unit_zero_univ (Elt F) cc0_scratch1 off_zero _ f _).trans
      (((shapeCast_self _ _).trans (shapeCast_self _ _)).trans (Memref.readAt_unit_zero (Elt F) cc0_stg1_0 off_zero _ (Wt c)))
  unfold copyW
  iintro ⟨Hi, Hw⟩ Hk
  iapply (wp_load 𝒱₀ (c : Thread nD τ) none Set.univ (m := wIn) (Finset.subset_univ _)) $$ Hi; iintro Hi
  iapply (wp_load 𝒱₀ (c : Thread nD τ) none Set.univ (m := wM) (Finset.subset_univ _)) $$ Hw; iintro Hw
  iapply (wp_store 𝒱₀ (c : Thread nD τ) none Set.univ (m := wM) (r := wAll) (Mk := Finset.univ) (Finset.subset_univ _)) $$ Hw; iintro Hw
  rw [e]
  iapply Hk
  isplitl [Hi]; · iexact Hi
  iexact Hw

theorem wp_copyX (c : Dev nD) (f) (q : PG F) (Q : PUnit → sProp 𝕄) :
    iprop(xInPts c (X c) ∗ xPts c f) ⊢ iprop(((xInPts c (X c) ∗ xPts c (X c)) -∗ WP c q Q) -∗ WP c (copyX q) Q) := by
  have e : (xM.access xAll : View sig .tc _ _ _).write (Elt F) f (shapeCast S4096x256 (shapeCast S4096x256 (xIn.view.readAt (Elt F) xAll.toLoadRect (X c)) shapeCasts_S4096x256_S4096x256) shapeCasts_S4096x256_S4096x256) Finset.univ = X c :=
    (Memref.write_access_unit_zero_univ (Elt F) cc0_scratch0 off_zero _ f _).trans
      (((shapeCast_self _ _).trans (shapeCast_self _ _)).trans (Memref.readAt_unit_zero (Elt F) cc0_stg0_0 off_zero _ (X c)))
  unfold copyX
  iintro ⟨Hi, Hw⟩ Hk
  iapply (wp_load 𝒱₀ (c : Thread nD τ) none Set.univ (m := xIn) (Finset.subset_univ _)) $$ Hi; iintro Hi
  iapply (wp_load 𝒱₀ (c : Thread nD τ) none Set.univ (m := xM) (Finset.subset_univ _)) $$ Hw; iintro Hw
  iapply (wp_store 𝒱₀ (c : Thread nD τ) none Set.univ (m := xM) (r := xAll) (Mk := Finset.univ) (Finset.subset_univ _)) $$ Hw; iintro Hw
  rw [e]
  iapply Hk
  isplitl [Hi]; · iexact Hi
  iexact Hw

/-- Rows copied in are rows of the operand. -/
theorem copied (c : Dev nD) (off : Fin 2 → ℕ) (hb : ∀ a, off a + S256x256.size a ≤ S4096x256.size a) (u : Fin 4) (d : ℕ) (hd : d ≤ 128) (h0 : off0 c u 0 = off 0 + d) (h1 : off0 c u 1 = off 1)
    (f : (cc0_scratch0 : Ref sig .tc).ty.Contents (Elt F)) :
    xM.view.readAt (Elt F) (xR0 c u).toLoadRect ((xM.access (Rect.unit (s := S4096x256) off S256x256.size hb) : View sig .tc _ _ _).write (Elt F) f
      (shapeCast S256x256 (shapeCast S256x256 (xIn.view.readAt (Elt F) (Rect.unit (s := S4096x256) off S256x256.size hb).toLoadRect (X c)) shapeCasts_S256x256_S256x256) shapeCasts_S256x256_S256x256) Finset.univ)
      = x0 X u c := by
  rw [shapeCast_self, show shapeCast S256x256 (xIn.view.readAt (Elt F) (Rect.unit (s := S4096x256) off S256x256.size hb).toLoadRect (X c)) shapeCasts_S256x256_S256x256
    = xIn.view.readAt (Elt F) (Rect.unit (s := S4096x256) off S256x256.size hb).toLoadRect (X c) from shapeCast_self _ _]
  unfold x0
  funext i
  have hi0 : (i 0).val < 128 := (i 0).isLt
  have hi1 : (i 1).val < 256 := (i 1).isLt
  let j : S256x256.Idx := fun a => match a with | 0 => ⟨d + (i 0).val, by show d + (i 0).val < 256; omega⟩ | 1 => ⟨(i 1).val, hi1⟩
  have e : (xR0 c u).emb i = (Rect.unit (s := S4096x256) off S256x256.size hb).emb j := by
    funext a; apply Fin.ext
    match a with
    | 0 =>
      rw [Rect.emb_apply, Rect.emb_apply]
      show off0 c u 0 + 1 * (i 0).val = off 0 + 1 * (d + (i 0).val); omega
    | 1 =>
      rw [Rect.emb_apply, Rect.emb_apply]
      show off0 c u 1 + 1 * (i 1).val = off 1 + 1 * (i 1).val; omega
  show (xM.access (Rect.unit (s := S4096x256) off S256x256.size hb) : View sig .tc _ _ _).write (Elt F) f _ Finset.univ ((xR0 c u).emb i) = X c ((xR0 c u).emb i)
  rw [e]
  exact View.write_emb_of_mem (v := xM.view.slice (Rect.unit (s := S4096x256) off S256x256.size hb)) f _ (Finset.mem_univ j)

theorem off0_eq0 : ∀ (c : Dev nD), (off0 c 0 0 = k0_off1 c 0 + 0 ∧ off0 c 0 1 = k0_off1 c 1) ∧ (off0 c 1 0 = k0_off1 c 0 + 128 ∧ off0 c 1 1 = k0_off1 c 1) := by decide +kernel
theorem off0_eq2 : ∀ (c : Dev nD), (off0 c 2 0 = k0_off3 c 0 + 0 ∧ off0 c 2 1 = k0_off3 c 1) ∧ (off0 c 3 0 = k0_off3 c 0 + 128 ∧ off0 c 3 1 = k0_off3 c 1) := by decide +kernel

/-- A unit ready for its first message. -/
def U2 (u : Fin 4) (c : Dev nD) : sProp 𝕄 := iprop(U1 u c ∗ mayStart u (dn u c))

theorem unit_init (c : Dev nD) (u : Fin 4) (l : List TK) (f) (hf : xM.view.readAt (Elt F) (xR0 c u).toLoadRect f = x0 X u c) (q : PG F) (Q : PUnit → sProp 𝕄) :
    iprop(Ctx X Wt Kn ιn ∗ relA c ∗ (xPts c f ∗ wPts c (Wt c)) ∗ U2 u c ∗ Owe c (tMsg u 0 :: l))
      ⊢ iprop((((xPts c f ∗ wPts c (Wt c)) ∗ St0 u c ∗ Owe c l) -∗ WP c q Q) -∗ WP c (unitInit c u q) Q) := by
  unfold unitInit U2 U1 St0 rights mayStart
  rw [ico_head (show 0 < 15 by decide) (tokM u c)]
  iintro ⟨#HC, #HA, ⟨Hx, Hw⟩, ⟨⟨⟨Ha0, Ha1⟩, ⟨Hs0, Hs1⟩, Hr, ⟨⟨Hm, HM⟩, HR⟩, Hc⟩, #Hc0, Hc1⟩, Ho⟩ Hk
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [hf]
  iapply (wp_putAcc c u 0 _ _ Q) $$ Ha0
  iintro Hacc
  iapply (wp_send X Wt Kn ιn c u 0 0 rfl l q Q) $$ [Hacc Hs0 Hm Ho]
  · isplitr; · iexact HC
    isplitl [Hacc]; · iexact Hacc
    isplitr; · iapply (Entails.of_eq (show relA c = relUp (F := F) u 0 c from rfl)); iexact HA
    isplitl [Hs0]; · iexact Hs0
    isplitl [Hm]; · iexact Hm
    isplitr; · iexact Hc0
    iexact Ho
  iintro ⟨Hi, Ho⟩
  iapply Hk
  isplitl [Hx Hw]
  · isplitl [Hx]; · iexact Hx
    iexact Hw
  isplitr [Ho]
  · isplitl [Hi Ha1 Hs1]
    · isplitl [Hi]; · iexact Hi
      isplitl [Ha1]; · iexact Ha1
      iexact Hs1
    isplitl [Hr]; · iexact Hr
    isplitl [HM HR]
    · isplitl [HM]; · iexact HM
      iexact HR
    isplitl [Hc]; · iexact Hc
    iexact Hc1
  iexact Ho

theorem prologue_run (c : Dev nD) (f) (g) (q : PG F) (Q : PUnit → sProp 𝕄) :
    iprop(Ctx X Wt Kn ιn ∗ relA c ∗ (xInPts c (X c) ∗ wInPts c (Wt c)) ∗ (xPts c f ∗ wPts c g) ∗ (four fun u => U2 u c) ∗ Owe c proL)
      ⊢ iprop((((xInPts c (X c) ∗ wInPts c (Wt c)) ∗ bufs X Wt c ∗ (four fun u => St0 u c) ∗ Owe c ringL) -∗ WP c q Q) -∗ WP c (prologue c q) Q) := by
  unfold prologue four bufs
  iintro ⟨#HC, #HA, ⟨Hxi, Hwi⟩, ⟨Hx, Hw⟩, ⟨U0, U2, U1, U3⟩, Ho⟩ Hk
  iapply (wp_copyW Wt c g _ Q) $$ [Hwi Hw]
  · isplitl [Hwi]; · iexact Hwi
    iexact Hw
  iintro ⟨Hwi, Hw⟩
  unfold copyX1
  iapply (wp_load 𝒱₀ (c : Thread nD τ) none Set.univ (m := xIn) (Finset.subset_univ _)) $$ Hxi; iintro Hxi
  iapply (wp_load 𝒱₀ (c : Thread nD τ) none Set.univ (m := xM) (Finset.subset_univ _)) $$ Hx; iintro Hx
  iapply (wp_store 𝒱₀ (c : Thread nD τ) none Set.univ (m := xM) (r := xBlk1 c) (Mk := Finset.univ) (Finset.subset_univ _)) $$ Hx; iintro Hx
  iapply (unit_init X Wt Kn ιn c 0 _ _ (copied X c (k0_off1 c) (k0_off1_inb c) 0 0 (by decide) (off0_eq0 c).1.1 (off0_eq0 c).1.2 f) _ Q) $$ [Hx Hw U0 Ho]
  · isplitr; · iexact HC
    isplitr; · iexact HA
    isplitl [Hx Hw]
    · isplitl [Hx]; · iexact Hx
      iexact Hw
    isplitl [U0]; · iexact U0
    iexact Ho
  iintro ⟨Hxw, U0, Ho⟩
  iapply (unit_init X Wt Kn ιn c 1 _ _ (copied X c (k0_off1 c) (k0_off1_inb c) 1 128 (by decide) (off0_eq0 c).2.1 (off0_eq0 c).2.2 f) _ Q) $$ [Hxw U1 Ho]
  · isplitr; · iexact HC
    isplitr; · iexact HA
    isplitl [Hxw]; · iexact Hxw
    isplitl [U1]; · iexact U1
    iexact Ho
  iintro ⟨⟨Hx, Hw⟩, U1, Ho⟩
  unfold copyX3
  iapply (wp_load 𝒱₀ (c : Thread nD τ) none Set.univ (m := xIn) (Finset.subset_univ _)) $$ Hxi; iintro Hxi
  iapply (wp_load 𝒱₀ (c : Thread nD τ) none Set.univ (m := xM) (Finset.subset_univ _)) $$ Hx; iintro Hx
  iapply (wp_store 𝒱₀ (c : Thread nD τ) none Set.univ (m := xM) (r := xBlk3 c) (Mk := Finset.univ) (Finset.subset_univ _)) $$ Hx; iintro Hx
  iapply (unit_init X Wt Kn ιn c 2 _ _ (copied X c (k0_off3 c) (k0_off3_inb c) 2 0 (by decide) (off0_eq2 c).1.1 (off0_eq2 c).1.2 _) _ Q) $$ [Hx Hw U2 Ho]
  · isplitr; · iexact HC
    isplitr; · iexact HA
    isplitl [Hx Hw]
    · isplitl [Hx]; · iexact Hx
      iexact Hw
    isplitl [U2]; · iexact U2
    iexact Ho
  iintro ⟨Hxw, U2, Ho⟩
  iapply (unit_init X Wt Kn ιn c 3 _ _ (copied X c (k0_off3 c) (k0_off3_inb c) 3 128 (by decide) (off0_eq2 c).2.1 (off0_eq2 c).2.2 _) _ Q) $$ [Hxw U3 Ho]
  · isplitr; · iexact HC
    isplitr; · iexact HA
    isplitl [Hxw]; · iexact Hxw
    isplitl [U3]; · iexact U3
    iexact Ho
  iintro ⟨⟨Hx, Hw⟩, U3, Ho⟩
  iapply (wp_copyX X c _ _ Q) $$ [Hxi Hx]
  · isplitl [Hxi]; · iexact Hxi
    iexact Hx
  iintro ⟨Hxi, Hx⟩
  iapply Hk
  isplitl [Hxi Hwi]
  · isplitl [Hxi]; · iexact Hxi
    iexact Hwi
  isplitl [Hx Hw]
  · isplitl [Hx]; · iexact Hx
    iexact Hw
  isplitr [Ho]
  · isplitl [U0]; · iexact U0
    isplitl [U2]; · iexact U2
    isplitl [U1]; · iexact U1
    iexact U3
  iexact Ho

end Cert.KernelIdeal.Own

end
-- ==== Proof.After.lean ====
module

public import proofs.«01_k».proof.Proof.Before

/-! # After the ring

The largest entries go round, and every device puts its rows through the quantiser. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (X : Dev nD → (cc0_scratch0 : Ref sig .tc).ty.Contents (Elt F)) (Wt : Dev nD → (cc0_scratch1 : Ref sig .tc).ty.Contents (Elt F))
variable (Kn : Dev nD × KK → ℕ) (ιn : Key → ℕ)

/-! ## Rows -/

theorem row_mem (i : Dev nD) (x : S16x8x128.Idx) : x ∈ (rowTo i).view.set ↔ (x 0).val = i.val := by
  constructor
  · intro h
    obtain ⟨j, -, rfl⟩ := Finset.mem_map.mp h
    show (k0_off9 i) 0 + 1 * (j 0).val = i.val
    rw [k0_off9_eq]
    have : (j 0).val < 1 := (j 0).isLt
    show i.val + 1 * (j 0).val = i.val; omega
  · intro h
    refine Finset.mem_map.mpr ⟨fun a => match a with | 0 => ⟨0, by decide⟩ | 1 => x 1 | 2 => x 2, Finset.mem_univ _, ?_⟩
    funext a; apply Fin.ext
    match a with
    | 0 => show (k0_off9 i) 0 + 1 * 0 = (x 0).val; rw [k0_off9_eq, h]; rfl
    | 1 => show (k0_off9 i) 1 + 1 * (x 1).val = (x 1).val; rw [k0_off9_eq]; show 0 + 1 * (x 1).val = _; omega
    | 2 => show (k0_off9 i) 2 + 1 * (x 2).val = (x 2).val; rw [k0_off9_eq]; show 0 + 1 * (x 2).val = _; omega

abbrev aBufPts (c : Dev nD) (f : (cc0_scratch23 : Ref sig .tc).ty.Contents (Elt F)) : sProp 𝕄 := ((c : Thread nD τ).loc cc0_scratch23) ↦{fullShare} f

theorem rows_univ : (Finset.univ : Finset S16x8x128.Idx) = Finset.univ.biUnion fun i : Dev nD => (rowTo i).view.set := by
  ext x
  simp only [Finset.mem_univ, true_iff]
  exact Finset.mem_biUnion.mpr ⟨⟨(x 0).val, (x 0).isLt⟩, Finset.mem_univ _, (row_mem _ x).mpr rfl⟩
theorem rows_disjoint (i j : Dev nD) (h : i ≠ j) : Disjoint (rowTo i).view.set (rowTo j).view.set :=
  Finset.disjoint_left.mpr fun x hi hj => h (Fin.ext (((row_mem i x).mp hi).symm.trans ((row_mem j x).mp hj)))

theorem rows_eq (c : Dev nD) (f : (cc0_scratch23 : Ref sig .tc).ty.Contents (Elt F)) :
    (aBufPts c f : sProp 𝕄) = bigSep Finset.univ fun i : Dev nD => rowPts c i f := by
  show (((c : Thread nD τ).loc cc0_scratch23) ↦[(Finset.univ : Finset S16x8x128.Idx)]{fullShare} f : sProp 𝕄) = _
  rw [rows_univ]
  exact pointsTo_biUnion (ℓ := (c : Thread nD τ).loc cc0_scratch23) Finset.univ (fun i : Dev nD => (rowTo i).view.set) fun i _ j _ h => rows_disjoint i j h

theorem shift_inj (c : Dev nD) : Function.Injective fun k : Fin 15 => shift k c := by revert c; decide +kernel
theorem dev_univ : ∀ c : Dev nD, (Finset.univ : Finset (Dev nD)) = insert c (Finset.univ.image fun k : Fin 15 => shift k c) := by decide +kernel
theorem devs_eq (c : Dev nD) (Φ : Dev nD → sProp 𝕄) : bigSep Finset.univ Φ = iprop(Φ c ∗ bigSep Finset.univ fun k : Fin 15 => Φ (shift k c)) := by
  have e : (Finset.univ.image fun k : Fin 15 => shift k c) = Finset.univ.map ⟨fun k : Fin 15 => shift k c, shift_inj c⟩ := by
    rw [Finset.map_eq_image]; rfl
  have hc : c ∉ (Finset.univ.image fun k : Fin 15 => shift k c) := by
    intro h; obtain ⟨k, -, hk⟩ := Finset.mem_image.mp h; exact shift_ne k c hk
  rw [dev_univ c, sep_insert hc, e, bigSep_map]; rfl

theorem aSrc_set : (aSrc : Memref sig .tc .vmem S1x8x128 .f32).view.set = Finset.univ := View.set_whole _

/-! ## The device's largest entry -/

def aSrcAny (c : Dev nD) : sProp 𝕄 := iprop(∃ f, aSrcPts c fullShare f)

theorem off3_zero : (![0, 0, 0] : Fin 3 → ℕ) = fun _ => 0 := by decide

theorem spread_eq (m : F .f32) : spread m = fun _ => m := by unfold spread; exact shapeCast_self _ _

theorem own_write (c : Dev nD) (f : (cc0_scratch23 : Ref sig .tc).ty.Contents (Elt F)) :
    ∀ x ∈ (rowTo c).view.set, (aBuf.access (rowOwn c) : View sig .tc _ _ _).write (Elt F) f (again (fun _ => lmax X Wt c)) Finset.univ x = amaxB X Wt x := by
  intro x hx
  have h0 := (row_mem c x).mp hx
  let j : S1x8x128.Idx := fun a => match a with | 0 => ⟨0, by decide⟩ | 1 => x 1 | 2 => x 2
  have e : x = (rowOwn c).emb j := by
    funext a; apply Fin.ext
    match a with
    | 0 => show (x 0).val = (k0_off7 c) 0 + 1 * 0; rw [k0_off7_eq, h0]; rfl
    | 1 => show (x 1).val = (k0_off7 c) 1 + 1 * (x 1).val; rw [k0_off7_eq]; show _ = 0 + 1 * (x 1).val; omega
    | 2 => show (x 2).val = (k0_off7 c) 2 + 1 * (x 2).val; rw [k0_off7_eq]; show _ = 0 + 1 * (x 2).val; omega
  have ha : amaxB X Wt x = lmax X Wt c := by
    unfold amaxB; exact congrArg (lmax X Wt) (Fin.ext h0)
  rw [ha, e]
  refine (View.write_emb_of_mem (v := aBuf.view.slice (rowOwn c)) f _ (Finset.mem_univ j)).trans ?_
  show again (fun _ => lmax X Wt c) j = _
  unfold again; rw [shapeCast_self]

theorem own_sub (c : Dev nD) : (aBuf.access (rowOwn c)).setOn Finset.univ ⊆ (rowTo c).view.set := by
  intro x hx
  obtain ⟨j, -, rfl⟩ := Finset.mem_map.mp hx
  refine (row_mem c _).mpr ?_
  show (k0_off7 c) 0 + 1 * (j 0).val = c.val
  rw [k0_off7_eq]
  have : (j 0).val < 1 := (j 0).isLt
  show c.val + 1 * (j 0).val = c.val; omega

theorem wp_putMax (c : Dev nD) (q : PG F) (Q : PUnit → sProp 𝕄) :
    iprop(aSrcAny c ∗ rowAny c c) ⊢ iprop(((aSrcPts c fullShare (fun _ => lmax X Wt c) ∗ rowPts c c (amaxB X Wt)) -∗ WP c q Q) -∗ WP c (putMax c (lmax X Wt c) q) Q) := by
  unfold aSrcAny rowAny putMax
  iintro ⟨⟨%f, Ha⟩, ⟨%g, Hb⟩⟩ Hk
  iapply (wp_load 𝒱₀ (c : Thread nD τ) none Set.univ (m := aSrc) (by rw [aSrc_set]; exact Finset.subset_univ _)) $$ Ha; iintro Ha
  iapply (wp_store 𝒱₀ (c : Thread nD τ) none Set.univ (m := aSrc) (r := aAll) (Mk := Finset.univ) (by rw [aSrc_set]; exact Finset.subset_univ _)) $$ Ha; iintro Ha
  rw [show (aSrc.access aAll : View sig .tc _ _ _).write (Elt F) f (spread (lmax X Wt c)) Finset.univ = fun _ => lmax X Wt c from
    (Memref.write_access_unit_zero_univ (Elt F) cc0_scratch22 off3_zero _ f _).trans (spread_eq _)]
  iapply (wp_load 𝒱₀ (c : Thread nD τ) none Set.univ (m := aSrc) (by rw [aSrc_set]; exact Finset.subset_univ _)) $$ Ha; iintro Ha
  rw [show aSrc.view.readAt (Elt F) aAll.toLoadRect (fun _ => lmax X Wt c) = fun _ => lmax X Wt c from rfl]
  iapply (wp_load 𝒱₀ (c : Thread nD τ) none Set.univ (m := aBuf) (r := (rowOwn c).toLoadRect) (S := (rowTo c).view.set) (by
    have h := own_sub c; rwa [View.setOn_univ, View.set_slice] at h)) $$ Hb; iintro Hb
  iapply (wp_store 𝒱₀ (c : Thread nD τ) none Set.univ (m := aBuf) (r := rowOwn c) (Mk := Finset.univ) (S := (rowTo c).view.set) (own_sub c)) $$ Hb; iintro Hb
  iapply Hk
  isplitl [Ha]; · iexact Ha
  iapply (Entails.of_eq (pointsTo_congr (own_write X Wt c g))); iexact Hb

/-! ## Sending it -/

/-- The right to send the largest entry to the `k`-th device on the right. -/
def tokA (c : Dev nD) (k : Fin 15) : sProp 𝕄 :=
  iprop(dutyTok ER (kcell c (kAsn k)) 0 0 ∗ dutyTok ER (kcell (shift k c) (kArc c)) 0 0 ∗ Release.writeTok EL ((shift k c, .inr k) : Key) 1)

theorem dutK_asn (c : Dev nD) (k) : dutK c 0 (kAsn k) = {0} := by unfold dutK; exact if_pos rfl
theorem dutK_arc (c i : Dev nD) (h : i ≠ c) : dutK c 0 (kArc i) = {0} := by unfold dutK; exact if_pos ⟨rfl, h⟩

theorem sent_row (c : Dev nD) (fd : (cc0_scratch23 : Ref sig .tc).ty.Contents (Elt F)) :
    ∀ x ∈ (rowTo c).view.set, (rowTo c).view.write (Elt F) fd (aSrc.view.read (Elt F) (fun _ => lmax X Wt c)) Finset.univ x = amaxB X Wt x := by
  intro x hx
  have h0 := (row_mem c x).mp hx
  have ha : amaxB X Wt x = lmax X Wt c := by unfold amaxB; exact congrArg (lmax X Wt) (Fin.ext h0)
  rw [ha]
  obtain ⟨j, -, rfl⟩ := Finset.mem_map.mp hx
  exact View.write_emb_of_mem (v := (rowTo c).view) fd _ (Finset.mem_univ j)

theorem wp_sendMaxTo (c n : Dev nD) (k : Fin 15) (hn : n = shift k c)
    {hsc : (rowTo c).view.ref.isScScratch = false} {hsrc : (aSrc : Memref sig .tc .vmem S1x8x128 .f32).view.WordExact} {hdst : (rowTo c).view.WordExact}
    {hsem : DmaTarget.Typed .vmem (.dma (arTo c).sem) (.remote (Dev.tc n : Thread nD τ) (rowTo c) (.dma (asS k).sem) hsc)}
    (l : List TK) (q : PG F) (Q : PUnit → sProp 𝕄) :
    iprop(Ctx X Wt Kn ιn ∗ aSrcPts c (shr k) (fun _ => lmax X Wt c) ∗ tokA c k ∗ Release.released EL ((shift k c, .inr k) : Key) 1 ∗ Owe c (tAmx k :: l))
      ⊢ iprop(((cred (tallyAt (kcell c (kAsn k)) 0 NA) ∗ Owe c l) -∗ WP c q Q)
        -∗ WP c (.op (.enqueueDma aSrc (.remote (Dev.tc n : Thread nD τ) (rowTo c) (.dma (asS k).sem) hsc) (.dma (arTo c).sem) hsrc hdst hsem) fun _ => q) Q) := by
  subst hn
  unfold tokA Owe
  iintro ⟨#HC, Hsrc, ⟨Ht1, Ht2, Hw⟩, #Hrel, ⟨%W, Ho⟩⟩ Hk
  imod (Release.slot_take EL (Set.mem_univ (ιn (shift k c, .inr k))) (k := ((shift k c, .inr k) : Key)) (S := Sl (F := F) (shift k c, .inr k)) 1) $$ [Hw] with Hdst
  · isplitr; · iapply (ctx_slot X Wt Kn ιn (shift k c, .inr k)); iexact HC
    isplitr; · iexact Hrel
    iexact Hw
  ihave Hdst := (Entails.of_eq (show Sl (F := F) (shift k c, .inr k) = rowAny (shift k c) c by unfold Sl; dsimp only; rw [src_shift])) $$ Hdst
  unfold rowAny
  icases Hdst with ⟨%fd, Hdst⟩
  iapply (Rounds.wp_send_pointsTo_with 𝒱₀ ER (sch X Wt) (c : Thread nD τ) none (κ₁ := Kn (c, kAsn k)) (κ₂ := Kn (shift k c, kArc c))
    (r₁ := 0) (r₂ := 0) (d₁ := 0) (d₂ := 0) (fs := fun _ => lmax X Wt c) (q := shr k) (fd := fd) (F := iprop(emp))
    (sS := semO (kAsn k)) (sem := semO (kArc c))
    (by rw [sch_duties X Wt c (kAsn k), dutK_asn]; exact Finset.mem_singleton_self _)
    (by rw [sch_duties X Wt (shift k c) (kArc c), dutK_arc _ _ (shift_ne k c).symm]; exact Finset.mem_singleton_self _)
    100 0 NA (credit_row c) (sch_amount X Wt c (kAsn k) _ _) (sch_amount X Wt (shift k c) (kArc c) _ _)
    (owedL c l) (owedL_cons c (tAmx k) l) (W := W)
    (by rw [sch_payload X Wt c (kAsn k)]; unfold payK; iintro H; iexact H)
    (by
      rw [sch_payload X Wt (shift k c) (kArc c)]; unfold payK; dsimp only
      iintro ⟨H, -⟩
      iapply (Entails.of_eq (pointsTo_congr (ℓ := (shift k c : Thread nD τ).loc cc0_scratch23) (sent_row X Wt c fd)))
      iexact H)) $$ [Hsrc Hdst Ho Ht1 Ht2]
  · isplitr; · iapply (ctx_cell X Wt Kn ιn c (kAsn k)); iexact HC
    isplitr; · iapply (ctx_cell X Wt Kn ιn (shift k c) (kArc c)); iexact HC
    isplitl [Hsrc]; · iexact Hsrc
    isplitl [Hdst]
    · isplitl [Hdst]; · iexact Hdst
      iempintro
    isplitl [Ho]; · iexact Ho
    isplitl [Ht1]; · iexact Ht1
    isplitr; · iapply (ctx_reached X Wt Kn ιn c (kAsn k)); iexact HC
    isplitl [Ht2]; · iexact Ht2
    iapply (ctx_reached X Wt Kn ιn (shift k c) (kArc c)); iexact HC
  iintro ⟨Hcr, Ho⟩
  iapply Hk
  isplitl [Hcr]; · iexact Hcr
  iexists W; iexact Ho

theorem wp_sendMax (c : Dev nD) (k : Fin 15) (l : List TK) (q : PG F) (Q : PUnit → sProp 𝕄) :
    iprop(Ctx X Wt Kn ιn ∗ aSrcPts c (shr k) (fun _ => lmax X Wt c) ∗ tokA c k ∗ Release.released EL ((shift k c, .inr k) : Key) 1 ∗ Owe c (tAmx k :: l))
      ⊢ iprop(((cred (tallyAt (kcell c (kAsn k)) 0 NA) ∗ Owe c l) -∗ WP c q Q) -∗ WP c (sendMax c k q) Q) :=
  wp_sendMaxTo X Wt Kn ιn c (devAmx c k) k (devAmx_eq c k) l q Q

/-! ## Receiving the others' -/

theorem arFrom_sem (c : Dev nD) (k : Fin 15) : (arFrom c k).sem = (arTo (shift k c)).sem := by revert c k; decide +kernel

theorem wp_recvMax (c : Dev nD) (k : Fin 15) (q : PG F) (Q : PUnit → sProp 𝕄) :
    iprop(Ctx X Wt Kn ιn ∗ (atPos ER (kcell c (kArc (shift k c))) 0 ∅ 0 ∗ cred (tallyAt (kcell c (kArc (shift k c))) 100 NA)) ∗ Owe c [])
      ⊢ iprop((((atPos ER (kcell c (kArc (shift k c))) 1 ∅ 0 ∗ rowPts c (shift k c) (amaxB X Wt)) ∗ Owe c []) -∗ WP c q Q) -∗ WP c (recvMax c k q) Q) := by
  unfold recvMax
  rw [arFrom_sem]
  iintro ⟨#HC, ⟨Hat, Hcr⟩, Ho⟩ Hk
  iapply (wp_wait_one X Wt Kn ιn c (kArc (shift k c)) 0 100 [] (dutK_arc c _ (shift_ne k c)) (by decide) (fun x hx => absurd hx (List.not_mem_nil))
    (fun K => (wpE_waitDma2_eq 𝒱₀ (c : Thread nD τ) none Set.univ K).trans (by rw [credit_rowFrom]; rfl)) q Q) $$ [Hat Hcr Ho]
  · isplitr; · iexact HC
    isplitl [Hat]; · iexact Hat
    isplitl [Hcr]; · iexact Hcr
    iexact Ho
  iintro ⟨Hp, Hat, -, Ho⟩
  iapply Hk
  isplitr [Ho]
  · isplitl [Hat]; · iexact Hat
    iapply (Entails.of_eq (show payK X Wt c 0 0 (kArc (shift k c)) = rowPts c (shift k c) (amaxB X Wt) by unfold payK; rfl)); iexact Hp
  iexact Ho

theorem wp_sentMax (c : Dev nD) (k : Fin 15) (q : PG F) (Q : PUnit → sProp 𝕄) :
    iprop(Ctx X Wt Kn ιn ∗ (atPos ER (kcell c (kAsn k)) 0 ∅ 0 ∗ cred (tallyAt (kcell c (kAsn k)) 0 NA)) ∗ Owe c [])
      ⊢ iprop((((atPos ER (kcell c (kAsn k)) 1 ∅ 0 ∗ aSrcPts c (shr k) (fun _ => lmax X Wt c)) ∗ Owe c []) -∗ WP c q Q) -∗ WP c (sentMax c k q) Q) := by
  unfold sentMax
  iintro ⟨#HC, ⟨Hat, Hcr⟩, Ho⟩ Hk
  iapply (wp_wait_one X Wt Kn ιn c (kAsn k) 0 0 [] (dutK_asn c k) (by decide) (fun x hx => absurd hx (List.not_mem_nil))
    (fun K => (wpE_waitDma2_eq 𝒱₀ (c : Thread nD τ) none Set.univ K).trans rfl) q Q) $$ [Hat Hcr Ho]
  · isplitr; · iexact HC
    isplitl [Hat]; · iexact Hat
    isplitl [Hcr]; · iexact Hcr
    iexact Ho
  iintro ⟨Hp, Hat, -, Ho⟩
  iapply Hk
  isplitr [Ho]
  · isplitl [Hat]; · iexact Hat
    iapply (Entails.of_eq (show payK X Wt c 0 0 (kAsn k) = aSrcPts c (shr k) (fun _ => lmax X Wt c) by unfold payK; rfl)); iexact Hp
  iexact Ho

/-! ## All fifteen -/

def lastK (n : ℕ) : Finset (Fin 15) := Finset.univ.filter fun k => 15 - n ≤ k.val
theorem lastK_succ (n : ℕ) (h : n < 15) : lastK (n + 1) = insert ⟨14 - n, by omega⟩ (lastK n) := by
  ext k
  simp only [lastK, Finset.mem_filter, Finset.mem_univ, true_and, Finset.mem_insert, Fin.ext_iff]
  omega
theorem lastK_not (n : ℕ) (h : n < 15) : (⟨14 - n, by omega⟩ : Fin 15) ∉ lastK n := by
  simp only [lastK, Finset.mem_filter, Finset.mem_univ, true_and]; omega
theorem lastK_all : lastK 15 = Finset.univ := by decide
theorem lastK_zero : lastK 0 = ∅ := by decide

theorem others_run (c : Dev nD) (P : sProp 𝕄) [BI.Persistent P] (f : Fin 15 → PG F → PG F) (A B : Fin 15 → sProp 𝕄) (O : ℕ → sProp 𝕄)
    (hf : ∀ (n : ℕ) (h : n < 15) (q : PG F) (Q : PUnit → sProp 𝕄),
      iprop(P ∗ A ⟨14 - n, by omega⟩ ∗ O (n + 1)) ⊢ iprop(((B ⟨14 - n, by omega⟩ ∗ O n) -∗ WP c q Q) -∗ WP c (f ⟨14 - n, by omega⟩ q) Q)) :
    ∀ (n : ℕ) (h : n ≤ 15) (q : PG F) (Q : PUnit → sProp 𝕄),
      iprop(P ∗ bigSep (lastK n) A ∗ O n) ⊢ iprop(((bigSep (lastK n) B ∗ O 0) -∗ WP c q Q) -∗ WP c (others f n h q) Q)
  | 0, h, q, Q => by
    unfold others
    rw [lastK_zero, bigSep_empty, bigSep_empty]
    iintro ⟨-, H, HO⟩ Hk
    iapply Hk
    isplitl [H]; · iexact H
    iexact HO
  | n + 1, h, q, Q => by
    have hn : n < 15 := h
    have ih := others_run c P f A B O hf n (by omega) q Q
    unfold others
    rw [lastK_succ n hn, sep_insert (lastK_not n hn), sep_insert (lastK_not n hn)]
    iintro ⟨#HP, ⟨Ha, HA⟩, HO⟩ Hk
    iapply (hf n hn _ Q) $$ [Ha HO]
    · isplitr; · iexact HP
      isplitl [Ha]; · iexact Ha
      iexact HO
    iintro ⟨Hb, HO⟩
    iapply ih $$ [HA HO]
    · isplitr; · iexact HP
      isplitl [HA]; · iexact HA
      iexact HO
    iintro ⟨HB, HO⟩
    iapply Hk
    isplitr [HO]
    · isplitl [Hb]; · iexact Hb
      iexact HB
    iexact HO

def amxT : (n : ℕ) → List TK
  | 0 => []
  | n + 1 => tAmx ⟨14 - n, by omega⟩ :: amxT n
theorem amxL_eq : amxL = amxT 15 := by decide +kernel

theorem relUp_take (u : Fin 4) : ∀ (s j : ℕ) (h : j ≤ s) (c : Dev nD), (relUp (F := F) u s c : sProp 𝕄) ⊢ relA ((up u)^[j] c)
  | 0, j, h, c => by
    obtain rfl : j = 0 := by omega
    unfold relUp; exact Entails.rfl
  | s + 1, 0, h, c => by
    unfold relUp; iintro ⟨H, -⟩; iexact H
  | s + 1, j + 1, h, c => by
    have ih := relUp_take u s j (by omega) (up u c)
    unfold relUp; iintro ⟨-, H⟩; iapply ih; iexact H

theorem up_far : ∀ (c : Dev nD) (k : Fin 15), (up 0)^[14 - k.val] (up 0 c) = shift k c := by decide +kernel

theorem relUp_released (c : Dev nD) (k : Fin 15) : (relUp (F := F) 0 14 (up 0 c) : sProp 𝕄) ⊢ Release.released EL ((shift k c, .inr k) : Key) 1 := by
  have h := relUp_take (F := F) 0 14 (14 - k.val) (by omega) (up 0 c)
  rw [up_far] at h
  have h2 : (relA (F := F) (shift k c) : sProp 𝕄) ⊢ Release.released EL ((shift k c, .inr k) : Key) 1 := by
    unfold relA
    exact bigSep_elim (Φ := fun k' : Fin 15 => (Release.released EL ((shift k c, .inr k') : Key) 1 : sProp 𝕄)) (Finset.mem_univ k)
  iintro H
  iapply h2; iapply h; iexact H

/-! ## The quantiser -/

/-- What the quantiser leaves of the result, a chunk at a time. -/
def chk (b : Vec F S16x8x128 .f32) (j : Fin 4) (f : (cc0_stg2_0 : Ref sig .tc).ty.Contents (Elt F)) : (cc0_stg2_0 : Ref sig .tc).ty.Contents (Elt F) :=
  (oM.access (chunkR j) : View sig .tc _ _ _).write (Elt F) f (quant b (oM.view.readAt (Elt F) (chunkR j).toLoadRect f)) Finset.univ
def chk4 (b : Vec F S16x8x128 .f32) (f : (cc0_stg2_0 : Ref sig .tc).ty.Contents (Elt F)) : (cc0_stg2_0 : Ref sig .tc).ty.Contents (Elt F) :=
  chk b 3 (chk b 2 (chk b 1 (chk b 0 f)))

theorem wp_chunk (c : Dev nD) (b : Vec F S16x8x128 .f32) (j : Fin 4) (f) (q : PG F) (Q : PUnit → sProp 𝕄) :
    oPts c f ⊢ iprop((oPts c (chk b j f) -∗ WP c q Q) -∗ WP c (chunk b j q) Q) := by
  unfold chunk chk
  iintro Ho Hk
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := chunkR j) (Mk := Finset.univ) (Finset.subset_univ _)) $$ Ho; iintro Ho
  iapply Hk; iexact Ho

theorem tail_run (c : Dev nD) (b : (cc0_scratch23 : Ref sig .tc).ty.Contents (Elt F)) (f) (Q : PUnit → sProp 𝕄) :
    iprop(aBufPts c b ∗ oPts c f) ⊢ iprop(((aBufPts c b ∗ oPts c (chk4 b f)) -∗ WP c (.ret ⟨⟩) Q) -∗ WP c tail Q) := by
  unfold tail chk4
  iintro ⟨Hb, Ho⟩ Hk
  iapply (wp_load 𝒱₀ (c : Thread nD τ) none Set.univ (m := aBuf) (Finset.subset_univ _)) $$ Hb; iintro Hb
  rw [show aBuf.view.readAt (Elt F) bAll.toLoadRect b = b from Memref.readAt_unit_zero (Elt F) cc0_scratch23 off3_zero _ b]
  iapply (wp_chunk c b 0 _ _ Q) $$ Ho; iintro Ho
  iapply (wp_chunk c b 1 _ _ Q) $$ Ho; iintro Ho
  iapply (wp_chunk c b 2 _ _ Q) $$ Ho; iintro Ho
  iapply (wp_chunk c b 3 _ _ Q) $$ Ho; iintro Ho
  iapply Hk
  isplitl [Hb]; · iexact Hb
  iexact Ho

/-! ## The exchange -/

/-- What a unit ends with. -/
def SD (u : Fin 4) (c : Dev nD) : sProp 𝕄 :=
  iprop((slotAny (accM u) c 0 ∗ slotAny (accM u) c 1) ∗ (sndReady u c 15 ∗ sndReady u c 16) ∗ (rcvReady u c 15 ∗ rcvReady u c 16)
    ∗ (slotAny (recvM u) c 0 ∗ slotAny (recvM u) c 1) ∗ crdDone u c)

theorem unit_done (c : Dev nD) (u : Fin 4) (l : List TK) (q : PG F) (Q : PUnit → sProp 𝕄) :
    iprop(Ctx X Wt Kn ιn ∗ SE u c ∗ Owe c l) ⊢ iprop(((SD u c ∗ relUp u 14 (up u c) ∗ Owe c l) -∗ WP c q Q) -∗ WP c (waitSend u 0 q) Q) := by
  unfold SE SD
  iintro ⟨#HC, ⟨⟨Hi, Ha, Hs⟩, Hr, Hv, Hc, HU⟩, Ho⟩ Hk
  iapply (wp_waitSend X Wt Kn ιn c u 14 (by decide) 0 rfl l q Q) $$ [Hi Ho]
  · isplitr; · iexact HC
    isplitl [Hi]; · iexact Hi
    iexact Ho
  iintro ⟨Ha0, Hs1, Ho⟩
  iapply Hk
  isplitr [HU Ho]
  · isplitl [Ha Ha0]
    · isplitl [Ha0]; · iexact Ha0
      iexact Ha
    isplitl [Hs Hs1]
    · isplitl [Hs]; · iexact Hs
      iexact Hs1
    isplitl [Hr]; · iexact Hr
    isplitl [Hv]; · iexact Hv
    iexact Hc
  isplitl [HU]; · iexact HU
  iexact Ho

/-- What the exchange needs besides; -/
def amxPre (c : Dev nD) : sProp 𝕄 :=
  iprop((aSrcAny c ∗ rowAny c c) ∗ bigSep Finset.univ (tokA c) ∗ (bigSep Finset.univ fun k : Fin 15 => atPos ER (kcell c (kAsn k)) 0 ∅ 0)
    ∗ bigSep Finset.univ fun k : Fin 15 => iprop(atPos ER (kcell c (kArc (shift k c))) 0 ∅ 0 ∗ cred (tallyAt (kcell c (kArc (shift k c))) 100 NA)))
/-- and what it leaves. -/
def amxPost (c : Dev nD) : sProp 𝕄 :=
  iprop((aSrcAny c ∗ aBufPts c (amaxB X Wt)) ∗ (bigSep Finset.univ fun k : Fin 15 => atPos ER (kcell c (kAsn k)) 1 ∅ 0)
    ∗ bigSep Finset.univ fun k : Fin 15 => atPos ER (kcell c (kArc (shift k c))) 1 ∅ 0)

theorem sep_zip {ι : Type} [Fintype ι] (Φ Ψ : ι → sProp 𝕄) :
    (bigSep Finset.univ fun k => iprop(Φ k ∗ Ψ k)) = iprop(bigSep Finset.univ Φ ∗ bigSep Finset.univ Ψ) := bigSep_sep' _ _ _

theorem send_all (c : Dev nD) (q : PG F) (Q : PUnit → sProp 𝕄) :
    iprop((Ctx X Wt Kn ιn ∗ relUp 0 14 (up 0 c)) ∗ bigSep Finset.univ (fun k : Fin 15 => iprop(aSrcPts c (shr k) (fun _ => lmax X Wt c) ∗ tokA c k)) ∗ Owe c amxL)
      ⊢ iprop((((bigSep Finset.univ fun k : Fin 15 => cred (tallyAt (kcell c (kAsn k)) 0 NA)) ∗ Owe c []) -∗ WP c q Q) -∗ WP c (others (sendMax c) 15 (by decide) q) Q) := by
  have h := others_run c (iprop(Ctx X Wt Kn ιn ∗ relUp 0 14 (up 0 c))) (sendMax c) (fun k => iprop(aSrcPts c (shr k) (fun _ => lmax X Wt c) ∗ tokA c k))
    (fun k => cred (tallyAt (kcell c (kAsn k)) 0 NA)) (fun n => Owe c (amxT n)) (fun n hn q Q => by
      iintro ⟨⟨#HC, #HU⟩, ⟨Ha, Ht⟩, Ho⟩ Hk
      iapply (wp_sendMax X Wt Kn ιn c _ (amxT n) q Q) $$ [Ha Ht Ho]
      · isplitr; · iexact HC
        isplitl [Ha]; · iexact Ha
        isplitl [Ht]; · iexact Ht
        isplitr; · iapply (relUp_released (F := F) c _); iexact HU
        iexact Ho
      iexact Hk) 15 (by decide) q Q
  rw [lastK_all, ← amxL_eq] at h
  exact h

theorem recv_all (c : Dev nD) (q : PG F) (Q : PUnit → sProp 𝕄) :
    iprop(Ctx X Wt Kn ιn ∗ bigSep Finset.univ (fun k : Fin 15 => iprop(atPos ER (kcell c (kArc (shift k c))) 0 ∅ 0 ∗ cred (tallyAt (kcell c (kArc (shift k c))) 100 NA))) ∗ Owe c [])
      ⊢ iprop(((bigSep Finset.univ (fun k : Fin 15 => iprop(atPos ER (kcell c (kArc (shift k c))) 1 ∅ 0 ∗ rowPts c (shift k c) (amaxB X Wt))) ∗ Owe c []) -∗ WP c q Q)
        -∗ WP c (others (recvMax c) 15 (by decide) q) Q) := by
  have h := others_run c (Ctx X Wt Kn ιn) (recvMax c) (fun k => iprop(atPos ER (kcell c (kArc (shift k c))) 0 ∅ 0 ∗ cred (tallyAt (kcell c (kArc (shift k c))) 100 NA)))
    (fun k => iprop(atPos ER (kcell c (kArc (shift k c))) 1 ∅ 0 ∗ rowPts c (shift k c) (amaxB X Wt))) (fun _ => Owe c []) (fun n hn q Q =>
      wp_recvMax X Wt Kn ιn c ⟨14 - n, by omega⟩ q Q) 15 (by decide) q Q
  rw [lastK_all] at h
  exact h

theorem sent_all (c : Dev nD) (q : PG F) (Q : PUnit → sProp 𝕄) :
    iprop(Ctx X Wt Kn ιn ∗ bigSep Finset.univ (fun k : Fin 15 => iprop(atPos ER (kcell c (kAsn k)) 0 ∅ 0 ∗ cred (tallyAt (kcell c (kAsn k)) 0 NA))) ∗ Owe c [])
      ⊢ iprop(((bigSep Finset.univ (fun k : Fin 15 => iprop(atPos ER (kcell c (kAsn k)) 1 ∅ 0 ∗ aSrcPts c (shr k) (fun _ => lmax X Wt c))) ∗ Owe c []) -∗ WP c q Q)
        -∗ WP c (others (sentMax c) 15 (by decide) q) Q) := by
  have h := others_run c (Ctx X Wt Kn ιn) (sentMax c) (fun k => iprop(atPos ER (kcell c (kAsn k)) 0 ∅ 0 ∗ cred (tallyAt (kcell c (kAsn k)) 0 NA)))
    (fun k => iprop(atPos ER (kcell c (kAsn k)) 1 ∅ 0 ∗ aSrcPts c (shr k) (fun _ => lmax X Wt c))) (fun _ => Owe c []) (fun n hn q Q =>
      wp_sentMax X Wt Kn ιn c ⟨14 - n, by omega⟩ q Q) 15 (by decide) q Q
  rw [lastK_all] at h
  exact h

theorem exchange_run (c : Dev nD) (f) (Q : PUnit → sProp 𝕄) :
    iprop(Ctx X Wt Kn ιn ∗ oPts c f ∗ (four fun u => SE u c) ∗ amxPre c ∗ Owe c amxL)
      ⊢ iprop(((oPts c (chk4 (amaxB X Wt) f) ∗ (four fun u => SD u c) ∗ amxPost X Wt c ∗ Owe c []) -∗ WP c (.ret ⟨⟩) Q) -∗ WP c (exchange c (lmax X Wt c)) Q) := by
  unfold exchange four amxPre amxPost
  iintro ⟨#HC, Hf, ⟨H0, H2, H1, H3⟩, ⟨⟨Hs, Hr⟩, Ht, Has, Har⟩, Ho⟩ Hk
  iapply (unit_done X Wt Kn ιn c 0 amxL _ Q) $$ [H0 Ho]
  · isplitr; · iexact HC
    isplitl [H0]; · iexact H0
    iexact Ho
  iintro ⟨H0, #HU, Ho⟩
  iapply (unit_done X Wt Kn ιn c 2 amxL _ Q) $$ [H2 Ho]
  · isplitr; · iexact HC
    isplitl [H2]; · iexact H2
    iexact Ho
  iintro ⟨H2, -, Ho⟩
  iapply (unit_done X Wt Kn ιn c 1 amxL _ Q) $$ [H1 Ho]
  · isplitr; · iexact HC
    isplitl [H1]; · iexact H1
    iexact Ho
  iintro ⟨H1, -, Ho⟩
  iapply (unit_done X Wt Kn ιn c 3 amxL _ Q) $$ [H3 Ho]
  · isplitr; · iexact HC
    isplitl [H3]; · iexact H3
    iexact Ho
  iintro ⟨H3, -, Ho⟩
  iapply (wp_putMax X Wt c _ Q) $$ [Hs Hr]
  · isplitl [Hs]; · iexact Hs
    iexact Hr
  iintro ⟨Hs, Hr⟩
  ihave Hs := (Transfers.pointsTo_toks_split fullShare 15) $$ Hs
  icases Hs with ⟨Hs0, Hs⟩
  iapply (send_all X Wt Kn ιn c _ Q) $$ [Hs Ht Ho]
  · isplitr
    · isplitr; · iexact HC
      iexact HU
    isplitl [Hs Ht]
    · iapply (Entails.of_eq (sep_zip (fun k : Fin 15 => aSrcPts c (shr k) (fun _ => lmax X Wt c)) (tokA c)).symm)
      isplitl [Hs]; · iexact Hs
      iexact Ht
    iexact Ho
  iintro ⟨Hcr, Ho⟩
  iapply (recv_all X Wt Kn ιn c _ Q) $$ [Har Ho]
  · isplitr; · iexact HC
    isplitl [Har]; · iexact Har
    iexact Ho
  iintro ⟨Har, Ho⟩
  iapply (sent_all X Wt Kn ιn c _ Q) $$ [Has Hcr Ho]
  · isplitr; · iexact HC
    isplitl [Has Hcr]
    · iapply (Entails.of_eq (sep_zip (fun k : Fin 15 => atPos ER (kcell c (kAsn k)) 0 ∅ 0) (fun k : Fin 15 => cred (tallyAt (kcell c (kAsn k)) 0 NA))).symm)
      isplitl [Has]; · iexact Has
      iexact Hcr
    iexact Ho
  iintro ⟨Has, Ho⟩
  ihave Has := (Entails.of_eq (sep_zip (fun k : Fin 15 => atPos ER (kcell c (kAsn k)) 1 ∅ 0) (fun k : Fin 15 => aSrcPts c (shr k) (fun _ => lmax X Wt c)))) $$ Has
  icases Has with ⟨Has, Hs⟩
  ihave Har := (Entails.of_eq (sep_zip (fun k : Fin 15 => atPos ER (kcell c (kArc (shift k c))) 1 ∅ 0) (fun k : Fin 15 => rowPts c (shift k c) (amaxB X Wt)))) $$ Har
  icases Har with ⟨Har, Hrs⟩
  ihave Hb := (Entails.of_eq ((rows_eq c (amaxB X Wt)).trans (devs_eq c fun i => rowPts c i (amaxB X Wt))).symm) $$ [Hr Hrs]
  · isplitl [Hr]; · iexact Hr
    iexact Hrs
  ihave Hs := (Transfers.pointsTo_toks_join fullShare 15) $$ [Hs0 Hs]
  · isplitl [Hs0]; · iexact Hs0
    iexact Hs
  iapply (tail_run c (amaxB X Wt) f Q) $$ [Hb Hf]
  · isplitl [Hb]; · iexact Hb
    iexact Hf
  iintro ⟨Hb, Hf⟩
  iapply Hk
  isplitl [Hf]; · iexact Hf
  isplitl [H0 H2 H1 H3]
  · isplitl [H0]; · iexact H0
    isplitl [H2]; · iexact H2
    isplitl [H1]; · iexact H1
    iexact H3
  isplitr [Ho]
  · isplitl [Hs Hb]
    · isplitl [Hs]
      · unfold aSrcAny; iexists _; iexact Hs
      iexact Hb
    isplitl [Has]; · iexact Has
    iexact Har
  iexact Ho

end Cert.KernelIdeal.Own

end
-- ==== Proof.Cover.lean ====
module

public import proofs.«01_k».proof.Proof.After

/-! # What the result holds

The four quarters fill the result, the four chunks are all of it; and a unit's buffer is its two slots. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (X : Dev nD → (cc0_scratch0 : Ref sig .tc).ty.Contents (Elt F)) (Wt : Dev nD → (cc0_scratch1 : Ref sig .tc).ty.Contents (Elt F))

/-! ## The quarters -/

/-- The unit whose quarter an entry of the result is in, and where in it. -/
def unitOf (x : S256x8192.Idx) : Fin 4 := if (x 0).val < 128 then (if (x 1).val < 4096 then 0 else 2) else (if (x 1).val < 4096 then 1 else 3)
def posOf (x : S256x8192.Idx) : S128x4096.Idx := fun a => match a with
  | 0 => ⟨(x 0).val % 128, Nat.mod_lt _ (by decide)⟩
  | 1 => ⟨(x 1).val % 4096, Nat.mod_lt _ (by decide)⟩

theorem at_unit (x : S256x8192.Idx) : ∀ u : Fin 4, unitOf x = u → x = (oR u).emb (posOf x) := by
  have h0 : (x 0).val < 256 := (x 0).isLt
  have h1 : (x 1).val < 8192 := (x 1).isLt
  intro u hu
  funext a; apply Fin.ext
  unfold unitOf at hu
  match u, a with
  | 0, 0 => show (x 0).val = 0 + 1 * ((x 0).val % 128); split_ifs at hu <;> first | omega | exact absurd hu (by decide)
  | 0, 1 => show (x 1).val = 0 + 1 * ((x 1).val % 4096); split_ifs at hu <;> first | omega | exact absurd hu (by decide)
  | 1, 0 => show (x 0).val = 128 + 1 * ((x 0).val % 128); split_ifs at hu <;> first | omega | exact absurd hu (by decide)
  | 1, 1 => show (x 1).val = 0 + 1 * ((x 1).val % 4096); split_ifs at hu <;> first | omega | exact absurd hu (by decide)
  | 2, 0 => show (x 0).val = 0 + 1 * ((x 0).val % 128); split_ifs at hu <;> first | omega | exact absurd hu (by decide)
  | 2, 1 => show (x 1).val = 4096 + 1 * ((x 1).val % 4096); split_ifs at hu <;> first | omega | exact absurd hu (by decide)
  | 3, 0 => show (x 0).val = 128 + 1 * ((x 0).val % 128); split_ifs at hu <;> first | omega | exact absurd hu (by decide)
  | 3, 1 => show (x 1).val = 4096 + 1 * ((x 1).val % 4096); split_ifs at hu <;> first | omega | exact absurd hu (by decide)

theorem unit_at (u : Fin 4) (j : S128x4096.Idx) : unitOf ((oR u).emb j) = u := by
  have h0 : (j 0).val < 128 := (j 0).isLt
  have h1 : (j 1).val < 4096 := (j 1).isLt
  match u with
  | 0 =>
    show (if 0 + 1 * (j 0).val < 128 then (if 0 + 1 * (j 1).val < 4096 then (0 : Fin 4) else 2) else (if 0 + 1 * (j 1).val < 4096 then 1 else 3)) = 0
    rw [if_pos (by omega), if_pos (by omega)]
  | 1 =>
    show (if 128 + 1 * (j 0).val < 128 then (if 0 + 1 * (j 1).val < 4096 then (0 : Fin 4) else 2) else (if 0 + 1 * (j 1).val < 4096 then 1 else 3)) = 1
    rw [if_neg (by omega), if_pos (by omega)]
  | 2 =>
    show (if 0 + 1 * (j 0).val < 128 then (if 4096 + 1 * (j 1).val < 4096 then (0 : Fin 4) else 2) else (if 4096 + 1 * (j 1).val < 4096 then 1 else 3)) = 2
    rw [if_pos (by omega), if_neg (by omega)]
  | 3 =>
    show (if 128 + 1 * (j 0).val < 128 then (if 4096 + 1 * (j 1).val < 4096 then (0 : Fin 4) else 2) else (if 4096 + 1 * (j 1).val < 4096 then 1 else 3)) = 3
    rw [if_neg (by omega), if_neg (by omega)]

theorem wr_here (u : Fin 4) (f : (cc0_stg2_0 : Ref sig .tc).ty.Contents (Elt F)) (v : Vec F S128x4096 .f32) (x : S256x8192.Idx) (h : unitOf x = u) :
    wrOut u f v x = v (posOf x) := by
  have e := at_unit x u h
  unfold wrOut
  exact (congrArg _ e).trans (View.write_emb_of_mem (v := oM.view.slice (oR u)) f v (Finset.mem_univ (posOf x)))
theorem wr_else (u : Fin 4) (f : (cc0_stg2_0 : Ref sig .tc).ty.Contents (Elt F)) (v : Vec F S128x4096 .f32) (x : S256x8192.Idx) (h : unitOf x ≠ u) :
    wrOut u f v x = f x := by
  unfold wrOut
  refine View.write_of_not_mem (v := oM.view.slice (oR u)) f v Finset.univ fun hx => ?_
  obtain ⟨j, -, rfl⟩ := Finset.mem_map.mp hx
  exact h (unit_at u j)

theorem out4_apply (c : Dev nD) (f) (x : S256x8192.Idx) : out4 X Wt c f x = yq X Wt (unitOf x) c (posOf x) := by
  unfold out4
  generalize hu : unitOf x = u
  match u, hu with
  | 3, hu => exact wr_here 3 _ _ x hu
  | 1, hu => exact (wr_else 3 _ _ x (by rw [hu]; decide)).trans (wr_here 1 _ _ x hu)
  | 2, hu => exact (wr_else 3 _ _ x (by rw [hu]; decide)).trans ((wr_else 1 _ _ x (by rw [hu]; decide)).trans (wr_here 2 _ _ x hu))
  | 0, hu =>
    exact (wr_else 3 _ _ x (by rw [hu]; decide)).trans ((wr_else 1 _ _ x (by rw [hu]; decide)).trans ((wr_else 2 _ _ x (by rw [hu]; decide)).trans (wr_here 0 _ _ x hu)))

/-! ## The chunks -/

/-- One entry through the quantiser. -/
def qs (b : Vec F S16x8x128 .f32) (v : F .f32) : F .f32 := quant b (fun _ => v) (fun _ => ⟨0, by rename_i a; revert a; decide⟩)

theorem quant_apply (b : Vec F S16x8x128 .f32) (y : Vec F S256x2048 .f32) (i : S256x2048.Idx) : quant b y i = qs b (y i) := by
  unfold qs quant
  rw [shapeCast_self, shapeCast_self]; rfl

def chOf (x : S256x8192.Idx) : Fin 4 := ⟨(x 1).val / 2048, by have h1 : (x 1).val < 8192 := (x 1).isLt; omega⟩
def chPos (x : S256x8192.Idx) : S256x2048.Idx := fun a => match a with
  | 0 => x 0
  | 1 => ⟨(x 1).val % 2048, Nat.mod_lt _ (by decide)⟩
theorem at_chunk (x : S256x8192.Idx) (j : Fin 4) (h : chOf x = j) : x = (chunkR j).emb (chPos x) := by
  subst h
  funext a; apply Fin.ext
  match a with
  | 0 => show (x 0).val = 0 + 1 * (x 0).val; omega
  | 1 => show (x 1).val = 2048 * ((x 1).val / 2048) + 1 * ((x 1).val % 2048); omega
theorem chunk_at (j : Fin 4) (i : S256x2048.Idx) : chOf ((chunkR j).emb i) = j := by
  have h1 : (i 1).val < 2048 := (i 1).isLt
  apply Fin.ext
  show (2048 * j.val + 1 * (i 1).val) / 2048 = j.val
  omega

theorem chk_here (b : Vec F S16x8x128 .f32) (j : Fin 4) (f) (x : S256x8192.Idx) (h : chOf x = j) : chk b j f x = qs b (f x) := by
  have e := at_chunk x j h
  unfold chk
  refine (congrArg _ e).trans ((View.write_emb_of_mem (v := oM.view.slice (chunkR j)) f _ (Finset.mem_univ (chPos x))).trans ((quant_apply _ _ _).trans ?_))
  exact congrArg (fun z => qs b (f z)) e.symm
theorem chk_else (b : Vec F S16x8x128 .f32) (j : Fin 4) (f) (x : S256x8192.Idx) (h : chOf x ≠ j) : chk b j f x = f x := by
  unfold chk
  refine View.write_of_not_mem (v := oM.view.slice (chunkR j)) f _ Finset.univ fun hx => ?_
  obtain ⟨i, -, rfl⟩ := Finset.mem_map.mp hx
  exact h (chunk_at j i)

theorem chk4_apply (b : Vec F S16x8x128 .f32) (f) (x : S256x8192.Idx) : chk4 b f x = qs b (f x) := by
  unfold chk4
  generalize hu : chOf x = u
  match u, hu with
  | 3, hu =>
    refine (chk_here b 3 _ x hu).trans (congrArg (qs b) ?_)
    exact (chk_else b 2 _ x (by rw [hu]; decide)).trans ((chk_else b 1 _ x (by rw [hu]; decide)).trans (chk_else b 0 _ x (by rw [hu]; decide)))
  | 2, hu =>
    refine (chk_else b 3 _ x (by rw [hu]; decide)).trans ((chk_here b 2 _ x hu).trans (congrArg (qs b) ?_))
    exact (chk_else b 1 _ x (by rw [hu]; decide)).trans (chk_else b 0 _ x (by rw [hu]; decide))
  | 1, hu =>
    refine (chk_else b 3 _ x (by rw [hu]; decide)).trans ((chk_else b 2 _ x (by rw [hu]; decide)).trans ((chk_here b 1 _ x hu).trans (congrArg (qs b) ?_)))
    exact chk_else b 0 _ x (by rw [hu]; decide)
  | 0, hu =>
    exact (chk_else b 3 _ x (by rw [hu]; decide)).trans ((chk_else b 2 _ x (by rw [hu]; decide)).trans ((chk_else b 1 _ x (by rw [hu]; decide)).trans (chk_here b 0 _ x hu)))

/-- The kernel's result on device `c`. -/
def outAt (c : Dev nD) : (cc0_stg2_0 : Ref sig .tc).ty.Contents (Elt F) := fun x => qs (amaxB X Wt) (yq X Wt (unitOf x) c (posOf x))

theorem out_eq (c : Dev nD) (f) : chk4 (amaxB X Wt) (out4 X Wt c f) = outAt X Wt c := by
  funext x
  unfold outAt
  rw [chk4_apply, out4_apply]

/-! ## A buffer as its two slots -/

abbrev slotIx (p : Fin 2) : Finset S2x128x4096.Idx := Finset.univ.map (slotR p).emb

theorem slotIx_mem (p : Fin 2) (x : S2x128x4096.Idx) : x ∈ slotIx p ↔ (x 0).val = p.val := by
  constructor
  · intro h
    obtain ⟨j, -, rfl⟩ := Finset.mem_map.mp h
    have : (j 0).val < 1 := (j 0).isLt
    show p.val + 1 * (j 0).val = p.val; omega
  · intro h
    refine Finset.mem_map.mpr ⟨fun a => match a with | 0 => ⟨0, Nat.one_pos⟩ | 1 => x 1 | 2 => x 2, Finset.mem_univ _, ?_⟩
    funext a; apply Fin.ext
    match a with
    | 0 => show p.val + 1 * 0 = (x 0).val; omega
    | 1 => show 0 + 1 * (x 1).val = (x 1).val; omega
    | 2 => show 0 + 1 * (x 2).val = (x 2).val; omega
theorem slotIx_univ : (Finset.univ : Finset S2x128x4096.Idx) = Finset.univ.biUnion slotIx := by
  ext x
  simp only [Finset.mem_univ, true_iff]
  exact Finset.mem_biUnion.mpr ⟨⟨(x 0).val, (x 0).isLt⟩, Finset.mem_univ _, (slotIx_mem _ x).mpr rfl⟩
theorem slotIx_disjoint : ∀ p ∈ (Finset.univ : Finset (Fin 2)), ∀ q ∈ (Finset.univ : Finset (Fin 2)), p ≠ q → Disjoint (slotIx p) (slotIx q) :=
  fun p _ q _ h => Finset.disjoint_left.mpr fun x hp hq => h (Fin.ext (((slotIx_mem p x).mp hp).symm.trans ((slotIx_mem q x).mp hq)))

/-- A whole buffer of a unit, whatever it holds. -/
abbrev bufAny (c : Dev nD) (b : Ref sig .tc) : sProp 𝕄 := iprop(∃ f : Buf (Elt F) ((c : Thread nD τ).loc b), ((c : Thread nD τ).loc b) ↦{fullShare} f)

def accB (u : Fin 4) : Ref sig .tc := match u with | 0 => cc0_scratch2 | 1 => cc0_scratch3 | 2 => cc0_scratch4 | 3 => cc0_scratch5
def recvB (u : Fin 4) : Ref sig .tc := match u with | 0 => cc0_scratch6 | 1 => cc0_scratch7 | 2 => cc0_scratch8 | 3 => cc0_scratch9

theorem split_any (ℓ : Loc nD τ sig) (A B : Finset (Idx ℓ)) (hu : A ∪ B = Finset.univ) (hd : Disjoint A B) :
    iprop(∃ f : Buf (Elt F) ℓ, ℓ ↦{fullShare} f) ⊢ (iprop((∃ f : Buf (Elt F) ℓ, ℓ ↦[A]{fullShare} f) ∗ ∃ f : Buf (Elt F) ℓ, ℓ ↦[B]{fullShare} f) : sProp 𝕄) := by
  have h (f : Buf (Elt F) ℓ) : (ℓ ↦{fullShare} f) ⊢ (iprop((ℓ ↦[A]{fullShare} f) ∗ ℓ ↦[B]{fullShare} f) : sProp 𝕄) := by
    rw [← hu]; exact (pointsTo_union hd).1
  iintro ⟨%f, H⟩
  ihave H := (h f) $$ H
  icases H with ⟨Ha, Hb⟩
  isplitl [Ha]
  · iexists f; iexact Ha
  iexists f; iexact Hb
theorem join_any (ℓ : Loc nD τ sig) (A B : Finset (Idx ℓ)) (hu : A ∪ B = Finset.univ) (hd : Disjoint A B) :
    iprop((∃ f : Buf (Elt F) ℓ, ℓ ↦[A]{fullShare} f) ∗ ∃ f : Buf (Elt F) ℓ, ℓ ↦[B]{fullShare} f) ⊢ (iprop(∃ f : Buf (Elt F) ℓ, ℓ ↦{fullShare} f) : sProp 𝕄) := by
  have h (f g : Buf (Elt F) ℓ) : iprop((ℓ ↦[A]{fullShare} f) ∗ ℓ ↦[B]{fullShare} g) ⊢ (ℓ ↦{fullShare} (B.piecewise g f) : sProp 𝕄) := by
    rw [← hu]; exact pointsTo_join hd
  iintro ⟨⟨%f, Ha⟩, ⟨%g, Hb⟩⟩
  ihave H := (h f g) $$ [Ha Hb]
  · isplitl [Ha]; · iexact Ha
    iexact Hb
  iexists _; iexact H

theorem slotIx_union : slotIx 0 ∪ slotIx 1 = Finset.univ := by
  ext x
  have h : (x 0).val < 2 := (x 0).isLt
  simp only [Finset.mem_union, Finset.mem_univ, iff_true]
  rw [slotIx_mem, slotIx_mem]
  show (x 0).val = 0 ∨ (x 0).val = 1
  omega
theorem slotIx_apart : Disjoint (slotIx 0) (slotIx 1) := slotIx_disjoint 0 (Finset.mem_univ _) 1 (Finset.mem_univ _) (by decide)

theorem slot_whole (b : Ref sig .tc) (r : Rect b.ty.shape) (s' : Shape) (hn : s'.numel = r.shape.numel) :
    (((View.whole b).slice r).reshape s' hn).set = Finset.univ.map r.emb := by
  rw [View.set_reshape, View.set_slice_whole, Rect.map_emb_univ]

theorem acc_split (c : Dev nD) : ∀ u : Fin 4, (bufAny c (accB u) : sProp 𝕄) ⊢ iprop(slotAny (accM u) c 0 ∗ slotAny (accM u) c 1)
  | 0 => split_any ((c : Thread nD τ).loc cc0_scratch2) (slotOf (accM 0) 0).view.set (slotOf (accM 0) 1).view.set
    (by unfold accM slotOf; exact (congrArg₂ _ (slot_whole cc0_scratch2 (slotR 0) _ _) (slot_whole cc0_scratch2 (slotR 1) _ _)).trans slotIx_union)
    (by unfold accM slotOf; exact (congrArg₂ Disjoint (slot_whole cc0_scratch2 (slotR 0) _ _) (slot_whole cc0_scratch2 (slotR 1) _ _)).mpr slotIx_apart)
  | 1 => split_any ((c : Thread nD τ).loc cc0_scratch3) (slotOf (accM 1) 0).view.set (slotOf (accM 1) 1).view.set
    (by unfold accM slotOf; exact (congrArg₂ _ (slot_whole cc0_scratch3 (slotR 0) _ _) (slot_whole cc0_scratch3 (slotR 1) _ _)).trans slotIx_union)
    (by unfold accM slotOf; exact (congrArg₂ Disjoint (slot_whole cc0_scratch3 (slotR 0) _ _) (slot_whole cc0_scratch3 (slotR 1) _ _)).mpr slotIx_apart)
  | 2 => split_any ((c : Thread nD τ).loc cc0_scratch4) (slotOf (accM 2) 0).view.set (slotOf (accM 2) 1).view.set
    (by unfold accM slotOf; exact (congrArg₂ _ (slot_whole cc0_scratch4 (slotR 0) _ _) (slot_whole cc0_scratch4 (slotR 1) _ _)).trans slotIx_union)
    (by unfold accM slotOf; exact (congrArg₂ Disjoint (slot_whole cc0_scratch4 (slotR 0) _ _) (slot_whole cc0_scratch4 (slotR 1) _ _)).mpr slotIx_apart)
  | 3 => split_any ((c : Thread nD τ).loc cc0_scratch5) (slotOf (accM 3) 0).view.set (slotOf (accM 3) 1).view.set
    (by unfold accM slotOf; exact (congrArg₂ _ (slot_whole cc0_scratch5 (slotR 0) _ _) (slot_whole cc0_scratch5 (slotR 1) _ _)).trans slotIx_union)
    (by unfold accM slotOf; exact (congrArg₂ Disjoint (slot_whole cc0_scratch5 (slotR 0) _ _) (slot_whole cc0_scratch5 (slotR 1) _ _)).mpr slotIx_apart)
theorem acc_join (c : Dev nD) : ∀ u : Fin 4, iprop(slotAny (accM u) c 0 ∗ slotAny (accM u) c 1) ⊢ (bufAny c (accB u) : sProp 𝕄)
  | 0 => join_any ((c : Thread nD τ).loc cc0_scratch2) (slotOf (accM 0) 0).view.set (slotOf (accM 0) 1).view.set
    (by unfold accM slotOf; exact (congrArg₂ _ (slot_whole cc0_scratch2 (slotR 0) _ _) (slot_whole cc0_scratch2 (slotR 1) _ _)).trans slotIx_union)
    (by unfold accM slotOf; exact (congrArg₂ Disjoint (slot_whole cc0_scratch2 (slotR 0) _ _) (slot_whole cc0_scratch2 (slotR 1) _ _)).mpr slotIx_apart)
  | 1 => join_any ((c : Thread nD τ).loc cc0_scratch3) (slotOf (accM 1) 0).view.set (slotOf (accM 1) 1).view.set
    (by unfold accM slotOf; exact (congrArg₂ _ (slot_whole cc0_scratch3 (slotR 0) _ _) (slot_whole cc0_scratch3 (slotR 1) _ _)).trans slotIx_union)
    (by unfold accM slotOf; exact (congrArg₂ Disjoint (slot_whole cc0_scratch3 (slotR 0) _ _) (slot_whole cc0_scratch3 (slotR 1) _ _)).mpr slotIx_apart)
  | 2 => join_any ((c : Thread nD τ).loc cc0_scratch4) (slotOf (accM 2) 0).view.set (slotOf (accM 2) 1).view.set
    (by unfold accM slotOf; exact (congrArg₂ _ (slot_whole cc0_scratch4 (slotR 0) _ _) (slot_whole cc0_scratch4 (slotR 1) _ _)).trans slotIx_union)
    (by unfold accM slotOf; exact (congrArg₂ Disjoint (slot_whole cc0_scratch4 (slotR 0) _ _) (slot_whole cc0_scratch4 (slotR 1) _ _)).mpr slotIx_apart)
  | 3 => join_any ((c : Thread nD τ).loc cc0_scratch5) (slotOf (accM 3) 0).view.set (slotOf (accM 3) 1).view.set
    (by unfold accM slotOf; exact (congrArg₂ _ (slot_whole cc0_scratch5 (slotR 0) _ _) (slot_whole cc0_scratch5 (slotR 1) _ _)).trans slotIx_union)
    (by unfold accM slotOf; exact (congrArg₂ Disjoint (slot_whole cc0_scratch5 (slotR 0) _ _) (slot_whole cc0_scratch5 (slotR 1) _ _)).mpr slotIx_apart)
theorem recv_split (c : Dev nD) : ∀ u : Fin 4, (bufAny c (recvB u) : sProp 𝕄) ⊢ iprop(slotAny (recvM u) c 0 ∗ slotAny (recvM u) c 1)
  | 0 => split_any ((c : Thread nD τ).loc cc0_scratch6) (slotOf (recvM 0) 0).view.set (slotOf (recvM 0) 1).view.set
    (by unfold recvM slotOf; exact (congrArg₂ _ (slot_whole cc0_scratch6 (slotR 0) _ _) (slot_whole cc0_scratch6 (slotR 1) _ _)).trans slotIx_union)
    (by unfold recvM slotOf; exact (congrArg₂ Disjoint (slot_whole cc0_scratch6 (slotR 0) _ _) (slot_whole cc0_scratch6 (slotR 1) _ _)).mpr slotIx_apart)
  | 1 => split_any ((c : Thread nD τ).loc cc0_scratch7) (slotOf (recvM 1) 0).view.set (slotOf (recvM 1) 1).view.set
    (by unfold recvM slotOf; exact (congrArg₂ _ (slot_whole cc0_scratch7 (slotR 0) _ _) (slot_whole cc0_scratch7 (slotR 1) _ _)).trans slotIx_union)
    (by unfold recvM slotOf; exact (congrArg₂ Disjoint (slot_whole cc0_scratch7 (slotR 0) _ _) (slot_whole cc0_scratch7 (slotR 1) _ _)).mpr slotIx_apart)
  | 2 => split_any ((c : Thread nD τ).loc cc0_scratch8) (slotOf (recvM 2) 0).view.set (slotOf (recvM 2) 1).view.set
    (by unfold recvM slotOf; exact (congrArg₂ _ (slot_whole cc0_scratch8 (slotR 0) _ _) (slot_whole cc0_scratch8 (slotR 1) _ _)).trans slotIx_union)
    (by unfold recvM slotOf; exact (congrArg₂ Disjoint (slot_whole cc0_scratch8 (slotR 0) _ _) (slot_whole cc0_scratch8 (slotR 1) _ _)).mpr slotIx_apart)
  | 3 => split_any ((c : Thread nD τ).loc cc0_scratch9) (slotOf (recvM 3) 0).view.set (slotOf (recvM 3) 1).view.set
    (by unfold recvM slotOf; exact (congrArg₂ _ (slot_whole cc0_scratch9 (slotR 0) _ _) (slot_whole cc0_scratch9 (slotR 1) _ _)).trans slotIx_union)
    (by unfold recvM slotOf; exact (congrArg₂ Disjoint (slot_whole cc0_scratch9 (slotR 0) _ _) (slot_whole cc0_scratch9 (slotR 1) _ _)).mpr slotIx_apart)
theorem recv_join (c : Dev nD) : ∀ u : Fin 4, iprop(slotAny (recvM u) c 0 ∗ slotAny (recvM u) c 1) ⊢ (bufAny c (recvB u) : sProp 𝕄)
  | 0 => join_any ((c : Thread nD τ).loc cc0_scratch6) (slotOf (recvM 0) 0).view.set (slotOf (recvM 0) 1).view.set
    (by unfold recvM slotOf; exact (congrArg₂ _ (slot_whole cc0_scratch6 (slotR 0) _ _) (slot_whole cc0_scratch6 (slotR 1) _ _)).trans slotIx_union)
    (by unfold recvM slotOf; exact (congrArg₂ Disjoint (slot_whole cc0_scratch6 (slotR 0) _ _) (slot_whole cc0_scratch6 (slotR 1) _ _)).mpr slotIx_apart)
  | 1 => join_any ((c : Thread nD τ).loc cc0_scratch7) (slotOf (recvM 1) 0).view.set (slotOf (recvM 1) 1).view.set
    (by unfold recvM slotOf; exact (congrArg₂ _ (slot_whole cc0_scratch7 (slotR 0) _ _) (slot_whole cc0_scratch7 (slotR 1) _ _)).trans slotIx_union)
    (by unfold recvM slotOf; exact (congrArg₂ Disjoint (slot_whole cc0_scratch7 (slotR 0) _ _) (slot_whole cc0_scratch7 (slotR 1) _ _)).mpr slotIx_apart)
  | 2 => join_any ((c : Thread nD τ).loc cc0_scratch8) (slotOf (recvM 2) 0).view.set (slotOf (recvM 2) 1).view.set
    (by unfold recvM slotOf; exact (congrArg₂ _ (slot_whole cc0_scratch8 (slotR 0) _ _) (slot_whole cc0_scratch8 (slotR 1) _ _)).trans slotIx_union)
    (by unfold recvM slotOf; exact (congrArg₂ Disjoint (slot_whole cc0_scratch8 (slotR 0) _ _) (slot_whole cc0_scratch8 (slotR 1) _ _)).mpr slotIx_apart)
  | 3 => join_any ((c : Thread nD τ).loc cc0_scratch9) (slotOf (recvM 3) 0).view.set (slotOf (recvM 3) 1).view.set
    (by unfold recvM slotOf; exact (congrArg₂ _ (slot_whole cc0_scratch9 (slotR 0) _ _) (slot_whole cc0_scratch9 (slotR 1) _ _)).trans slotIx_union)
    (by unfold recvM slotOf; exact (congrArg₂ Disjoint (slot_whole cc0_scratch9 (slotR 0) _ _) (slot_whole cc0_scratch9 (slotR 1) _ _)).mpr slotIx_apart)

end Cert.KernelIdeal.Own

end
-- ==== Proof.Body.lean ====
module

public import proofs.«01_k».proof.Proof.Cover

/-! # The whole body

What a device holds when its body starts, and what it holds when it ends. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (X : Dev nD → (cc0_scratch0 : Ref sig .tc).ty.Contents (Elt F)) (Wt : Dev nD → (cc0_scratch1 : Ref sig .tc).ty.Contents (Elt F))
variable (Kn : Dev nD × KK → ℕ) (ιn : Key → ℕ)

/-! ## Sums over the kinds -/

theorem sep_option {α : Type} [Fintype α] [DecidableEq α] (Φ : Option α → sProp 𝕄) : bigSep Finset.univ Φ = iprop(Φ none ∗ bigSep Finset.univ fun a => Φ (some a)) := by
  have h : (none : Option α) ∉ (Finset.univ.map ⟨some, Option.some_injective α⟩) := by
    intro h; obtain ⟨a, -, ha⟩ := Finset.mem_map.mp h; exact absurd ha (by intro h; cases h)
  rw [show (Finset.univ : Finset (Option α)) = insert none (Finset.univ.map ⟨some, Option.some_injective α⟩) by
    ext a; cases a with
    | none => simp
    | some a => simp, sep_insert h, bigSep_map]; rfl
theorem sep_four (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl
theorem zip_in {ι : Type} [Fintype ι] {Φ Ψ : ι → sProp 𝕄} : iprop(bigSep Finset.univ Φ ∗ bigSep Finset.univ Ψ) ⊢ bigSep Finset.univ fun i => iprop(Φ i ∗ Ψ i) :=
  Entails.of_eq (sep_zip Φ Ψ).symm
theorem zip_out {ι : Type} [Fintype ι] {Φ Ψ : ι → sProp 𝕄} : (bigSep Finset.univ fun i => iprop(Φ i ∗ Ψ i)) ⊢ iprop(bigSep Finset.univ Φ ∗ bigSep Finset.univ Ψ) :=
  Entails.of_eq (sep_zip Φ Ψ)
theorem four_elim (Φ : Fin 4 → sProp 𝕄) : four Φ ⊢ bigSep Finset.univ Φ := by
  rw [sep_four]; unfold four
  iintro ⟨H0, H2, H1, H3⟩
  isplitl [H0]; · iexact H0
  isplitl [H1]; · iexact H1
  isplitl [H2]; · iexact H2
  iexact H3
theorem fin_ico (n : ℕ) (Φ : ℕ → sProp 𝕄) : (bigSep Finset.univ fun j : Fin n => Φ j.val) = bigSep (Finset.Ico 0 n) Φ := by
  rw [Nat.Ico_zero_eq_range, ← Nat.Iio_eq_range, ← Fin.map_valEmbedding_univ, bigSep_map]; rfl

theorem split_TK (Φ : TK → sProp 𝕄) : bigSep Finset.univ Φ
    = iprop((Φ (tBar 0) ∗ Φ (tBar 1)) ∗ (bigSep Finset.univ fun u => bigSep Finset.univ fun j => Φ (tMsg u j))
      ∗ (bigSep Finset.univ fun u => bigSep Finset.univ fun k => Φ (tCrd u k)) ∗ bigSep Finset.univ fun k => Φ (tAmx k)) := by
  rw [sep_sum, sep_two, sep_sum, sep_sum, bigSep_univ_prod, bigSep_univ_prod]
theorem split_KK (Φ : KK → sProp 𝕄) : bigSep Finset.univ Φ
    = iprop(Φ kBar ∗ (bigSep Finset.univ fun u => iprop(Φ (kSnd u 0) ∗ Φ (kSnd u 1))) ∗ (bigSep Finset.univ fun u => iprop(Φ (kRcv u 0) ∗ Φ (kRcv u 1)))
      ∗ (bigSep Finset.univ fun u => Φ (kCrd u)) ∗ (bigSep Finset.univ fun k => Φ (kAsn k)) ∗ bigSep Finset.univ fun i => Φ (kArc i)) := by
  rw [sep_option, sep_sum, sep_sum, sep_sum, sep_sum, bigSep_univ_prod, bigSep_univ_prod]
  simp only [sep_two]

theorem src_inj (c : Dev nD) : Function.Injective fun k : Fin 15 => src k c := by revert c; decide +kernel
theorem dev_univ' : ∀ c : Dev nD, (Finset.univ : Finset (Dev nD)) = insert c (Finset.univ.image fun k : Fin 15 => src k c) := by decide +kernel
theorem devs_src (c : Dev nD) (Φ : Dev nD → sProp 𝕄) : bigSep Finset.univ Φ = iprop(Φ c ∗ bigSep Finset.univ fun k : Fin 15 => Φ (src k c)) := by
  have e : (Finset.univ.image fun k : Fin 15 => src k c) = Finset.univ.map ⟨fun k : Fin 15 => src k c, src_inj c⟩ := by
    rw [Finset.map_eq_image]; rfl
  have hc : c ∉ (Finset.univ.image fun k : Fin 15 => src k c) := by
    intro h; obtain ⟨k, -, hk⟩ := Finset.mem_image.mp h; exact src_ne k c hk
  rw [dev_univ' c, sep_insert hc, e, bigSep_map]; rfl
/-- The other fifteen, from the left or from the right. -/
theorem others_eq (c : Dev nD) (Φ : Dev nD → sProp 𝕄) : (bigSep Finset.univ fun k : Fin 15 => Φ (src k c)) = bigSep Finset.univ fun k : Fin 15 => Φ (shift k c) := by
  have e : (Finset.univ.image fun k : Fin 15 => src k c) = Finset.univ.image fun k : Fin 15 => shift k c := by revert c; decide +kernel
  have e1 : (Finset.univ.image fun k : Fin 15 => src k c) = Finset.univ.map ⟨fun k : Fin 15 => src k c, src_inj c⟩ := by rw [Finset.map_eq_image]; rfl
  have e2 : (Finset.univ.image fun k : Fin 15 => shift k c) = Finset.univ.map ⟨fun k : Fin 15 => shift k c, shift_inj c⟩ := by rw [Finset.map_eq_image]; rfl
  have h1 : bigSep (Finset.univ.image fun k : Fin 15 => src k c) Φ = bigSep Finset.univ fun k : Fin 15 => Φ (src k c) := by rw [e1, bigSep_map]; rfl
  have h2 : bigSep (Finset.univ.image fun k : Fin 15 => shift k c) Φ = bigSep Finset.univ fun k : Fin 15 => Φ (shift k c) := by rw [e2, bigSep_map]; rfl
  rw [← h1, ← h2, e]

/-! ## What a device starts with -/

/-- Its places in its own cells' rounds, its rights to pay, to write and to read; -/
def lin (c : Dev nD) : sProp 𝕄 :=
  iprop((bigSep Finset.univ fun k : KK => atPos ER (kcell c k) 0 ∅ 0)
    ∗ (bigSep Finset.univ fun x : TK => dutyTok ER (kcell (tgt c x) (kind c x)) (rnd x) (dut x))
    ∗ (bigSep Finset.univ fun uj : Fin 4 × Fin 15 => dutyTok ER (kcell c (kSnd uj.1 (par uj.2))) (uj.2.val / 2) 0)
    ∗ (bigSep Finset.univ fun k : Fin 15 => dutyTok ER (kcell c (kAsn k)) 0 0)
    ∗ (bigSep Finset.univ fun uj : Fin 4 × Fin 15 => Release.writeTok EL ((dn uj.1 c, .inl (uj.1, par uj.2)) : Key) (uj.2.val / 2 + 1))
    ∗ (bigSep Finset.univ fun k : Fin 15 => Release.writeTok EL ((shift k c, .inr k) : Key) 1)
    ∗ bigSep Finset.univ fun i : KI => Release.readerAt EL ((c, i) : Key) 0)
/-- what it may wait for; -/
def awaits (c : Dev nD) : sProp 𝕄 := bigSep Finset.univ fun x : TK => cred (cre c x)
/-- and its buffers. -/
def scr (c : Dev nD) : sProp 𝕄 :=
  iprop(((∃ f, xPts c f) ∗ ∃ g, wPts c g) ∗ (bigSep Finset.univ fun u => iprop(slotAny (accM u) c 0 ∗ slotAny (accM u) c 1))
    ∗ (bigSep Finset.univ fun u => iprop(slotAny (recvM u) c 0 ∗ slotAny (recvM u) c 1)) ∗ aSrcAny c ∗ ∃ f, aBufPts c f)

theorem Sl_all (c : Dev nD) (f : (cc0_scratch23 : Ref sig .tc).ty.Contents (Elt F)) :
    iprop((bigSep Finset.univ fun u => iprop(slotAny (recvM u) c 0 ∗ slotAny (recvM u) c 1)) ∗ bigSep Finset.univ fun k : Fin 15 => rowPts c (src k c) f)
      ⊢ (bigSep Finset.univ fun i : KI => Sl (F := F) (c, i) : sProp 𝕄) := by
  rw [sep_sum, bigSep_univ_prod]
  have h (k : Fin 15) : rowPts c (src k c) f ⊢ (Sl (F := F) (c, .inr k) : sProp 𝕄) := by
    unfold Sl rowAny; iintro H; iexists f; iexact H
  have h2 (u : Fin 4) : iprop(slotAny (recvM u) c 0 ∗ slotAny (recvM u) c 1) ⊢ (bigSep Finset.univ fun p : Fin 2 => Sl (F := F) (c, .inl (u, p)) : sProp 𝕄) := by
    rw [sep_two]; unfold Sl; exact Entails.rfl
  have h3 : (bigSep Finset.univ fun k : Fin 15 => rowPts c (src k c) f) ⊢ (bigSep Finset.univ fun k : Fin 15 => Sl (F := F) (c, .inr k) : sProp 𝕄) := bigSep_mono fun k _ => h k
  have h4 : (bigSep Finset.univ fun u => iprop(slotAny (recvM u) c 0 ∗ slotAny (recvM u) c 1))
      ⊢ (bigSep Finset.univ fun u => bigSep Finset.univ fun p : Fin 2 => Sl (F := F) (c, .inl (u, p)) : sProp 𝕄) := bigSep_mono fun u _ => h2 u
  iintro ⟨Ha, Hb⟩
  isplitl [Ha]
  · iapply h4; iexact Ha
  iapply h3; iexact Hb

/-- One unit's share. -/
def unitIn (u : Fin 4) (c : Dev nD) : sProp 𝕄 :=
  iprop((slotAny (accM u) c 0 ∗ slotAny (accM u) c 1) ∗ (atPos ER (kcell c (kSnd u 0)) 0 ∅ 0 ∗ atPos ER (kcell c (kSnd u 1)) 0 ∅ 0)
    ∗ (atPos ER (kcell c (kRcv u 0)) 0 ∅ 0 ∗ atPos ER (kcell c (kRcv u 1)) 0 ∅ 0) ∗ atPos ER (kcell c (kCrd u)) 0 ∅ 0
    ∗ (bigSep Finset.univ fun j : Fin 15 => dutyTok ER (kcell c (kSnd u (par j))) (j.val / 2) 0)
    ∗ (bigSep Finset.univ fun j : Fin 15 => dutyTok ER (kcell (tgt c (tMsg u j)) (kind c (tMsg u j))) (rnd (tMsg u j)) (dut (tMsg u j)))
    ∗ (bigSep Finset.univ fun j : Fin 15 => Release.writeTok EL ((dn u c, .inl (u, par j)) : Key) (j.val / 2 + 1))
    ∗ (bigSep Finset.univ fun k : Fin 13 => dutyTok ER (kcell (tgt c (tCrd u k)) (kind c (tCrd u k))) (rnd (tCrd u k)) (dut (tCrd u k)))
    ∗ (bigSep Finset.univ fun j : Fin 15 => cred (cre c (tMsg u j))) ∗ bigSep Finset.univ fun k : Fin 13 => cred (cre c (tCrd u k)))

theorem unit_intro (c : Dev nD) (u : Fin 4) : iprop(Ctx X Wt Kn ιn ∗ unitIn u c) ⊢ (U0 u c : sProp 𝕄) := by
  have e1 : iprop((bigSep Finset.univ fun j : Fin 15 => dutyTok ER (kcell c (kSnd u (par j))) (j.val / 2) 0)
      ∗ (bigSep Finset.univ fun j : Fin 15 => dutyTok ER (kcell (tgt c (tMsg u j)) (kind c (tMsg u j))) (rnd (tMsg u j)) (dut (tMsg u j)))
      ∗ (bigSep Finset.univ fun j : Fin 15 => Release.writeTok EL ((dn u c, .inl (u, par j)) : Key) (j.val / 2 + 1))) = (bigSep (Finset.Ico 0 15) (tokM u c) : sProp 𝕄) := by
    rw [← fin_ico]
    unfold tokM
    rw [sep_zip, sep_zip]; rfl
  have e2 : (bigSep Finset.univ fun k : Fin 13 => dutyTok ER (kcell (tgt c (tCrd u k)) (kind c (tCrd u k))) (rnd (tCrd u k)) (dut (tCrd u k)))
      = (bigSep (Finset.Ico 0 13) (tokC u c) : sProp 𝕄) := by rw [← fin_ico]; unfold tokC; rfl
  have e3 : (bigSep Finset.univ fun j : Fin 15 => cred (cre c (tMsg u j))) = (bigSep (Finset.Ico 0 15) (tokR u c) : sProp 𝕄) := by
    rw [← fin_ico]; unfold tokR; rfl
  have e4 : (bigSep Finset.univ fun k : Fin 13 => cred (cre c (tCrd u k))) = (bigSep (Finset.Ico 0 13) (tokW u c) : sProp 𝕄) := by
    rw [← fin_ico]; unfold tokW; rfl
  unfold unitIn U0 rights crdSt sndReady rcvReady
  rw [← e1, ← e2, ← e3, ← e4]
  iintro ⟨#HC, Ha, ⟨Hs0, Hs1⟩, ⟨Hr0, Hr1⟩, Hc, H1, H2, H3, H4, H5, H6⟩
  isplitl [Ha]; · iexact Ha
  isplitl [Hs0 Hs1]
  · isplitl [Hs0]
    · isplitl [Hs0]; · iexact Hs0
      iapply (ctx_reached X Wt Kn ιn c (kSnd u 0)); iexact HC
    isplitl [Hs1]; · iexact Hs1
    iapply (ctx_reached X Wt Kn ιn c (kSnd u 1)); iexact HC
  isplitl [Hr0 Hr1]
  · isplitl [Hr0]
    · isplitl [Hr0]; · iexact Hr0
      iapply (ctx_reached X Wt Kn ιn c (kRcv u 0)); iexact HC
    isplitl [Hr1]; · iexact Hr1
    iapply (ctx_reached X Wt Kn ιn c (kRcv u 1)); iexact HC
  isplitr [Hc]
  · isplitl [H1 H2 H3]
    · isplitl [H1]; · iexact H1
      isplitl [H2]; · iexact H2
      iexact H3
    isplitl [H5]; · iexact H5
    isplitl [H4]; · iexact H4
    iexact H6
  iexists ∅
  isplitl [Hc]; · iexact Hc
  rw [bigSep_empty]; iempintro

theorem with_ctx {ι : Type} [Fintype ι] [DecidableEq ι] {P : sProp 𝕄} [BI.Persistent P] {Φ Ψ : ι → sProp 𝕄} (h : ∀ i, iprop(P ∗ Φ i) ⊢ Ψ i) :
    iprop(P ∗ bigSep Finset.univ Φ) ⊢ bigSep Finset.univ Ψ :=
  (sep_mono_left (BI.bigSep_of_persistent Finset.univ P)).trans (by rw [← bigSep_sep']; exact bigSep_mono fun i _ => h i)

/-- Everything a device's body starts with, sorted. -/
def sorted (c : Dev nD) : sProp 𝕄 :=
  iprop((four fun u => U0 u c) ∗ (bigSep Finset.univ fun i : KI => iprop(Release.readerAt EL ((c, i) : Key) 0 ∗ Sl (F := F) (c, i)))
    ∗ (dutyTok ER (bcell (nxt c)) 0 0 ∗ dutyTok ER (bcell (prv c)) 0 1) ∗ atPos ER (bcell c) 0 ∅ 0
    ∗ (cred (tallyAt (bcell c) 1 1) ∗ cred (tallyAt (bcell c) 1 1)) ∗ ((∃ f, xPts c f) ∗ ∃ g, wPts c g) ∗ amxPre c ∗ atPos ER (kcell c (kArc c)) 0 ∅ 0)

theorem sort (c : Dev nD) : iprop(Ctx X Wt Kn ιn ∗ lin c ∗ awaits c ∗ scr c) ⊢ (sorted (F := F) c : sProp 𝕄) := by
  have e1 : (bigSep Finset.univ fun k : Fin 15 => dutyTok ER (kcell (tgt c (tAmx k)) (kind c (tAmx k))) (rnd (tAmx k)) (dut (tAmx k)))
      = (bigSep Finset.univ fun k : Fin 15 => dutyTok ER (kcell (shift k c) (kArc c)) 0 0 : sProp 𝕄) := rfl
  have e2 : (bigSep Finset.univ fun k : Fin 15 => cred (cre c (tAmx k)))
      = (bigSep Finset.univ fun k : Fin 15 => cred (tallyAt (kcell c (kArc (shift k c))) 100 NA) : sProp 𝕄) :=
    others_eq c fun i => (cred (tallyAt (kcell c (kArc i)) 100 NA) : sProp 𝕄)
  unfold lin awaits scr sorted amxPre tokA
  rw [split_KK, split_TK, split_TK, bigSep_univ_prod, bigSep_univ_prod, e1, e2, devs_eq c fun i => (atPos ER (kcell c (kArc i)) 0 ∅ 0 : sProp 𝕄)]
  iintro ⟨#HC, ⟨⟨Pb, Ps, Pr, Pc, Pn, Pa, Pas⟩, ⟨⟨Tb0, Tb1⟩, Tm, Tc, Ta⟩, To, Tn, Wm, Wa, Rd⟩, ⟨⟨Cb0, Cb1⟩, Cm, Cc, Ca⟩, Hxw, Hacc, Hrecv, Hsrc, ⟨%fb, Hb⟩⟩
  ihave Hb := (Entails.of_eq ((rows_eq c fb).trans (devs_src c fun i => rowPts c i fb))) $$ Hb
  icases Hb with ⟨Hb, Hbs⟩
  isplitl [Ps Pr Pc Tm Tc To Wm Cm Cc Hacc]
  · iapply (four_intro fun u => U0 (F := F) u c)
    iapply (with_ctx (unit_intro X Wt Kn ιn c))
    isplitr; · iexact HC
    unfold unitIn
    iapply (zip_in); isplitl [Hacc]; · iexact Hacc
    iapply (zip_in); isplitl [Ps]; · iexact Ps
    iapply (zip_in); isplitl [Pr]; · iexact Pr
    iapply (zip_in); isplitl [Pc]; · iexact Pc
    iapply (zip_in); isplitl [To]; · iexact To
    iapply (zip_in); isplitl [Tm]; · iexact Tm
    iapply (zip_in); isplitl [Wm]; · iexact Wm
    iapply (zip_in); isplitl [Tc]; · iexact Tc
    iapply (zip_in); isplitl [Cm]; · iexact Cm
    iexact Cc
  isplitl [Rd Hrecv Hbs]
  · iapply zip_in; isplitl [Rd]; · iexact Rd
    iapply (Sl_all c fb)
    isplitl [Hrecv]; · iexact Hrecv
    iexact Hbs
  isplitl [Tb0 Tb1]
  · isplitl [Tb0]; · iexact Tb0
    iexact Tb1
  isplitl [Pb]; · iexact Pb
  isplitl [Cb0 Cb1]
  · isplitl [Cb0]; · iexact Cb0
    iexact Cb1
  isplitl [Hxw]; · iexact Hxw
  isplitr [Pa]
  · isplitl [Hsrc Hb]
    · isplitl [Hsrc]; · iexact Hsrc
      unfold rowAny; iexists fb; iexact Hb
    isplitl [Tn Ta Wa]
    · iapply zip_in; isplitl [Tn]; · iexact Tn
      iapply zip_in; isplitl [Ta]; · iexact Ta
      iexact Wa
    isplitl [Pn]; · iexact Pn
    iapply zip_in; isplitl [Pas]; · iexact Pas
    iexact Ca
  iexact Pa

/-! ## What a device ends with -/

/-- The round at which a cell's places end. -/
def endR (c : Dev nD) : KK → ℕ
  | none => 1
  | some (.inl (_, p)) => 8 - p.val
  | some (.inr (.inl (_, p))) => 8 - p.val
  | some (.inr (.inr (.inl _))) => 1
  | some (.inr (.inr (.inr (.inl _)))) => 1
  | some (.inr (.inr (.inr (.inr i)))) => if i = c then 0 else 1

theorem end_empty (c : Dev nD) : ∀ (k : KK) (r : ℕ), endR c k ≤ r → dutK c r k = ∅
  | none, r, h => if_neg (by simp only [endR] at h; omega)
  | some (.inl (_, p)), r, h => if_neg (by simp only [endR] at h; omega)
  | some (.inr (.inl (_, p))), r, h => if_neg (by simp only [endR] at h; omega)
  | some (.inr (.inr (.inl _))), r, h => if_neg (by simp only [endR] at h; omega)
  | some (.inr (.inr (.inr (.inl _)))), r, h => if_neg (by simp only [endR] at h; omega)
  | some (.inr (.inr (.inr (.inr i)))), r, h => if_neg (by
      simp only [endR] at h
      rintro ⟨h1, h2⟩
      rw [if_neg h2] at h; omega)

theorem close_all (c : Dev nD) : iprop(Ctx X Wt Kn ιn ∗ bigSep Finset.univ fun k : KK => atPos ER (kcell c k) (endR c k) ∅ 0)
    ⊢ (|={Set.univ}=> (bigSep Finset.univ fun k : KK => semVal (kcell c k) 0) : sProp 𝕄) := by
  have h (k : KK) : iprop(Ctx X Wt Kn ιn ∗ atPos ER (kcell c k) (endR c k) ∅ 0) ⊢ (|={Set.univ}=> semVal (kcell c k) 0 : sProp 𝕄) := by
    iintro ⟨#HC, H⟩
    iapply (Rounds.cell_close ER (sch X Wt) (κ := Kn (c, k)) (Set.mem_univ _) (fun h => h) (R := endR c k)
      (fun r hr => (sch_duties X Wt c k r).trans (end_empty c k r hr)))
    isplitr
    · iapply (ctx_cell X Wt Kn ιn c k); iexact HC
    iexact H
  exact (with_ctx h).trans (bigSep_fupd _ _)

theorem gather (c : Dev nD) : iprop((four fun u => SD u c) ∗ atPos ER (bcell c) 1 ∅ 0 ∗ amxPost X Wt c ∗ atPos ER (kcell c (kArc c)) 0 ∅ 0)
    ⊢ (iprop((bigSep Finset.univ fun k : KK => atPos ER (kcell c k) (endR c k) ∅ 0)
        ∗ (bigSep Finset.univ fun u => iprop(slotAny (accM u) c 0 ∗ slotAny (accM u) c 1))
        ∗ (bigSep Finset.univ fun u => iprop(slotAny (recvM u) c 0 ∗ slotAny (recvM u) c 1)) ∗ aSrcAny c ∗ ∃ f, aBufPts c f) : sProp 𝕄) := by
  have eu (u : Fin 4) : SD u c ⊢ (iprop((slotAny (accM u) c 0 ∗ slotAny (accM u) c 1) ∗ (atPos ER (kcell c (kSnd u 0)) 8 ∅ 0 ∗ atPos ER (kcell c (kSnd u 1)) 7 ∅ 0)
      ∗ (atPos ER (kcell c (kRcv u 0)) 8 ∅ 0 ∗ atPos ER (kcell c (kRcv u 1)) 7 ∅ 0) ∗ (slotAny (recvM u) c 0 ∗ slotAny (recvM u) c 1) ∗ atPos ER (kcell c (kCrd u)) 1 ∅ 0) : sProp 𝕄) := by
    unfold SD sndReady rcvReady crdDone
    iintro ⟨Ha, ⟨⟨Hs1, -⟩, ⟨Hs0, -⟩⟩, ⟨⟨Hr1, -⟩, ⟨Hr0, -⟩⟩, Hb, Hc⟩
    isplitl [Ha]; · iexact Ha
    isplitl [Hs0 Hs1]
    · isplitl [Hs0]; · iexact Hs0
      iexact Hs1
    isplitl [Hr0 Hr1]
    · isplitl [Hr0]; · iexact Hr0
      iexact Hr1
    isplitl [Hb]; · iexact Hb
    iexact Hc
  have eU : (four fun u => SD u c) ⊢ (bigSep Finset.univ fun u : Fin 4 => (iprop((slotAny (accM u) c 0 ∗ slotAny (accM u) c 1) ∗ (atPos ER (kcell c (kSnd u 0)) 8 ∅ 0 ∗ atPos ER (kcell c (kSnd u 1)) 7 ∅ 0)
      ∗ (atPos ER (kcell c (kRcv u 0)) 8 ∅ 0 ∗ atPos ER (kcell c (kRcv u 1)) 7 ∅ 0) ∗ (slotAny (recvM u) c 0 ∗ slotAny (recvM u) c 1) ∗ atPos ER (kcell c (kCrd u)) 1 ∅ 0) : sProp 𝕄)) :=
    (four_elim _).trans (bigSep_mono fun u _ => eu u)
  have ec : (endR c (kArc c)) = 0 := if_pos rfl
  have es : (bigSep Finset.univ fun k : Fin 15 => (atPos ER (kcell c (kArc (shift k c))) (endR c (kArc (shift k c))) ∅ 0 : sProp 𝕄))
      = bigSep Finset.univ fun k : Fin 15 => (atPos ER (kcell c (kArc (shift k c))) 1 ∅ 0 : sProp 𝕄) :=
    bigSep_congr fun k _ => by rw [show endR c (kArc (shift k c)) = 1 from if_neg (shift_ne k c)]
  rw [split_KK, devs_eq c fun i => (atPos ER (kcell c (kArc i)) (endR c (kArc i)) ∅ 0 : sProp 𝕄), es, ec]
  unfold amxPost
  iintro ⟨HU, Hb, ⟨⟨Hs, Hr⟩, Hn, Ha⟩, Hac⟩
  ihave HU := eU $$ HU
  ihave HU := zip_out $$ HU
  icases HU with ⟨Hacc, HU⟩
  ihave HU := zip_out $$ HU
  icases HU with ⟨Hsn, HU⟩
  ihave HU := zip_out $$ HU
  icases HU with ⟨Hrc, HU⟩
  ihave HU := zip_out $$ HU
  icases HU with ⟨Hrv, Hcr⟩
  isplitr [Hacc Hrv Hs Hr]
  · isplitl [Hb]; · iexact Hb
    isplitl [Hsn]; · iexact Hsn
    isplitl [Hrc]; · iexact Hrc
    isplitl [Hcr]; · iexact Hcr
    isplitl [Hn]; · iexact Hn
    isplitl [Hac]; · iexact Hac
    iexact Ha
  isplitl [Hacc]; · iexact Hacc
  isplitl [Hrv]; · iexact Hrv
  isplitl [Hs]; · iexact Hs
  iexists (amaxB X Wt); iexact Hr

/-- The whole body: from a device's share of the start to its part of the result, every counter back at zero. -/
theorem body_run (c : Dev nD) (f) (Q : PUnit → sProp 𝕄) :
    iprop(Ctx X Wt Kn ιn ∗ lin c ∗ awaits c ∗ scr c ∗ (xInPts c (X c) ∗ wInPts c (Wt c)) ∗ oPts c f ∗ Owe c allL)
      ⊢ iprop((((xInPts c (X c) ∗ wInPts c (Wt c)) ∗ oPts c (outAt X Wt c) ∗ scr c ∗ (bigSep Finset.univ fun k : KK => semVal (kcell c k) 0) ∗ Owe c []) -∗ WP c (.ret ⟨⟩) Q)
        -∗ WP c (onDev c) Q) := by
  iintro ⟨#HC, Hl, Hw, Hs, Hin, Ho, Howe⟩ Hk
  ihave H := (sort X Wt Kn ιn c) $$ [Hl Hw Hs]
  · isplitr; · iexact HC
    isplitl [Hl]; · iexact Hl
    isplitl [Hw]; · iexact Hw
    iexact Hs
  unfold sorted
  icases H with ⟨HU, HR, Hbt, Hbp, Hbc, ⟨⟨%fx, Hx⟩, ⟨%fw, Hw⟩⟩, Hamx, Har⟩
  imod (open_start X Wt Kn ιn c) $$ [HU HR] with ⟨HU, HM, #HA⟩
  · isplitr; · iexact HC
    isplitl [HU]; · iexact HU
    iexact HR
  unfold onDev
  iapply (meet_run X Wt Kn ιn c _ Q) $$ [HM Hbt Hbp Hbc Howe]
  · isplitr; · iexact HC
    isplitl [HM]; · iexact HM
    isplitl [Hbt]; · iexact Hbt
    isplitl [Hbp]; · iexact Hbp
    isplitl [Hbc]; · iexact Hbc
    iexact Howe
  iintro ⟨HM, Hbp, Howe⟩
  iapply (prologue_run X Wt Kn ιn c fx fw _ Q) $$ [Hin Hx Hw HU HM Howe]
  · isplitr; · iexact HC
    isplitr; · iexact HA
    isplitl [Hin]; · iexact Hin
    isplitl [Hx Hw]
    · isplitl [Hx]; · iexact Hx
      iexact Hw
    isplitl [HU HM]
    · unfold four U2
      icases HU with ⟨U0, U2, U1, U3⟩
      icases HM with ⟨M0, M2, M1, M3⟩
      isplitl [U0 M0]; · isplitl [U0] <;> iassumption
      isplitl [U2 M2]; · isplitl [U2] <;> iassumption
      isplitl [U1 M1]; · isplitl [U1] <;> iassumption
      isplitl [U3] <;> iassumption
    iexact Howe
  iintro ⟨Hin, Hb, HS, Howe⟩
  iapply (quad_first X Wt Kn ιn c (midL 12 (by decide)) (fun x hx => by have := midL_gt 12 (by decide) x hx; omega) _ Q) $$ [Hb HS Howe]
  · isplitr; · iexact HC
    isplitr; · iexact HA
    isplitl [Hb]; · iexact Hb
    isplitl [HS]; · iexact HS
    iexact Howe
  iintro ⟨Hb, HS, Howe⟩
  iapply (mids_run X Wt Kn ιn c 12 _ _ Q) $$ [Hb HS Howe]
  · isplitr; · iexact HC
    isplitr; · iexact HA
    isplitl [Hb]; · iexact Hb
    isplitl [HS]; · iexact HS
    iexact Howe
  iintro ⟨Hb, HS, Howe⟩
  iapply (quad_late X Wt Kn ιn c _ Q) $$ [Hb HS Howe]
  · isplitr; · iexact HC
    isplitr; · iexact HA
    isplitl [Hb]; · iexact Hb
    isplitl [HS]; · iexact HS
    iexact Howe
  iintro ⟨Hb, HS, Howe⟩
  iapply (finish_run X Wt Kn ιn c f Q) $$ [Hb HS Ho Howe]
  · isplitr; · iexact HC
    isplitl [Hb]; · iexact Hb
    isplitl [Ho]; · iexact Ho
    isplitl [HS]; · iexact HS
    iexact Howe
  iintro ⟨Hb, Ho, HS, Howe⟩
  iapply (exchange_run X Wt Kn ιn c _ Q) $$ [HS Ho Hamx Howe]
  · isplitr; · iexact HC
    isplitl [Ho]; · iexact Ho
    isplitl [HS]; · iexact HS
    isplitl [Hamx]; · iexact Hamx
    iexact Howe
  rw [out_eq X Wt c f]
  iintro ⟨Ho, HS, Hamx, Howe⟩
  ihave H := (gather X Wt c) $$ [HS Hbp Hamx Har]
  · isplitl [HS]; · iexact HS
    isplitl [Hbp]; · iexact Hbp
    isplitl [Hamx]; · iexact Hamx
    iexact Har
  icases H with ⟨Hp, Hacc, Hrv, Hsr, Hbf⟩
  imod (close_all X Wt Kn ιn c) $$ [Hp] with Hz
  · isplitr; · iexact HC
    iexact Hp
  iapply Hk
  isplitl [Hin]; · iexact Hin
  isplitl [Ho]; · iexact Ho
  isplitr [Hz Howe]
  · unfold scr bufs
    icases Hb with ⟨Hx, Hw⟩
    isplitl [Hx Hw]
    · isplitl [Hx]; · iexists (X c); iexact Hx
      iexists (Wt c); iexact Hw
    isplitl [Hacc]; · iexact Hacc
    isplitl [Hrv]; · iexact Hrv
    isplitl [Hsr]; · iexact Hsr
    iexact Hbf
  isplitl [Hz]; · iexact Hz
  iexact Howe

end Cert.KernelIdeal.Own

end
-- ==== Proof.Ghost.lean ====
module

public import proofs.«01_k».proof.Proof.Body

/-! # Dealing out the start

The rights of all payments and writes, made once and given to whoever makes them. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (X : Dev nD → (cc0_scratch0 : Ref sig .tc).ty.Contents (Elt F)) (Wt : Dev nD → (cc0_scratch1 : Ref sig .tc).ty.Contents (Elt F))

/-! ## Every cell and every right once -/

def cellAt (ck : Dev nD × KK) : GSem nD τ sig := kcell ck.1 ck.2
theorem cellAt_inj : Function.Injective cellAt := by
  rintro ⟨c, k⟩ ⟨c', k'⟩ h
  obtain ⟨h1, h2⟩ := kcell_inj h
  exact Prod.ext h1 h2
def ringCells : Finset (GSem nD τ sig) := Finset.univ.map ⟨cellAt, cellAt_inj⟩

/-- The rights to pay, by who pays: another device, oneself at the end of a message's sending, and at the end of the
    sending of the largest entry. -/
abbrev TT : Type := (Dev nD × TK) ⊕ (Dev nD × (Fin 4 × Fin 15)) ⊕ (Dev nD × Fin 15)
def tokAt : TT → GSem nD τ sig × ℕ × ℕ
  | .inl (c, x) => (kcell (tgt c x) (kind c x), rnd x, dut x)
  | .inr (.inl (c, uj)) => (kcell c (kSnd uj.1 (par uj.2)), uj.2.val / 2, 0)
  | .inr (.inr (c, k)) => (kcell c (kAsn k), 0, 0)

theorem par_div_inj {j j' : Fin 15} (h : par j = par j') (h' : j.val / 2 = j'.val / 2) : j = j' := by
  have := congrArg Fin.val h
  unfold par at this; dsimp only at this
  exact Fin.ext (by omega)
theorem shift_inj' (c : Dev nD) {k k' : Fin 15} (h : shift k c = shift k' c) : k = k' := shift_inj c h

theorem kSnd_inj {u u' : Fin 4} {p p' : Fin 2} (h : kSnd u p = kSnd u' p') : u = u' ∧ p = p' := by
  have h := Option.some.inj h; have h := Sum.inl.inj h; exact ⟨congrArg Prod.fst h, congrArg Prod.snd h⟩
theorem kRcv_inj {u u' : Fin 4} {p p' : Fin 2} (h : kRcv u p = kRcv u' p') : u = u' ∧ p = p' := by
  have h := Option.some.inj h; have h := Sum.inl.inj (Sum.inr.inj h); exact ⟨congrArg Prod.fst h, congrArg Prod.snd h⟩
theorem kCrd_inj {u u' : Fin 4} (h : kCrd u = kCrd u') : u = u' := Sum.inl.inj (Sum.inr.inj (Sum.inr.inj (Option.some.inj h)))
theorem kAsn_inj {u u' : Fin 15} (h : kAsn u = kAsn u') : u = u' := Sum.inl.inj (Sum.inr.inj (Sum.inr.inj (Sum.inr.inj (Option.some.inj h))))
theorem kArc_inj {u u' : Fin 16} (h : kArc u = kArc u') : u = u' := Sum.inr.inj (Sum.inr.inj (Sum.inr.inj (Sum.inr.inj (Option.some.inj h))))

/-- A payment is known by its kind, its round and its number, and by where it goes. -/
theorem pay_inj {c c' : Dev nD} {x x' : TK} (hk : kind c x = kind c' x') (ht : tgt c x = tgt c' x') (hr : rnd x = rnd x') (hd : dut x = dut x') :
    x = x' := by
  rcases x with b | ⟨u, j⟩ | ⟨u, k⟩ | k <;> rcases x' with b' | ⟨u', j'⟩ | ⟨u', k'⟩ | k'
  · rw [show b = b' from Fin.ext hd]
  · exact absurd hk (by intro h; cases h)
  · exact absurd hk (by intro h; cases h)
  · exact absurd hk (by intro h; cases h)
  · exact absurd hk (by intro h; cases h)
  · obtain ⟨h1, h2⟩ := kRcv_inj hk
    rw [h1, show j = j' from par_div_inj h2 hr]
  · exact absurd hk (by intro h; cases h)
  · exact absurd hk (by intro h; cases h)
  · exact absurd hk (by intro h; cases h)
  · exact absurd hk (by intro h; cases h)
  · rw [kCrd_inj hk, show k = k' from Fin.ext hd]
  · exact absurd hk (by intro h; cases h)
  · exact absurd hk (by intro h; cases h)
  · exact absurd hk (by intro h; cases h)
  · exact absurd hk (by intro h; cases h)
  · have hc : c = c' := kArc_inj hk
    subst hc
    rw [shift_inj' c ht]

theorem tokAt_inj : Function.Injective tokAt := by
  rintro (⟨c, x⟩ | ⟨c, u, j⟩ | ⟨c, k⟩) (⟨c', x'⟩ | ⟨c', u', j'⟩ | ⟨c', k'⟩) h
  all_goals obtain ⟨h1, h2⟩ := kcell_inj (congrArg Prod.fst h)
  all_goals have h3 := congrArg (fun y : GSem nD τ sig × ℕ × ℕ => y.2.1) h
  all_goals have h4 := congrArg (fun y : GSem nD τ sig × ℕ × ℕ => y.2.2) h
  · have hx : x = x' := pay_inj h2 h1 h3 h4
    subst hx
    have hc : c = c' := by rw [← payer_tgt c x, h1, payer_tgt]
    rw [hc]
  · rcases x with b | ⟨v, i⟩ | ⟨v, i⟩ | i <;> exact absurd h2 (by intro h; cases h)
  · rcases x with b | ⟨v, i⟩ | ⟨v, i⟩ | i <;> exact absurd h2 (by intro h; cases h)
  · rcases x' with b | ⟨v, i⟩ | ⟨v, i⟩ | i <;> exact absurd h2 (by intro h; cases h)
  · obtain ⟨h5, h6⟩ := kSnd_inj h2
    dsimp only at h5 h6
    have hj : j = j' := par_div_inj h6 h3
    rw [h1, h5, hj]
  · exact absurd h2 (by intro h; cases h)
  · rcases x' with b | ⟨v, i⟩ | ⟨v, i⟩ | i <;> exact absurd h2 (by intro h; cases h)
  · exact absurd h2 (by intro h; cases h)
  · rw [h1, kAsn_inj h2]
def ringToks : Finset (GSem nD τ sig × ℕ × ℕ) := Finset.univ.map ⟨tokAt, tokAt_inj⟩

/-- The rights to write, by who writes. -/
abbrev WK : Type := (Dev nD × (Fin 4 × Fin 15)) ⊕ (Dev nD × Fin 15)
def wrtAt : WK → Key × ℕ
  | .inl (c, uj) => ((dn uj.1 c, .inl (uj.1, par uj.2)), uj.2.val / 2)
  | .inr (c, k) => ((shift k c, .inr k), 0)
theorem wrtAt_inj : Function.Injective wrtAt := by
  rintro (⟨c, u, j⟩ | ⟨c, k⟩) (⟨c', u', j'⟩ | ⟨c', k'⟩) h
  all_goals have h1 := congrArg (fun y : Key × ℕ => y.1.1) h
  all_goals have h2 := congrArg (fun y : Key × ℕ => y.1.2) h
  all_goals have h3 := congrArg (fun y : Key × ℕ => y.2) h
  · have h5 := Sum.inl.inj h2
    have hu : u = u' := congrArg Prod.fst h5
    have hp : par j = par j' := congrArg Prod.snd h5
    subst hu
    have hj : j = j' := par_div_inj hp h3
    have hc : c = c' := by
      have h1 : dn u c = dn u c' := h1
      rw [← up_dn u c, h1, up_dn]
    rw [hj, hc]
  · exact absurd h2 (by intro h; cases h)
  · exact absurd h2 (by intro h; cases h)
  · have hk : k = k' := Sum.inr.inj h2
    subst hk
    have hc : c = c' := by
      have h1 : shift k c = shift k c' := h1
      rw [← src_shift k c, h1, src_shift]
    rw [hc]
def wrts : Finset (Key × ℕ) := Finset.univ.map ⟨wrtAt, wrtAt_inj⟩
theorem wrts_sub : wrts ⊆ (Finset.univ : Finset Key) ×ˢ Finset.range 8 := by
  intro y hy
  obtain ⟨w, -, rfl⟩ := Finset.mem_map.mp hy
  refine Finset.mem_product.mpr ⟨Finset.mem_univ _, Finset.mem_range.mpr ?_⟩
  rcases w with ⟨c, u, j⟩ | ⟨c, k⟩
  · show j.val / 2 < 8; omega
  · show 0 < 8; decide

/-! ## What the launch deals each device -/

def slots (ιn : Key → ℕ) : sProp 𝕄 := bigSep Finset.univ fun k : Key => Release.slotInv EL (ιn k) k (Sl (F := F) k)
instance slots_persistent (ιn : Key → ℕ) : BI.Persistent (slots (F := F) ιn) := by unfold slots; infer_instance

def G (c : Dev nD) : sProp 𝕄 :=
  iprop((bigSep Finset.univ fun k : KK => roundState ER (sch X Wt) (kcell c k) 0) ∗ (bigSep Finset.univ fun k : KK => reached ER (kcell c k) 0)
    ∗ (∃ ιn, slots (F := F) ιn) ∗ lin c)
/-- The same once the cells are open to all. -/
def G' (c : Dev nD) : sProp 𝕄 :=
  iprop(∃ (Kn : Dev nD × KK → ℕ) (ιn : Key → ℕ), ((bigSep Finset.univ fun ck : Dev nD × KK => cellInv ER (sch X Wt) (Kn ck) (kcell ck.1 ck.2))
    ∗ (bigSep Finset.univ fun ck : Dev nD × KK => reached ER (kcell ck.1 ck.2) 0) ∗ slots (F := F) ιn) ∗ lin c)

theorem lin_all : iprop((bigSep Finset.univ fun c : Dev nD => bigSep Finset.univ fun k : KK => atPos ER (kcell c k) 0 ∅ 0)
      ∗ bigSep ringToks (fun x => dutyTok ER x.1 x.2.1 x.2.2)
      ∗ bigSep wrts (fun x => Release.writeTok EL x.1 (x.2 + 1))
      ∗ bigSep Finset.univ fun k : Key => Release.readerAt EL k 0)
    ⊢ (bigSep Finset.univ fun c : Dev nD => lin c : sProp 𝕄) := by
  unfold lin
  rw [sep_zip, sep_zip, sep_zip, sep_zip, sep_zip, sep_zip]
  unfold ringToks wrts
  rw [bigSep_map, bigSep_map, sep_sum, sep_sum, sep_sum, bigSep_univ_prod, bigSep_univ_prod, bigSep_univ_prod, bigSep_univ_prod, bigSep_univ_prod, bigSep_univ_prod]
  iintro ⟨Hp, ⟨Ht, Hs, Hn⟩, ⟨Hw, Ha⟩, Hr⟩
  isplitl [Hp]; · iexact Hp
  isplitl [Ht]; · iexact Ht
  isplitl [Hs]; · iexact Hs
  isplitl [Hn]; · iexact Hn
  isplitl [Hw]; · iexact Hw
  isplitl [Ha]; · iexact Ha
  iexact Hr

theorem fund_all : BI.own ((embR : Emb (UB × US) 𝕄) (initOf ringCells ringToks, Release.initSlots (Finset.univ : Finset Key) 8))
    ⊢ (|={Set.univ}=> bigSep Finset.univ (G X Wt) : sProp 𝕄) := by
  have hX (Φ : GSem nD τ sig → sProp 𝕄) : bigSep ringCells Φ ⊢ bigSep Finset.univ fun c : Dev nD => bigSep Finset.univ fun k : KK => Φ (kcell c k) := by
    unfold ringCells; rw [bigSep_map, bigSep_univ_prod]; exact Entails.rfl
  have hw : bigSep ((Finset.univ : Finset Key) ×ˢ Finset.range 8) (fun x => (Release.writeTok EL x.1 (x.2 + 1) : sProp 𝕄))
      ⊢ bigSep wrts (fun x => Release.writeTok EL x.1 (x.2 + 1)) := bigSep_subset wrts_sub
  iintro H
  ihave H := (own_pair_emb (embR : Emb (UB × US) 𝕄) _ _) $$ H
  icases H with ⟨HB, HS⟩
  imod (Rounds.fund ER (sch X Wt) ringCells ringToks) $$ HB with ⟨Hst, Hr, Hat, Htok⟩
  imod (Release.slots_init (Es := Set.univ) EL (Finset.univ : Finset Key) 8 (Sl (F := F))) $$ HS with ⟨%ιn, -, #HI, Hrd, Hwr⟩
  imodintro
  ihave Hst := (hX fun g => roundState ER (sch X Wt) g 0) $$ Hst
  ihave Hat := (hX fun g => atPos ER g 0 ∅ 0) $$ Hat
  ihave Hr := (hX fun g => reached ER g 0) $$ Hr
  ihave Hwr := hw $$ Hwr
  ihave Hl := (lin_all (F := F)) $$ [Hat Htok Hwr Hrd]
  · isplitl [Hat]; · iexact Hat
    isplitl [Htok]; · iexact Htok
    isplitl [Hwr]; · iexact Hwr
    iexact Hrd
  have hj (c : Dev nD) : iprop(slots (F := F) ιn ∗ ((bigSep Finset.univ fun k : KK => roundState ER (sch X Wt) (kcell c k) 0)
      ∗ (bigSep Finset.univ fun k : KK => reached ER (kcell c k) 0) ∗ lin c)) ⊢ (G X Wt c : sProp 𝕄) := by
    unfold G
    iintro ⟨#HI, Ha, Hb, Hc⟩
    isplitl [Ha]; · iexact Ha
    isplitl [Hb]; · iexact Hb
    isplitr; · iexists ιn; iexact HI
    iexact Hc
  iapply (with_ctx hj)
  isplitr
  · unfold slots; iexact HI
  iapply zip_in
  isplitl [Hst]; · iexact Hst
  iapply zip_in
  isplitl [Hr]; · iexact Hr
  iexact Hl

/-! ## Opening the cells -/

theorem ownSemFacts : Pipeline.OwnSemFacts cfg0.spec semC := by decide +kernel
theorem unscopedSems0_eq (c : Dev nD) : (unscopedSems0 c : sProp 𝕄) = semVal (bcell c) 0 := by
  unfold unscopedSems0; rw [bigSep_eq_bigSepL_of_eq [SemLoc.reg barS.sem] (by decide) (by decide)]; rfl
theorem ownSems0_eq (c : Dev nD) : (Pipeline.ownSems0 (Ix := ℕ) (Name := ℕ) (U := UU) (Lvl := ℕ) (Val := Elt F) (τ := τ) semC c : sProp 𝕄)
    = bigSep Finset.univ fun k : CK => semVal (kcell c (some k)) 0 := rfl
theorem sems_eq (c : Dev nD) : (iprop(unscopedSems0 c ∗ Pipeline.ownSems0 (Ix := ℕ) (Name := ℕ) (U := UU) (Lvl := ℕ) (Val := Elt F) (τ := τ) semC c) : sProp 𝕄)
    = bigSep Finset.univ fun k : KK => semVal (kcell c k) 0 := by
  rw [ownSems0_eq, unscopedSems0_eq, sep_option]; rfl

theorem core_alloc (c : Dev nD) :
    iprop(Pipeline.ownSems0 (Ix := ℕ) (Name := ℕ) (U := UU) (Lvl := ℕ) (Val := Elt F) (τ := τ) semC c ∗ unscopedSems0 c ∗ G X Wt c)
      ⊢ (|={Set.univ}=> ((bigSep Finset.univ fun k : KK => iprop(∃ κ : ℕ, cellInv ER (sch X Wt) κ (kcell c k))) ∗ (bigSep Finset.univ fun k : KK => reached ER (kcell c k) 0)
    ∗ (∃ ιn, slots (F := F) ιn) ∗ lin c) : sProp 𝕄) := by
  have ha : iprop((bigSep Finset.univ fun k : KK => semVal (kcell c k) 0) ∗ bigSep Finset.univ fun k : KK => roundState ER (sch X Wt) (kcell c k) 0)
      ⊢ (|={Set.univ}=> (bigSep Finset.univ fun k : KK => iprop(∃ κ : ℕ, cellInv ER (sch X Wt) κ (kcell c k))) : sProp 𝕄) := by
    rw [← bigSep_sep']
    exact (bigSep_mono fun k _ => (Rounds.body_intro ER (sch X Wt) (kcell c k)).trans inv_alloc).trans (bigSep_fupd _ _)
  unfold G
  iintro ⟨Hos, Hus, Hst, Hrest⟩
  ihave Hv := (Entails.of_eq (sems_eq (F := F) c)) $$ [Hos Hus]
  · isplitl [Hus] <;> iassumption
  imod ha $$ [Hv Hst] with Hinv
  · isplitl [Hv] <;> iassumption
  imodintro
  isplitl [Hinv]; · iexact Hinv
  iexact Hrest

theorem regroup : (bigSep Finset.univ fun c : Dev nD => iprop((bigSep Finset.univ fun k : KK => iprop(∃ κ : ℕ, cellInv ER (sch X Wt) κ (kcell c k)))
      ∗ (bigSep Finset.univ fun k : KK => reached ER (kcell c k) 0) ∗ (∃ ιn, slots (F := F) ιn) ∗ lin c) : sProp 𝕄) ⊢ bigSep Finset.univ (G' X Wt) := by
  have h1 : (bigSep Finset.univ fun c : Dev nD => bigSep Finset.univ fun k : KK => iprop(∃ κ : ℕ, cellInv ER (sch X Wt) κ (kcell c k)) : sProp 𝕄)
      ⊢ bigSep Finset.univ fun ck : Dev nD × KK => iprop(∃ κ : ℕ, cellInv ER (sch X Wt) κ (kcell ck.1 ck.2)) := by rw [bigSep_univ_prod]
  have h2 : (bigSep Finset.univ fun c : Dev nD => bigSep Finset.univ fun k : KK => reached ER (kcell c k) 0 : sProp 𝕄)
      ⊢ bigSep Finset.univ fun ck : Dev nD × KK => reached ER (kcell ck.1 ck.2) 0 := by rw [bigSep_univ_prod]
  iintro H
  ihave H := zip_out $$ H
  icases H with ⟨HI, H⟩
  ihave H := zip_out $$ H
  icases H with ⟨HR, H⟩
  ihave HI := h1 $$ HI
  ihave #HR := h2 $$ HR
  ihave HK := (BI.bigSep_exists_pi Finset.univ (fun (ck : Dev nD × KK) (κ : ℕ) => (cellInv ER (sch X Wt) κ (kcell ck.1 ck.2) : sProp 𝕄))) $$ HI
  icases HK with ⟨%Kn, #HI⟩
  have hj (c : Dev nD) : iprop(((bigSep Finset.univ fun ck : Dev nD × KK => cellInv ER (sch X Wt) (Kn ck) (kcell ck.1 ck.2))
      ∗ (bigSep Finset.univ fun ck : Dev nD × KK => reached ER (kcell ck.1 ck.2) 0)) ∗ ((∃ ιn, slots (F := F) ιn) ∗ lin c)) ⊢ (G' X Wt c : sProp 𝕄) := by
    unfold G'
    iintro ⟨⟨#H1, #H2⟩, ⟨%ιn, #H3⟩, H4⟩
    iexists Kn; iexists ιn
    isplitr
    · isplitr; · iexact H1
      isplitr; · iexact H2
      iexact H3
    iexact H4
  iapply (with_ctx hj)
  isplitr
  · isplitr; · iexact HI
    iexact HR
  iexact H

theorem glob : (bigSep Finset.univ fun c => iprop(Pipeline.ownSems0 (Ix := ℕ) (Name := ℕ) (U := UU) (Lvl := ℕ) (Val := Elt F) (τ := τ) semC c ∗ unscopedSems0 c ∗ G X Wt c) : sProp 𝕄)
    ⊢ |={Set.univ}=> bigSep Finset.univ (G' X Wt) :=
  ((bigSep_mono fun c _ => core_alloc X Wt c).trans (bigSep_fupd _ _)).trans (BI.fupd_mono (regroup X Wt))

/-! ## What may be awaited -/

theorem launch_one (c : Dev nD) (x : TK) : (Pipeline.launchCred (fun d => tal d x) c : sProp 𝕄) ⊢ cred (cre c x) := by
  have h : tallyOn ((c.tc : Thread nD τ), semO (kind (payer c x) x)) (launchCredit (Pipeline.owing fun d => tal d x) 0 ((c.tc : Thread nD τ), semO (kind (payer c x) x)))
      = (cre c x : CellTallies nD τ sig ℕ) := by
    unfold cre tallyAt
    refine congrArg _ (Finsupp.ext fun i => ?_)
    rw [Pipeline.launchCredit_owing, Finset.sum_eq_single (payer c x)]
    · unfold tal
      rw [tgt_payer, tallyAt_apply]
      by_cases hi : i = ix x
      · rw [if_pos ⟨rfl, hi⟩, hi, Finsupp.single_eq_same]
      · rw [if_neg (fun h => hi h.2), Finsupp.single_eq_of_ne hi]
    · intro d _ hd
      unfold tal
      rw [tallyAt_apply, if_neg]
      rintro ⟨h, -⟩
      have hc : c = tgt d x := (kcell_inj h).1
      exact hd (by rw [hc, payer_tgt])
    · intro h; exact absurd (Finset.mem_univ _) h
  rw [← h]
  exact Pipeline.launchCred_elim _ c _

theorem launch_list (c : Dev nD) : ∀ l : List TK, l.Nodup →
    ((Pipeline.launchCred (fun d => owedL d l) c : sProp 𝕄) ⊢ bigSep l.toFinset fun x => cred (cre c x))
  | [], _ => by
    rw [List.toFinset_nil, bigSep_empty]
    iintro -; iempintro
  | x :: l, hl => by
    obtain ⟨h1, h2⟩ := List.nodup_cons.mp hl
    rw [List.toFinset_cons, sep_insert (fun h => h1 (List.mem_toFinset.mp h)), show (fun d => owedL d (x :: l)) = fun d => owedL d l + tal d x from
      funext fun d => owedL_cons d x l, Pipeline.launchCred_add]
    iintro ⟨Hl, Hx⟩
    isplitl [Hx]
    · iapply (launch_one (F := F) c x); iexact Hx
    iapply (launch_list c l h2); iexact Hl

theorem launch_awaits (c : Dev nD) : (Pipeline.launchCred O₀ c : sProp 𝕄) ⊢ awaits c := by
  have h := launch_list (F := F) c allL allL_nodup
  rw [allL_toFinset] at h
  unfold awaits
  exact h

end Cert.KernelIdeal.Own

end
-- ==== Proof.Same.lean ====
module

public import proofs.«01_k».proof.Proof.Prog
public import proofs.«01_k».proof.Proof.Gen.KernelIdeal.Skeleton

/-! # The grouped body is the printed body -/

@[expose] public section

noncomputable section

namespace Cert.KernelIdeal.Own

open Idealize.ShloMosaic Idealize.ShloMosaic.TcCoe
open Idealize.SL Idealize.SL.Sem
open Cert.KernelIdeal Cert.KernelIdeal.Gen

variable {F : FTy → Type} [FloatOps F]

set_option maxRecDepth 200000 in
set_option maxHeartbeats 4000000 in
theorem body_eq (t : Fin cfg0.N) : bodyAt0 (F := F) t = whole := by
  rw [fin_N0 t]
  rfl

end Cert.KernelIdeal.Own

end
-- ==== Proof.Run.lean ====
module

public import proofs.«01_k».proof.Proof.Ghost
public import proofs.«01_k».proof.Proof.Same
public import Idealize.ShloMosaic.Lib.Pipeline.CollectiveSegs

/-! # The run

The program from any memory: it ends, with the computed result on every device and every counter at zero. -/

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : ∀ ℓ : Loc nD τ sig, Buf (Elt F) ℓ) (ρ : Dev nD → PrngReg)

def s₀ : MemSt nD τ sig (Elt F) := ⟨m, fun _ => 0, ρ⟩

/-- A device's two blocks. -/
def xOf (c : Dev nD) : (cc0_stg0_0 : Ref sig .tc).ty.Contents (Elt F) := (win0_0.blk (0 : Fin 1)).view.read (Elt F) (m ((c : Thread nD τ).loc main_arg0))
def wOf (c : Dev nD) : (cc0_stg1_0 : Ref sig .tc).ty.Contents (Elt F) := (win0_1.blk (0 : Fin 1)).view.read (Elt F) (m ((c : Thread nD τ).loc main_arg1))
def outOf (c : Dev nD) : (cc0_stg2_0 : Ref sig .tc).ty.Contents (Elt F) := outAt (xOf m) (wOf m) c

/-! ## The body's part -/

def start (c : Dev nD) : sProp 𝕄 := iprop(G' (xOf m) (wOf m) c ∗ awaits c ∗ levAts L lv)
def Φ₀ (c : Dev nD) : sProp 𝕄 := iprop(start m c ∗ scr c)
def Φ₁ (c : Dev nD) : sProp 𝕄 := iprop((bigSep Finset.univ fun k : KK => semVal (kcell c k) 0) ∗ scr c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xOf m c
    | ⟨1, _⟩ => wOf m c
    | ⟨2, _⟩ => outOf m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ
theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole (c : Dev nD) (b : Ref sig .tc) (Y : b.ty.Contents (Elt F)) :
    (owns (Ix := ℕ) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer at given contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt 0 t0_0.succ ∗ stg c cc0_stg0_0 (xOf m c) ∗ stg c cc0_stg1_0 (wOf m c) ∗ stg c cc0_stg2_0 (outOf m c))

theorem body_whole (c : Dev nD) : bodyPre m ρ c ⊢ WP c whole (fun _ => bodyPost m ρ c) := by
  unfold bodyPre Φ₀ start G'
  unfold Dat.owesAt Pipeline.owesWithin
  rw [show (dats m ρ 0 c).owed t0_0.castSucc = O₀ c from rfl]
  iintro ⟨⟨⟨⟨%Kn, %ιn, ⟨#H1, #H2, #H3⟩, Hl⟩, Hw, #Hlev⟩, Hs⟩, ⟨%W, %hW, Ho⟩, ⟨%d0, %g0, %hg0, Hx⟩, ⟨%d1, %g1, %hg1, Hwt⟩, ⟨%d2, %g2, %hg2, Hout⟩⟩
  have e0 : g0 = xOf m c := by rw [hg0]; unfold Dat.before; rw [if_pos (fetch_0 t0_0)]; rfl
  have e1 : g1 = wOf m c := by rw [hg1]; unfold Dat.before; rw [if_pos (fetch_1 t0_0)]; rfl
  subst e0
  subst e1
  have hd (Q : PUnit → sProp 𝕄) : WP c (onDev c) Q ⊢ WP c whole Q := by
    unfold whole WP; rw [wp_deviceId]
  iapply hd
  iapply (body_run (xOf m) (wOf m) Kn ιn c g2 _) $$ [Hl Hw Hs Hx Hwt Hout Ho]
  · isplitr
    · unfold Ctx
      isplitr; · iexact H1
      isplitr; · iexact H2
      isplitr; · unfold slots; iexact H3
      iexact Hlev
    isplitl [Hl]; · iexact Hl
    isplitl [Hw]; · iexact Hw
    isplitl [Hs]; · iexact Hs
    isplitl [Hx Hwt]
    · isplitl [Hx]; · iexact Hx
      iexact Hwt
    isplitl [Hout]; · iexact Hout
    unfold Owe
    iexists W
    iexact Ho
  iintro ⟨⟨Hx, Hwt⟩, Hout, Hs, Hz, Ho⟩
  have hr (Q : PUnit → sProp 𝕄) : iprop(|={Set.univ}[frame]=> Q ⟨⟩) ⊢ WP c (.ret ⟨⟩) Q := by
    unfold WP; rw [wp_ret]
  iapply hr
  imodintro
  unfold bodyPost Φ₁ Dat.owesAt Pipeline.owesWithin
  rw [show (dats m ρ 0 c).owed t0_0.succ = 0 from rfl]
  isplitl [Hz Hs]
  · isplitl [Hz]; · iexact Hz
    iexact Hs
  isplitl [Ho]
  · unfold Owe
    icases Ho with ⟨%W', Ho⟩
    iexists W'
    isplitr; · ipureintro; exact fun _ _ => Or.inl trivial
    iexact Ho
  isplitl [Hx]
  · iexists _; isplitr; · (ipureintro; rfl)
    iexact Hx
  isplitl [Hwt]
  · iexists _; isplitr; · (ipureintro; rfl)
    iexact Hwt
  iexists _; isplitr; · (ipureintro; rfl)
  iexact Hout

set_option maxRecDepth 200000 in
set_option maxHeartbeats 4000000 in
theorem body_obligation (c : Dev nD) : BodyObligation (dats (F := F) m ρ 0 c) (defs₀ (F := F)) 𝒱₀ 0 Set.univ := fun t => by
  rw [fin_N0 t]
  rw [bigSep_W, bigSep_W]
  simp only [owns_whole]
  show bodyPre m ρ c ⊢ WP c (bodyAt0 t0_0) (fun _ => bodyPost m ρ c)
  rw [body_eq (F := F) t0_0]
  exact body_whole m ρ c

/-! ## The launch -/

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), (initOf ringCells ringToks, Release.initSlots (Finset.univ : Finset Key) 8))

theorem four_at {Φ : Fin 4 → sProp 𝕄} : iprop(Φ 0 ∗ Φ 1 ∗ Φ 2 ∗ Φ 3) ⊢ bigSep Finset.univ Φ := by rw [sep_four]

theorem src_whole (c : Dev nD) (f : Buf (Elt F) ((c : Thread nD τ).loc cc0_scratch22)) :
    (((c : Thread nD τ).loc cc0_scratch22) ↦{fullShare} f : sProp 𝕄) = aSrcPts c fullShare f := by
  show _ = (aSrc.view.loc (c : Thread nD τ) ↦[aSrc.view.set]{fullShare} f : sProp 𝕄)
  rw [aSrc_set]

theorem scr_intro (c : Dev nD) : (Pipeline.scopedRest cfg0.spec c : sProp 𝕄) ⊢ scr c := by
  rw [show (Pipeline.scopedRest cfg0.spec c : sProp 𝕄) = Pipeline.scopedRest spec0 c from rfl, scopedRest0_eq]
  unfold scr
  iintro ⟨Hx, Hw, A0, A1, A2, A3, R0, R1, R2, R3, Hs, Hb⟩
  isplitl [Hx Hw]
  · isplitl [Hx]; · iexact Hx
    iexact Hw
  isplitl [A0 A1 A2 A3]
  · iapply four_at
    isplitl [A0]; · iapply (acc_split (F := F) c 0); iexact A0
    isplitl [A1]; · iapply (acc_split (F := F) c 1); iexact A1
    isplitl [A2]; · iapply (acc_split (F := F) c 2); iexact A2
    iapply (acc_split (F := F) c 3); iexact A3
  isplitl [R0 R1 R2 R3]
  · iapply four_at
    isplitl [R0]; · iapply (recv_split (F := F) c 0); iexact R0
    isplitl [R1]; · iapply (recv_split (F := F) c 1); iexact R1
    isplitl [R2]; · iapply (recv_split (F := F) c 2); iexact R2
    iapply (recv_split (F := F) c 3); iexact R3
  isplitl [Hs]
  · unfold aSrcAny
    icases Hs with ⟨%f, Hs⟩
    iexists f
    iapply (Entails.of_eq (src_whole c f)); iexact Hs
  iexact Hb

theorem scr_exit (c : Dev nD) : scr c ⊢ (Pipeline.scopedRest cfg0.spec c : sProp 𝕄) := by
  rw [show (Pipeline.scopedRest cfg0.spec c : sProp 𝕄) = Pipeline.scopedRest spec0 c from rfl, scopedRest0_eq]
  unfold scr
  rw [sep_four, sep_four]
  iintro ⟨⟨Hx, Hw⟩, ⟨A0, A1, A2, A3⟩, ⟨R0, R1, R2, R3⟩, Hs, Hb⟩
  isplitl [Hx]; · iexact Hx
  isplitl [Hw]; · iexact Hw
  isplitl [A0]; · iapply (acc_join (F := F) c 0); iexact A0
  isplitl [A1]; · iapply (acc_join (F := F) c 1); iexact A1
  isplitl [A2]; · iapply (acc_join (F := F) c 2); iexact A2
  isplitl [A3]; · iapply (acc_join (F := F) c 3); iexact A3
  isplitl [R0]; · iapply (recv_join (F := F) c 0); iexact R0
  isplitl [R1]; · iapply (recv_join (F := F) c 1); iexact R1
  isplitl [R2]; · iapply (recv_join (F := F) c 2); iexact R2
  isplitl [R3]; · iapply (recv_join (F := F) c 3); iexact R3
  isplitl [Hs]
  · unfold aSrcAny
    icases Hs with ⟨%f, Hs⟩
    iexists f
    iapply (Entails.of_eq (src_whole c f).symm); iexact Hs
  iexact Hb

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xOf m) (wOf m) c)
      ⊢ |={Set.univ}=> iprop(start m c ∗ emp) := by
  iintro ⟨-, Hlev, Hcr, -, HG⟩
  ihave Hc := (launch_awaits (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scr_intro (F := F) c); iexact Hr

theorem phi1_exit (c : Dev nD) :
    (dats m ρ 0 c).Φ (Fin.last cfg0.N) ⊢ iprop(unscopedSems0 c ∗ Pipeline.ownSems0 semC c ∗ Pipeline.scopedRest cfg0.spec c) := by
  rw [show (dats m ρ 0 c).Φ (Fin.last cfg0.N) = Φ₁ c from rfl]
  unfold Φ₁
  rw [← sems_eq]
  iintro ⟨⟨Hu, Ho⟩, Hs⟩
  isplitl [Hu]; · iexact Hu
  isplitl [Ho]; · iexact Ho
  iapply (scr_exit (F := F) c); iexact Hs

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 allL (by decide) fun x _ => ix_pos x
    · exact mayWait c _ 0 [] (by decide) fun x hx => absurd hx List.not_mem_nil

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
set_option maxHeartbeats 4000000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xOf m) (wOf m)) (G' := G' (xOf m) (wOf m)) (u₀ := u₀)
    (hu₀ := by
      unfold u₀
      iintro Hu
      ihave H := (ownU_pair _ _) $$ Hu
      icases H with ⟨HP, HX⟩
      imod (fund_all (F := F) (xOf m) (wOf m)) $$ HX with HG
      imodintro
      isplitl [HP] <;> iassumption)
    (hglob := glob (xOf m) (wOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.KernelIdeal.Own

end
-- ==== Proof.KSame.lean ====
module

public import proofs.«01_k».proof.Proof.KProg
public import proofs.«01_k».proof.Proof.Gen.Kernel.Skeleton

/-! # The grouped body is the printed body -/

@[expose] public section

noncomputable section

namespace Cert.Kernel.Own

open Idealize.ShloMosaic Idealize.ShloMosaic.TcCoe
open Idealize.SL Idealize.SL.Sem
open Cert.Kernel Cert.Kernel.Gen

variable {F : FTy → Type} [FloatOps F]

set_option maxRecDepth 200000 in
set_option maxHeartbeats 4000000 in
theorem body_eq (t : Fin cfg0.N) : bodyAt0 (F := F) t = whole := by
  rw [fin_N0 t]
  rfl

end Cert.Kernel.Own

end
-- ==== Proof.Numbers.lean ====
module

public import Idealize.ShloMosaic.PureOps.Ideal.Laws
public import Idealize.ShloMosaic.PureOps

/-! # The arithmetic of the value proof

Rounding a whole number, the 16-bit word of a whole number, the largest entry of an array, and the
quantiser over the reals. -/

@[expose] public section

noncomputable section

namespace Cert.KernelIdeal.Own

open Idealize.ShloMosaic

/-! ## The constants -/

theorem lit_2048 : Ideal.ofBits .f32 0x45000000#32 = ((2048 : ℝ) : EReal) := by
  simp [Ideal.ofBits, Ideal.ieee]; norm_num
  rw [← EReal.coe_mul, EReal.coe_eq_coe_iff]; norm_num
theorem lit_2184 : Ideal.ofBits .f32 0x45088000#32 = ((2184 : ℝ) : EReal) := by
  simp [Ideal.ofBits, Ideal.ieee]; norm_num
  rw [← EReal.coe_mul, EReal.coe_eq_coe_iff]; norm_num
theorem lit_step : Ideal.ofBits .f32 0x3A000000#32 = ((1 / 2048 : ℝ) : EReal) := by
  simp [Ideal.ofBits, Ideal.ieee]; norm_num
  rw [← EReal.coe_mul, EReal.coe_eq_coe_iff]; norm_num
theorem lit_448 : Ideal.ofBits .f32 0x43E00000#32 = ((448 : ℝ) : EReal) := by
  simp [Ideal.ofBits, Ideal.ieee]; norm_num
  rw [← EReal.coe_mul, EReal.coe_eq_coe_iff]; norm_num
theorem lit_m448 : Ideal.ofBits .f32 0xC3E00000#32 = ((-448 : ℝ) : EReal) := by
  simp [Ideal.ofBits, Ideal.ieee]; norm_num
  rw [← EReal.coe_mul, EReal.coe_eq_coe_iff]; norm_num
theorem lit_1 : Ideal.ofBits .f32 0x3F800000#32 = ((1 : ℝ) : EReal) := by
  simp [Ideal.ofBits, Ideal.ieee]; norm_num
  rw [← EReal.coe_mul, ← EReal.coe_one, EReal.coe_eq_coe_iff]; norm_num
theorem lit_bot : Ideal.ofBits .f32 0xFF800000#32 = (⊥ : EReal) := by
  simp [Ideal.ofBits, Ideal.ieee]

/-! ## Whole numbers -/

theorem round_int (z : ℤ) : Ideal.roundHalfEven (z : ℝ) = z := by
  unfold Ideal.roundHalfEven
  simp

/-- A whole number of steps, on the wire. -/
theorem wire (z : ℤ) (h : |z| ≤ 2184) :
    Ideal.fptosi 16 (Ideal.liftRound Ideal.roundHalfEven ((((z : ℝ) / 2048 : ℝ) : EReal) * ((2048 : ℝ) : EReal))) = BitVec.ofInt 16 z := by
  have e : (z : ℝ) / 2048 * 2048 = z := by ring
  rw [← EReal.coe_mul, e]
  show Ideal.fptosi 16 (((Ideal.roundHalfEven (z : ℝ) : ℝ)) : EReal) = _
  rw [round_int]
  have hb := abs_le.mp h
  show BitVec.ofInt 16 (max _ (min _ (if (0 : ℝ) ≤ (z : ℝ) then ⌊(z : ℝ)⌋ else ⌈(z : ℝ)⌉))) = _
  rw [Int.floor_intCast, Int.ceil_intCast, ite_self]
  congr 1
  norm_num
  omega

theorem word_int (z : ℤ) (h : |z| ≤ 32760) : (BitVec.ofInt 16 z).toInt = z := by
  have hb := abs_le.mp h
  rw [BitVec.toInt_ofInt]
  refine Int.bmod_eq_of_le ?_ ?_ <;> norm_num <;> omega

/-- What the precondition says of an entry. -/
theorem on_grid (p : EReal) (h : BitVec.ofBool (decide (p * ((2048 : ℝ) : EReal) = Ideal.liftRound Ideal.roundHalfEven (p * ((2048 : ℝ) : EReal))))
      &&& BitVec.ofBool (decide (max (p * ((2048 : ℝ) : EReal)) (-(p * ((2048 : ℝ) : EReal))) ≤ ((2184 : ℝ) : EReal))) = 1#1) :
    ∃ z : ℤ, p = (((z : ℝ) / 2048 : ℝ) : EReal) ∧ |z| ≤ 2184 := by
  have h1 : p * ((2048 : ℝ) : EReal) = Ideal.liftRound Ideal.roundHalfEven (p * ((2048 : ℝ) : EReal)) := by
    by_contra hn
    rw [decide_eq_false hn] at h
    revert h; cases decide (max (p * ((2048 : ℝ) : EReal)) (-(p * ((2048 : ℝ) : EReal))) ≤ ((2184 : ℝ) : EReal)) <;> decide
  have h2 : max (p * ((2048 : ℝ) : EReal)) (-(p * ((2048 : ℝ) : EReal))) ≤ ((2184 : ℝ) : EReal) := by
    by_contra hn
    rw [decide_eq_false hn] at h
    revert h; cases decide (p * ((2048 : ℝ) : EReal) = Ideal.liftRound Ideal.roundHalfEven (p * ((2048 : ℝ) : EReal))) <;> decide
  have hu := le_trans (le_max_left _ _) h2
  have hd := le_trans (le_max_right _ _) h2
  have hpos : (0 : ℝ) < 2048 := by norm_num
  induction p with
  | bot =>
    rw [EReal.bot_mul_coe_of_pos hpos] at hd
    exact absurd hd (by simp)
  | top =>
    rw [EReal.top_mul_coe_of_pos hpos] at hu
    exact absurd hu (by simp)
  | coe x =>
    rw [← EReal.coe_mul] at h1 hu hd
    have h1' : x * 2048 = ((Ideal.roundHalfEven (x * 2048) : ℤ) : ℝ) := EReal.coe_eq_coe_iff.mp h1
    have hu' : x * 2048 ≤ 2184 := EReal.coe_le_coe_iff.mp hu
    have hd' : -(x * 2048) ≤ 2184 := EReal.coe_le_coe_iff.mp (by rw [EReal.coe_neg]; exact hd)
    refine ⟨Ideal.roundHalfEven (x * 2048), ?_, ?_⟩
    · rw [← h1']; congr 1; ring
    · rw [h1'] at hu' hd'
      have a : (Ideal.roundHalfEven (x * 2048) : ℤ) ≤ 2184 := by exact_mod_cast hu'
      have b : -(Ideal.roundHalfEven (x * 2048) : ℤ) ≤ 2184 := by exact_mod_cast hd'
      exact abs_le.mpr ⟨by omega, a⟩

/-! ## The largest entry -/

/-- A maximum over every axis is at most `T` when every entry is. -/
theorem largest_le {s t : Shape} {axes : List (Fin s.rank)} (src : FVec Ideal s .f32) (h : s.Reduces axes t)
    (ht : ∀ b, t.size b = 1) (hφ : FKind.Formats .f32) (hacc : (0xFF800000#32 : BitVec 32) = FKind.maximumf.neutral .f32 hφ) (j : t.Idx) (T : EReal) :
    (multiReduction .maximumf axes t src 0xFF800000#32 h hφ hacc j : EReal) ≤ T ↔ ∀ i, (src i : EReal) ≤ T := by
  rw [multiReduction_maximumf_eq_fold]
  rw [Finset.filter_true_of_mem fun i _ => funext fun b => Fin.ext (by
    have := (h.drop i b).isLt; have := (j b).isLt; have := ht b; omega)]
  refine (Finset.fold_max_le (β := EReal) (b := Ideal.ofBits .f32 0xFF800000#32) (f := src) (s := Finset.univ) T).trans ?_
  rw [lit_bot]
  simp

/-- Another shape has the same entries. -/
theorem recast_le {s t : Shape} (x : s.Idx → EReal) (h : s.ShapeCasts t) (T : EReal) :
    (∀ i, shapeCast t x h i ≤ T) ↔ ∀ j, x j ≤ T := by
  constructor
  · intro H j
    have e := H ((Shape.reshapeEquiv h).symm j)
    unfold shapeCast at e
    rwa [Equiv.apply_symm_apply] at e
  · intro H i
    exact H _

/-! ## The quantiser -/

/-- Over the reals the quantiser gives back what it was given, clipped or not, multiplied by the reciprocal or divided. -/
theorem quantisers (y g : ℝ) (hy : 0 ≤ y) (hg : y ≤ g) :
    ((y : EReal) * Ideal.div ((1 : ℝ) : EReal) (Ideal.div (g : EReal) ((448 : ℝ) : EReal))) * Ideal.div (g : EReal) ((448 : ℝ) : EReal)
      = min ((448 : ℝ) : EReal) (max ((-448 : ℝ) : EReal) (Ideal.div (y : EReal) (Ideal.div (g : EReal) ((448 : ℝ) : EReal))))
        * Ideal.div (g : EReal) ((448 : ℝ) : EReal) := by
  have e448 : Ideal.div (g : EReal) ((448 : ℝ) : EReal) = ((g / 448 : ℝ) : EReal) := by
    unfold Ideal.div
    rw [if_neg (by norm_num), ← EReal.coe_inv, ← EReal.coe_mul, div_eq_mul_inv]
  rw [e448]
  rcases eq_or_lt_of_le (le_trans hy hg) with h0 | hpos
  · subst h0
    simp
  · have hs : (0 : ℝ) < g / 448 := by positivity
    have hn : ((g / 448 : ℝ) : EReal) ≠ 0 := by exact_mod_cast ne_of_gt hs
    have e1 : Ideal.div ((1 : ℝ) : EReal) ((g / 448 : ℝ) : EReal) = (((g / 448)⁻¹ : ℝ) : EReal) := by
      unfold Ideal.div
      rw [if_neg hn, ← EReal.coe_inv, ← EReal.coe_mul, one_mul]
    have e2 : Ideal.div (y : EReal) ((g / 448 : ℝ) : EReal) = ((y * (g / 448)⁻¹ : ℝ) : EReal) := by
      unfold Ideal.div
      rw [if_neg hn, ← EReal.coe_inv, ← EReal.coe_mul]
    rw [e1, e2]
    have hq0 : (0 : ℝ) ≤ y * (g / 448)⁻¹ := by positivity
    have hq1 : y * (g / 448)⁻¹ ≤ 448 := by
      rw [← div_eq_mul_inv, div_le_iff₀ hs]; linarith
    rw [max_eq_right (by exact_mod_cast (by linarith : (-448 : ℝ) ≤ y * (g / 448)⁻¹)), min_eq_right (by exact_mod_cast hq1), ← EReal.coe_mul]

end Cert.KernelIdeal.Own

end
-- ==== Proof.Sums.lean ====
module

public import proofs.«01_k».proof.Proof.Numbers
public import proofs.«01_k».proof.Proof.Cover
public import Idealize.ShloMosaic.Lib.MatmulPlain

/-! # What the ring sums to

Over the reals, when every entry of a device's product is a whole number of steps of the wire: the sum
a unit carries is the exact sum, and the finished quarter the positive part of the whole product. -/

@[expose] public section

noncomputable section

namespace Cert.KernelIdeal.Own

open Idealize.ShloMosaic Idealize.ShloMosaic.TcCoe Idealize.ShloMosaic.ValueIdx
open Cert.KernelIdeal Cert.KernelIdeal.Gen
open scoped BigOperators

/-! ## Rows and columns -/

/-- The row block message `s` of unit `u` works on when it leaves `c`. -/
def blk (u : Fin 4) : ℕ → Dev nD → Dev nD
  | 0, c => up u c
  | s + 1, c => blk u s (up u c)

theorem off0_eq : ∀ (c : Dev nD) (u : Fin 4), off0 c u = ![(blk u 0 c).val * 256 + (half u).val * 128, 0] := by decide +kernel
theorem offS_eq : ∀ (c : Dev nD) (u : Fin 4) (s : Fin 15), offS c u s = ![(blk u (s.val + 1) c).val * 256 + (half u).val * 128, 0] := by decide +kernel
/-- After all sixteen steps a unit is at the device's own rows. -/
theorem blk_own : ∀ (c : Dev nD) (u : Fin 4), blk u 14 (up u c) = c := by decide +kernel

def rowOf (u : Fin 4) (b : Dev nD) (i : Fin 128) : Fin 4096 :=
  ⟨b.val * 256 + (half u).val * 128 + i.val, by have hb : b.val < 16 := b.isLt; have := (half u).isLt; have := i.isLt; omega⟩
def colOf (u : Fin 4) (j : Fin 4096) : Fin 8192 :=
  ⟨(if goesLeft u then 4096 else 0) + j.val, by have := j.isLt; split <;> omega⟩

/-! ## A device's own product -/

/-- An entry of the product of a device's two blocks. -/
def part (X : FVec Ideal S4096x256 .bf16) (W : FVec Ideal S256x8192 .bf16) (r : Fin 4096) (n : Fin 8192) : EReal :=
  ∑ k : Fin 256, (X (ix2 r k) : EReal) * (W (ix2 k n) : EReal)

theorem prod_apply (x : Vec Ideal S128x256 .bf16) (w : Vec Ideal S256x4096 .bf16) (i : Fin 128) (j : Fin 4096) :
    (prod (F := Ideal) x w (ix2 i j) : EReal) = ∑ k : Fin 256, (x (ix2 i k) : EReal) * (w (ix2 k j) : EReal) := by
  have h := Ideal.matmul_plain_apply (M := 128) (K := 256) (N := 4096) none (φ₁ := .bf16) (φ₂ := .bf16) x w (constant S128x4096 .f32 0x00000000#32) i j
  refine Eq.trans ?_ (h.trans ?_)
  · rfl
  · show Ideal.ofBits .f32 0x00000000#32 + _ = _
    rw [Ideal.ofBits_zero_f32, zero_add]

variable (X : Dev nD → (cc0_scratch0 : Ref sig .tc).ty.Contents (Elt Ideal)) (Wt : Dev nD → (cc0_scratch1 : Ref sig .tc).ty.Contents (Elt Ideal))

theorem ws_apply (u : Fin 4) (c : Dev nD) (k : Fin 256) (j : Fin 4096) : ws (F := Ideal) Wt u c (ix2 k j) = Wt c (ix2 k (colOf u j)) := by
  show Wt c ((wR u).emb (ix2 k j)) = _
  congr 1
  funext a; apply Fin.ext
  match u, a with
  | 0, 0 => show 0 + 1 * k.val = k.val; omega
  | 1, 0 => show 0 + 1 * k.val = k.val; omega
  | 2, 0 => show 0 + 1 * k.val = k.val; omega
  | 3, 0 => show 0 + 1 * k.val = k.val; omega
  | 0, 1 => show 0 + 1 * j.val = 0 + j.val; omega
  | 1, 1 => show 0 + 1 * j.val = 0 + j.val; omega
  | 2, 1 => show 4096 + 1 * j.val = 4096 + j.val; omega
  | 3, 1 => show 4096 + 1 * j.val = 4096 + j.val; omega

theorem x0_apply (u : Fin 4) (c : Dev nD) (i : Fin 128) (k : Fin 256) : x0 (F := Ideal) X u c (ix2 i k) = X c (ix2 (rowOf u (blk u 0 c) i) k) := by
  show X c ((xR0 c u).emb (ix2 i k)) = _
  congr 1
  have e := off0_eq c u
  funext a; apply Fin.ext
  match a with
  | 0 =>
    show off0 c u 0 + 1 * i.val = _ + i.val
    rw [e, one_mul]; rfl
  | 1 =>
    show off0 c u 1 + 1 * k.val = k.val
    rw [e]; show 0 + 1 * k.val = k.val; omega

theorem xs_apply (u : Fin 4) (c : Dev nD) (s : ℕ) (hs : s < 15) (i : Fin 128) (k : Fin 256) :
    xs (F := Ideal) X u c s (ix2 i k) = X c (ix2 (rowOf u (blk u (s + 1) c) i) k) := by
  show X c ((xRS c u (fin15 s)).emb (ix2 i k)) = _
  congr 1
  have e := offS_eq c u (fin15 s)
  have hf : (fin15 s).val = s := Nat.mod_eq_of_lt hs
  rw [hf] at e
  funext a; apply Fin.ext
  match a with
  | 0 =>
    show offS c u (fin15 s) 0 + 1 * i.val = _ + i.val
    rw [hf, e, one_mul]; rfl
  | 1 =>
    show offS c u (fin15 s) 1 + 1 * k.val = k.val
    rw [hf, e]; show 0 + 1 * k.val = k.val; omega

theorem prod_first (u : Fin 4) (c : Dev nD) (i : Fin 128) (j : Fin 4096) :
    (prod (F := Ideal) (x0 X u c) (ws Wt u c) (ix2 i j) : EReal) = part (X c) (Wt c) (rowOf u (blk u 0 c) i) (colOf u j) := by
  rw [prod_apply]
  exact Finset.sum_congr rfl fun k _ => by rw [x0_apply, ws_apply]
theorem prod_step (u : Fin 4) (c : Dev nD) (s : ℕ) (hs : s < 15) (i : Fin 128) (j : Fin 4096) :
    (prod (F := Ideal) (xs X u c s) (ws Wt u c) (ix2 i j) : EReal) = part (X c) (Wt c) (rowOf u (blk u (s + 1) c) i) (colOf u j) := by
  rw [prod_apply]
  exact Finset.sum_congr rfl fun k _ => by rw [xs_apply X u c s hs, ws_apply]

/-! ## The sums -/

/-- The sum of `f` over the devices message `s` has visited when it leaves `c`. -/
def along {M : Type} [Add M] (f : Dev nD → M) (u : Fin 4) : ℕ → Dev nD → M
  | 0, c => f c
  | s + 1, c => along f u s (up u c) + f c

def step (u : Fin 4) : ℕ → Dev nD → Dev nD
  | 0, c => c
  | s + 1, c => step u s (up u c)
theorem step_inj : ∀ (u : Fin 4) (c : Dev nD), Function.Injective (fun s : Fin 16 => step u s.val c) := by
  unfold Function.Injective; decide +kernel

theorem along_sum {M : Type} [AddCommMonoid M] (f : Dev nD → M) (u : Fin 4) : ∀ s c, along f u s c = ∑ j ∈ Finset.range (s + 1), f (step u j c)
  | 0, c => by simp [along, step]
  | s + 1, c => by
    rw [Finset.sum_range_succ']
    show along f u s (up u c) + f c = _
    rw [along_sum f u s (up u c)]; rfl
/-- All the way round is every device. -/
theorem along_all {M : Type} [AddCommMonoid M] (f : Dev nD → M) (u : Fin 4) (c : Dev nD) : along f u 15 c = ∑ d : Dev nD, f d := by
  rw [along_sum, Finset.sum_range (fun j => f (step u j c))]
  have hb : Function.Bijective (fun s : Fin 16 => (step u s.val c : Fin 16)) := Finite.injective_iff_bijective.mp (step_inj u c)
  exact hb.sum_comp (fun d : Fin 16 => f d)

theorem along_bound (f : Dev nD → ℤ) (hf : ∀ d, |f d| ≤ 2184) (u : Fin 4) : ∀ s c, |along f u s c| ≤ 2184 * (s + 1)
  | 0, c => by simpa [along] using hf c
  | s + 1, c => by
    have h1 := along_bound f hf u s (up u c)
    have h2 := hf c
    show |along f u s (up u c) + f c| ≤ _
    refine (abs_add_le _ _).trans ?_
    push_cast; linarith

section Grid

variable (z : Dev nD → Fin 4096 → Fin 8192 → ℤ)
  (hz : ∀ d r n, part (X d) (Wt d) r n = (((z d r n : ℝ) / 2048 : ℝ) : EReal)) (hb : ∀ d r n, |z d r n| ≤ 2184)

include hz hb

theorem q_of (x : Vec Ideal S128x256 .bf16) (w : Vec Ideal S256x4096 .bf16) (i : Fin 128) (j : Fin 4096) (d : Dev nD) (r : Fin 4096) (n : Fin 8192)
    (h : (prod (F := Ideal) x w (ix2 i j) : EReal) = part (X d) (Wt d) r n) : qpart (F := Ideal) x w (ix2 i j) = BitVec.ofInt 16 (z d r n) := by
  show Ideal.fptosi 16 (Ideal.liftRound Ideal.roundHalfEven ((prod (F := Ideal) x w (ix2 i j) : EReal) * Ideal.ofBits .f32 0x45000000#32)) = _
  rw [h, hz, lit_2048]
  exact wire _ (hb d r n)

/-- What a message carries. -/
theorem acc_eq (u : Fin 4) : ∀ (s : ℕ), s ≤ 14 → ∀ (c : Dev nD) (i : Fin 128) (j : Fin 4096),
    accV (F := Ideal) X Wt u s c (ix2 i j) = BitVec.ofInt 16 (along (fun d => z d (rowOf u (blk u s c) i) (colOf u j)) u s c)
  | 0, _, c, i, j => q_of X Wt z hz hb _ _ i j c _ _ (prod_first X Wt u c i j)
  | s + 1, hs, c, i, j => by
    have h1 := acc_eq u s (by omega) (up u c) i j
    have h2 := q_of X Wt z hz hb _ _ i j c _ _ (prod_step X Wt u c s (by omega) i j)
    show accV (F := Ideal) X Wt u s (up u c) (ix2 i j) + qpart (F := Ideal) (xs X u c s) (ws Wt u c) (ix2 i j) = _
    rw [h1, h2, ← BitVec.ofInt_add]; rfl

/-- The finished quarter. -/
theorem yq_eq (u : Fin 4) (c : Dev nD) (i : Fin 128) (j : Fin 4096) :
    (yq (F := Ideal) X Wt u c (ix2 i j) : EReal) = max (∑ d : Dev nD, part (X d) (Wt d) (rowOf u c i) (colOf u j)) 0 := by
  have ha := acc_eq X Wt z hz hb u 14 (le_refl _) (up u c) i j
  have hp := prod_step X Wt u c 14 (by decide) i j
  have hown := blk_own c u
  rw [hown] at ha
  rw [show blk u (14 + 1) c = blk u 14 (up u c) from rfl, hown] at hp
  show max (((((accV (F := Ideal) X Wt u 14 (up u c) (ix2 i j)).toInt : ℝ) : EReal) * Ideal.ofBits .f32 0x3A000000#32)
    + (prod (F := Ideal) (xs X u c 14) (ws Wt u c) (ix2 i j) : EReal)) (Ideal.ofBits .f32 0x00000000#32) = _
  rw [ha, hp, hz, lit_step, Ideal.ofBits_zero_f32, word_int _ ((along_bound _ (fun d => hb d _ _) u 14 _).trans (by norm_num))]
  congr 1
  rw [Finset.sum_congr rfl fun d _ => hz d (rowOf u c i) (colOf u j)]
  rw [← along_all (fun d => ((((z d (rowOf u c i) (colOf u j) : ℝ) / 2048 : ℝ)) : EReal)) u c]
  show _ = along _ u 14 (up u c) + _
  congr 1
  generalize 14 = s
  generalize up u c = e
  rw [← EReal.coe_mul]
  induction s generalizing e with
  | zero => simp only [along]; congr 1; ring
  | succ s ih =>
    simp only [along]
    rw [← ih, ← EReal.coe_add]; congr 1; push_cast; ring

end Grid

end Cert.KernelIdeal.Own

end
-- ==== Proof.Result.lean ====
module

public import proofs.«01_k».proof.Proof.Sums

/-! # The kernel's result over the reals

Every entry on every device is the positive part of the whole product through the quantiser, whose
scale is the largest entry anywhere over 448. -/

@[expose] public section

noncomputable section

namespace Cert.KernelIdeal.Own

open Idealize.ShloMosaic Idealize.ShloMosaic.TcCoe Idealize.ShloMosaic.ValueIdx
open Cert.KernelIdeal Cert.KernelIdeal.Gen
open scoped BigOperators

/-! ## The largest entry -/

theorem ones1 : ∀ b : Fin 1, S1.size b = 1 := by decide

theorem maxWith_le (m : Ideal .f32) (y : FVec Ideal S128x4096 .f32) (T : EReal) :
    (maxWith (F := Ideal) m y : EReal) ≤ T ↔ (m : EReal) ≤ T ∧ ∀ i, (y i : EReal) ≤ T := by
  unfold maxWith
  refine (max_le_iff (α := EReal)).trans (and_congr_right fun _ => ?_)
  refine (largest_le _ _ ones1 (.inl rfl) rfl _ T).trans ?_
  exact recast_le (fun i => (y i : EReal)) shapeCasts_S128x4096_S1x128x4096 T

/-- The largest entry of the rows of largest entries. -/
def topOf (b : Vec Ideal S16x8x128 .f32) : EReal :=
  extractAt ![0, 0, 0, 0] (shapeCast S1x1x1x1 (multiReduction (F := Ideal) .maximumf [1, 2, 3] S1
    (shapeCast S1x16x8x128 b shapeCasts_S16x8x128_S1x16x8x128) 0xFF800000#32 reduces_S1x16x8x128_S1 (.inl rfl) rfl)
    shapeCasts_S1_S1x1x1x1) inpos_S1x1x1x1_p0_0_0_0

theorem topOf_le (b : Vec Ideal S16x8x128 .f32) (T : EReal) : topOf b ≤ T ↔ ∀ i, (b i : EReal) ≤ T := by
  unfold topOf
  refine (largest_le _ _ ones1 (.inl rfl) rfl _ T).trans ?_
  exact recast_le (fun i => (b i : EReal)) shapeCasts_S16x8x128_S1x16x8x128 T

theorem qs_eq (b : Vec Ideal S16x8x128 .f32) (v : Ideal .f32) :
    (qs (F := Ideal) b v : EReal) = ((v : EReal) * Ideal.div ((1 : ℝ) : EReal) (Ideal.div (topOf b) ((448 : ℝ) : EReal))) * Ideal.div (topOf b) ((448 : ℝ) : EReal) := by
  rw [← lit_448, ← lit_1]
  unfold qs quant
  rw [shapeCast_self]
  rfl

variable (X : Dev nD → (cc0_scratch0 : Ref sig .tc).ty.Contents (Elt Ideal)) (Wt : Dev nD → (cc0_scratch1 : Ref sig .tc).ty.Contents (Elt Ideal))

/-- The positive part of an entry of the whole product. -/
def pos (r : Fin 4096) (n : Fin 8192) : EReal := max (∑ d : Dev nD, part (X d) (Wt d) r n) 0

theorem lmax_le (c : Dev nD) (T : EReal) : (lmax (F := Ideal) X Wt c : EReal) ≤ T ↔ 0 ≤ T ∧ ∀ u i, (yq (F := Ideal) X Wt u c i : EReal) ≤ T := by
  unfold lmax
  rw [maxWith_le, maxWith_le, maxWith_le, maxWith_le]
  rw [show ((Scalar.ofBits .f32 0x00000000#32 : Ideal .f32) : EReal) = 0 from Ideal.ofBits_zero_f32]
  constructor
  · rintro ⟨⟨⟨⟨h, h0⟩, h2⟩, h1⟩, h3⟩
    refine ⟨h, fun u => ?_⟩
    match u with
    | 0 => exact h0
    | 1 => exact h1
    | 2 => exact h2
    | 3 => exact h3
  · rintro ⟨h, H⟩
    exact ⟨⟨⟨⟨h, H 0⟩, H 2⟩, H 1⟩, H 3⟩

/-- Where an entry of a device's block is in the whole. -/
def rowAt (c : Dev nD) (x : S256x8192.Idx) : Fin 4096 :=
  ⟨c.val * 256 + (x 0).val, by have hc : c.val < 16 := c.isLt; have h0 : (x 0).val < 256 := (x 0).isLt; omega⟩
def colAt (x : S256x8192.Idx) : Fin 8192 := ⟨(x 1).val, (x 1).isLt⟩

theorem row_at (c : Dev nD) (x : S256x8192.Idx) : rowOf (unitOf x) c (posOf x 0) = rowAt c x := by
  have h0 : (x 0).val < 256 := (x 0).isLt
  apply Fin.ext
  show c.val * 256 + (half (unitOf x)).val * 128 + (x 0).val % 128 = c.val * 256 + (x 0).val
  unfold unitOf
  split_ifs <;> simp [half] <;> omega
theorem col_at (x : S256x8192.Idx) : colOf (unitOf x) (posOf x 1) = colAt x := by
  have h1 : (x 1).val < 8192 := (x 1).isLt
  apply Fin.ext
  show (if goesLeft (unitOf x) then 4096 else 0) + (x 1).val % 4096 = (x 1).val
  unfold unitOf
  split_ifs <;> simp_all [goesLeft] <;> omega

section Grid

variable (z : Dev nD → Fin 4096 → Fin 8192 → ℤ)
  (hz : ∀ d r n, part (X d) (Wt d) r n = (((z d r n : ℝ) / 2048 : ℝ) : EReal)) (hb : ∀ d r n, |z d r n| ≤ 2184)

include hz hb

theorem yq_at (c : Dev nD) (x : S256x8192.Idx) : (yq (F := Ideal) X Wt (unitOf x) c (posOf x) : EReal) = pos X Wt (rowAt c x) (colAt x) := by
  refine (congrArg (fun p => (yq (F := Ideal) X Wt (unitOf x) c p : EReal)) (eq_ix2 (posOf x))).trans ?_
  refine (yq_eq X Wt z hz hb (unitOf x) c (posOf x 0) (posOf x 1)).trans ?_
  rw [row_at, col_at]; rfl

theorem top_le (T : EReal) : topOf (amaxB (F := Ideal) X Wt) ≤ T ↔ ∀ r n, pos X Wt r n ≤ T := by
  rw [topOf_le]
  constructor
  · intro H r n
    have hr : r.val < 4096 := r.isLt
    let c : Dev nD := ⟨r.val / 256, by show _ < 16; omega⟩
    have hl := (lmax_le X Wt c T).mp (H (fun a => match a with | 0 => (c : Fin 16) | 1 => (0 : Fin 8) | 2 => (0 : Fin 128)))
    let x : S256x8192.Idx := ix2 (⟨r.val % 256, Nat.mod_lt _ (by decide)⟩ : Fin 256) n
    have e := hl.2 (unitOf x) (posOf x)
    rw [yq_at X Wt z hz hb c x] at e
    have er : rowAt c x = r := Fin.ext (by show r.val / 256 * 256 + r.val % 256 = r.val; omega)
    rw [er] at e
    exact e
  · intro H i
    refine (lmax_le X Wt _ T).mpr ⟨(le_max_right _ _).trans (H 0 0), fun u j => ?_⟩
    refine le_of_eq_of_le ((congrArg (fun p => (yq (F := Ideal) X Wt u (i 0) p : EReal)) (eq_ix2 j)).trans (yq_eq X Wt z hz hb u (i 0) (j 0) (j 1))) ?_
    exact H _ _

/-- Every entry is a real number, not negative. -/
theorem pos_real (r : Fin 4096) (n : Fin 8192) : ∃ y : ℝ, 0 ≤ y ∧ pos X Wt r n = (y : EReal) := by
  refine ⟨max (∑ d : Dev nD, (z d r n : ℝ) / 2048) 0, le_max_right _ _, ?_⟩
  unfold pos
  rw [Finset.sum_congr rfl fun d _ => hz d r n, EReal.coe_strictMono.monotone.map_max, EReal.coe_zero]
  congr 1

/-- So is the largest, which is none of the smaller. -/
theorem top_real : ∃ g : ℝ, topOf (amaxB (F := Ideal) X Wt) = (g : EReal) := by
  have hge : ∀ r n, pos X Wt r n ≤ topOf (amaxB (F := Ideal) X Wt) := (top_le X Wt z hz hb _).mp le_rfl
  have hfin : topOf (amaxB (F := Ideal) X Wt) ≤ ((16 * 2184 : ℝ) : EReal) := by
    rw [top_le X Wt z hz hb]
    intro r n
    unfold pos
    rw [Finset.sum_congr rfl fun d _ => hz d r n]
    have e := (map_sum (⟨⟨fun x : ℝ => (x : EReal), EReal.coe_zero⟩, EReal.coe_add⟩ : ℝ →+ EReal) (fun d : Dev nD => (z d r n : ℝ) / 2048) Finset.univ).symm
    refine max_le (e.le.trans (EReal.coe_le_coe_iff.mpr ?_)) (by rw [← EReal.coe_zero]; exact EReal.coe_le_coe_iff.mpr (by norm_num))
    have hs : ∀ d ∈ (Finset.univ : Finset (Dev nD)), (z d r n : ℝ) / 2048 ≤ 2184 := fun d _ => by
      have h1 : (z d r n : ℝ) ≤ 2184 := by exact_mod_cast (abs_le.mp (hb d r n)).2
      linarith
    refine (Finset.sum_le_card_nsmul _ _ _ hs).trans ?_
    rw [nsmul_eq_mul, Finset.card_univ, show Fintype.card (Dev nD) = 16 from Fintype.card_fin 16]
    norm_num
  have h0 : (0 : EReal) ≤ topOf (amaxB (F := Ideal) X Wt) := (le_max_right _ _).trans (hge 0 0)
  induction h : topOf (amaxB (F := Ideal) X Wt) with
  | bot => rw [h] at h0; exact absurd h0 (by simp)
  | top => rw [h] at hfin; exact absurd hfin (not_le.mpr (EReal.coe_lt_top _))
  | coe g => exact ⟨g, rfl⟩

/-- The kernel's result, entry by entry, against any array with the same largest entry. -/
theorem out_at (c : Dev nD) (x : S256x8192.Idx) (G : EReal) (hG : ∀ T, G ≤ T ↔ ∀ r n, pos X Wt r n ≤ T) :
    (outAt (F := Ideal) X Wt c x : EReal)
      = min ((448 : ℝ) : EReal) (max ((-448 : ℝ) : EReal) (Ideal.div (pos X Wt (rowAt c x) (colAt x)) (Ideal.div G ((448 : ℝ) : EReal))))
        * Ideal.div G ((448 : ℝ) : EReal) := by
  have e : G = topOf (amaxB (F := Ideal) X Wt) :=
    le_antisymm ((hG _).mpr ((top_le X Wt z hz hb _).mp le_rfl)) ((top_le X Wt z hz hb _).mpr ((hG _).mp le_rfl))
  obtain ⟨g, hg⟩ := top_real X Wt z hz hb
  obtain ⟨y, hy0, hy⟩ := pos_real X Wt z hz hb (rowAt c x) (colAt x)
  have hle : y ≤ g := by
    have h := (top_le X Wt z hz hb _).mp le_rfl (rowAt c x) (colAt x)
    rw [hy, hg] at h
    exact EReal.coe_le_coe_iff.mp h
  unfold outAt
  rw [qs_eq, yq_at X Wt z hz hb, e, hy, hg]
  exact quantisers y g hy0 hle

end Grid

end Cert.KernelIdeal.Own

end
-- ==== Proof.Agree.lean ====
module

public import proofs.«01_k».proof.Defs
public import proofs.«01_k».proof.Proof.Run
public import proofs.«01_k».proof.Proof.Result
public import proofs.«01_k».proof.Proof.Gen.Pre_on_the_wire_grid_KernelIdeal
public import proofs.«01_k».proof.Proof.Gen.ReferenceIdeal.Value
public import Idealize.ShloMosaic.Lib.Layout

/-! # The kernel agrees with the reference

The result buffer after the kernel's run, the reference's result entry by entry, and the two set side
by side. -/

@[expose] public section

noncomputable section

namespace Cert.KernelIdeal.Own

open Idealize.ShloMosaic Idealize.ShloMosaic.TcCoe Idealize.ShloMosaic.ValueIdx
open Idealize.SL Idealize.SL.Sem
open Cert.KernelIdeal Cert.KernelIdeal.Gen
open scoped BigOperators

/-! ## The kernel's buffers -/

section Buffers

variable {F : FTy → Type} [FloatOps F]
variable (m : ∀ ℓ : Loc nD τ sig, Buf (Elt F) ℓ) (ρ : Dev nD → PrngReg)

/-- Each window's one block is its whole array. -/
theorem emb_x (t : Fin grid0.N) (j : S4096x256.Idx) : (win0_0.blk t).view.emb j = j := by
  funext a; apply Fin.ext
  match a with
  | ⟨0, _⟩ => show 0 * 4096 + 1 * (j 0).val = (j 0).val; omega
  | ⟨1, _⟩ => show 0 * 256 + 1 * (j 1).val = (j 1).val; omega
theorem emb_w (t : Fin grid0.N) (j : S256x8192.Idx) : (win0_1.blk t).view.emb j = j := by
  funext a; apply Fin.ext
  match a with
  | ⟨0, _⟩ => show 0 * 256 + 1 * (j 0).val = (j 0).val; omega
  | ⟨1, _⟩ => show 0 * 8192 + 1 * (j 1).val = (j 1).val; omega
theorem emb_o (t : Fin grid0.N) (j : S256x8192.Idx) : (win0_2.blk t).view.emb j = j := by
  funext a; apply Fin.ext
  match a with
  | ⟨0, _⟩ => show 0 * 256 + 1 * (j 0).val = (j 0).val; omega
  | ⟨1, _⟩ => show 0 * 8192 + 1 * (j 1).val = (j 1).val; omega

theorem xOf_eq (c : Dev nD) : xOf m c = m ((c : Thread nD τ).loc main_arg0) := by
  funext j
  exact congrArg (m ((c : Thread nD τ).loc main_arg0)) (emb_x (0 : Fin 1) j)
theorem wOf_eq (c : Dev nD) : wOf m c = m ((c : Thread nD τ).loc main_arg1) := by
  funext j
  exact congrArg (m ((c : Thread nD τ).loc main_arg1)) (emb_w (0 : Fin 1) j)

/-- The result buffer after the run. -/
theorem finalA_o (c : Dev nD) : finalA m ρ c (2 : Fin 3) = outOf m c := by
  refine (dats (F := F) m ρ 0 c).arrAt_eq_of_cover (2 : Fin 3) (outOf m c) (fun t _ => ?_) (fun i => ⟨t0_0, flush0_2 _, ?_⟩)
  · funext j
    show outOf m c j = outOf m c ((win0_2.blk t).view.emb j)
    rw [emb_o]
  · have h := (win0_2.blk t0_0).view.emb_mem_set i
    rwa [emb_o] at h

end Buffers

/-! ## The reference -/

/-- An entry of the whole product. -/
def prodOf (A : FVec Ideal Cert.ReferenceIdeal.S4096x4096 .bf16) (B : FVec Ideal Cert.ReferenceIdeal.S4096x8192 .bf16) (r : Fin 4096) (n : Fin 8192) : EReal :=
  ∑ k : Fin 4096, (A (ix2 r k) : EReal) * (B (ix2 k n) : EReal)

/-- The reference's product, its positive part, and the largest entry of it. -/
def refPos (A : FVec Ideal Cert.ReferenceIdeal.S4096x4096 .bf16) (B : FVec Ideal Cert.ReferenceIdeal.S4096x8192 .bf16) : FVec Ideal Cert.ReferenceIdeal.S4096x8192 .f32 :=
  maximumf (matmul Cert.ReferenceIdeal.dot_S4096x4096_S4096x8192_S4096x8192_1_0_0_1_n_n none A B (constant Cert.ReferenceIdeal.S4096x8192 .f32 0x00000000#32))
    (broadcast Cert.ReferenceIdeal.S4096x8192 (Scalar.ofBits .f32 0x00000000#32))
def refTop (y : FVec Ideal Cert.ReferenceIdeal.S4096x8192 .f32) : EReal :=
  extractAt ![0, 0, 0] (shapeCast Cert.ReferenceIdeal.S1x1x1 (multiReduction (F := Ideal) .maximumf [1, 2] Cert.ReferenceIdeal.S1
    (shapeCast Cert.ReferenceIdeal.S1x4096x8192 (absf y) Cert.ReferenceIdeal.Facts₀.shapeCasts_S4096x8192_S1x4096x8192) 0xFF800000#32
      Cert.ReferenceIdeal.Facts₀.reduces_S1x4096x8192_S1 (.inl rfl) rfl) Cert.ReferenceIdeal.Facts₀.shapeCasts_S1_S1x1x1) Cert.ReferenceIdeal.Facts₀.inpos_S1x1x1_p0_0_0

theorem refPos_apply (A : FVec Ideal Cert.ReferenceIdeal.S4096x4096 .bf16) (B : FVec Ideal Cert.ReferenceIdeal.S4096x8192 .bf16) (r : Fin 4096) (n : Fin 8192) :
    (refPos A B (ix2 r n) : EReal) = max (prodOf A B r n) 0 := by
  have h := Ideal.matmul_plain_apply (M := 4096) (K := 4096) (N := 8192) none (φ₁ := .bf16) (φ₂ := .bf16) A B (constant Cert.ReferenceIdeal.S4096x8192 .f32 0x00000000#32) r n
  have hw : (matmul (F := Ideal) Cert.ReferenceIdeal.dot_S4096x4096_S4096x8192_S4096x8192_1_0_0_1_n_n none A B
      (constant Cert.ReferenceIdeal.S4096x8192 .f32 0x00000000#32) (ix2 r n) : EReal) = prodOf A B r n := by
    refine Eq.trans ?_ (h.trans ?_)
    · rfl
    · show Ideal.ofBits .f32 0x00000000#32 + _ = _
      rw [Ideal.ofBits_zero_f32, zero_add]; rfl
  show max (matmul (F := Ideal) Cert.ReferenceIdeal.dot_S4096x4096_S4096x8192_S4096x8192_1_0_0_1_n_n none A B
      (constant Cert.ReferenceIdeal.S4096x8192 .f32 0x00000000#32) (ix2 r n) : EReal) (Ideal.ofBits .f32 0x00000000#32) = _
  rw [hw, Ideal.ofBits_zero_f32]

theorem refTop_le (y : FVec Ideal Cert.ReferenceIdeal.S4096x8192 .f32) (h0 : ∀ i, (0 : EReal) ≤ y i) (T : EReal) :
    refTop y ≤ T ↔ ∀ i, (y i : EReal) ≤ T := by
  unfold refTop
  refine (largest_le _ _ (by decide) (.inl rfl) rfl _ T).trans ?_
  refine (recast_le (fun i => (absf y i : EReal)) Cert.ReferenceIdeal.Facts₀.shapeCasts_S4096x8192_S1x4096x8192 T).trans ?_
  refine forall_congr' fun i => ?_
  show max (y i : EReal) (-(y i : EReal)) ≤ T ↔ _
  rw [max_eq_left]
  have h1 : -(y i : EReal) ≤ 0 := by rw [EReal.neg_le, neg_zero]; exact h0 i
  exact h1.trans (h0 i)

/-- The reference's result, entry by entry. -/
theorem ref_apply (A : FVec Ideal Cert.ReferenceIdeal.S4096x4096 .bf16) (B : FVec Ideal Cert.ReferenceIdeal.S4096x8192 .bf16) (i : Cert.ReferenceIdeal.S4096x8192.Idx) :
    (Cert.ReferenceIdeal.Value.G2 (F := Ideal) A B i : EReal)
      = min ((448 : ℝ) : EReal) (max ((-448 : ℝ) : EReal) (Ideal.div (refPos A B i) (Ideal.div (refTop (refPos A B)) ((448 : ℝ) : EReal))))
        * Ideal.div (refTop (refPos A B)) ((448 : ℝ) : EReal) := by
  rw [← lit_448, ← lit_m448]
  rfl

/-! ## Side by side -/

/-- The whole product is the sum of the devices' own products. -/
theorem prodOf_eq (A : FVec Ideal Cert.ReferenceIdeal.S4096x4096 .bf16) (B : FVec Ideal Cert.ReferenceIdeal.S4096x8192 .bf16)
    (r : Fin 4096) (n : Fin 8192) :
    prodOf A B r n = ∑ d : Dev nD, part (Layout.block ⟨2, ![4096, 256]⟩ ⟨2, ![4096, 4096]⟩ 1 16 d A) (Layout.block ⟨2, ![256, 8192]⟩ ⟨2, ![4096, 8192]⟩ 0 16 d B) r n := by
  unfold prodOf
  let e : Fin 16 × Fin 256 ≃ Fin 4096 := finProdFinEquiv
  rw [← Equiv.sum_comp e, Fintype.sum_prod_type]
  refine Finset.sum_congr rfl fun d _ => ?_
  unfold part
  refine Finset.sum_congr rfl fun k _ => ?_
  have he : (e (d, k)).val = d.val * 256 + k.val := by
    show k.val + 256 * d.val = _; omega
  congr 1
  · show A _ = A _
    congr 1
    funext a; apply Fin.ext
    match a with
    | ⟨0, _⟩ => rfl
    | ⟨1, _⟩ => exact he
  · show B _ = B _
    congr 1
    funext a; apply Fin.ext
    match a with
    | ⟨0, _⟩ => exact he
    | ⟨1, _⟩ => rfl

/-- What the precondition says of a device's blocks. -/
theorem grid_of (x : FVec Ideal S4096x256 .bf16) (w : FVec Ideal S256x8192 .bf16)
    (h : Cert.Pre_on_the_wire_grid_KernelIdeal.fn (F := Ideal) x w = fun _ => 1#1) (r : Fin 4096) (n : Fin 8192) :
    ∃ z : ℤ, part x w r n = (((z : ℝ) / 2048 : ℝ) : EReal) ∧ |z| ≤ 2184 := by
  have hp := congrFun h (ix2 r n)
  have hd : (Host.dotGeneral (F := Ideal) Cert.Pre_on_the_wire_grid_KernelIdeal.dot_S4096x256_S256x8192_S4096x8192_1_0_0_1_n_n none x w (ix2 r n) : EReal) = part x w r n := by
    have hm := Ideal.matmul_plain_apply (M := 4096) (K := 256) (N := 8192) none (φ₁ := .bf16) (φ₂ := .bf16) x w (fun _ => (0 : EReal)) r n
    refine Eq.trans ?_ (hm.trans ?_)
    · rfl
    · rw [zero_add]; rfl
  refine on_grid _ ?_
  rw [← hd, ← lit_2048, ← lit_2184]
  exact hp

/-- The kernel's result is the device's block of the reference's. -/
theorem agree (X : Dev nD → FVec Ideal S4096x256 .bf16) (Wt : Dev nD → FVec Ideal S256x8192 .bf16)
    (A : FVec Ideal Cert.ReferenceIdeal.S4096x4096 .bf16) (B : FVec Ideal Cert.ReferenceIdeal.S4096x8192 .bf16)
    (hX : ∀ d, X d = Layout.block ⟨2, ![4096, 256]⟩ ⟨2, ![4096, 4096]⟩ 1 16 d A) (hW : ∀ d, Wt d = Layout.block ⟨2, ![256, 8192]⟩ ⟨2, ![4096, 8192]⟩ 0 16 d B)
    (hp : ∀ d, Cert.Pre_on_the_wire_grid_KernelIdeal.fn (F := Ideal) (X d) (Wt d) = fun _ => 1#1) (c : Dev nD) :
    outAt (F := Ideal) X Wt c = Layout.block ⟨2, ![256, 8192]⟩ ⟨2, ![4096, 8192]⟩ 0 16 c (Cert.ReferenceIdeal.Value.G2 (F := Ideal) A B) := by
  choose z hz hb using fun d => grid_of (X d) (Wt d) (hp d)
  have hpos : ∀ r n, (refPos A B (ix2 r n) : EReal) = pos X Wt r n := fun r n => by
    rw [refPos_apply, prodOf_eq]
    unfold pos
    refine congrArg (fun q : EReal => max q 0) (Finset.sum_congr rfl fun d _ => ?_)
    rw [hX d, hW d]
  have hpos' : ∀ i : Cert.ReferenceIdeal.S4096x8192.Idx, (refPos A B i : EReal) = pos X Wt (i 0) (i 1) := fun i =>
    (congrArg (fun j => (refPos A B j : EReal)) (eq_ix2 i)).trans (hpos (i 0) (i 1))
  have hG : ∀ T, refTop (refPos A B) ≤ T ↔ ∀ r n, pos X Wt r n ≤ T := fun T => by
    rw [refTop_le (refPos A B) (fun i => (le_max_right _ _).trans_eq (hpos' i).symm)]
    exact ⟨fun H r n => (hpos r n).symm.trans_le (H (ix2 r n)), fun H i => (hpos' i).trans_le (H _ _)⟩
  funext x
  refine (out_at X Wt z (fun d r n => hz d r n) (fun d r n => hb d r n) c x _ hG).trans ?_
  refine Eq.trans ?_ (ref_apply A B _).symm
  rw [hpos']
  rfl

end Cert.KernelIdeal.Own

end
-- ==== Proof.lean ====
module

public import proofs.«01_k».proof.Defs
public import proofs.«01_k».proof.Proof.Gen.Kernel
public import proofs.«01_k».proof.Proof.Gen.KernelIdeal
public import proofs.«01_k».proof.Proof.Gen.Pre_on_the_wire_grid_KernelIdeal
public import proofs.«01_k».proof.Proof.Gen.Pre_on_the_wire_grid_ReferenceIdeal
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Value
public import proofs.«01_k».proof.Proof.Run
public import proofs.«01_k».proof.Proof.KRun
public import proofs.«01_k».proof.Proof.Agree
public import Idealize.ShloMosaic.Adequacy
public import Idealize.ShloMosaic.Init

/-! # The proof of the claims -/

@[expose] public section

noncomputable section

namespace Cert.Proof

open Idealize.ShloMosaic Idealize.SL.Sem

/-- Every run of the kernel over the machine words ends, its arguments unchanged and every counter at zero. -/
theorem frame_kernel : Cert.quiescent_Kernel (hKernel := Cert.Kernel.Gen.facts) := fun m ρ _ =>
  (θ_run Cert.Kernel.defs _ _).mono
    (fun _ h => ⟨fun c => ⟨(h.1 c 0).trans (Cert.Kernel.Own.finalA_x m ρ c), (h.1 c 1).trans (Cert.Kernel.Own.finalA_w m ρ c)⟩, h.2⟩)
    (Cert.Kernel.Own.run_main (F := Bits) m ρ)

/-- The same over the reals. -/
theorem frame_ideal : Cert.quiescent_KernelIdeal (hKernelIdeal := Cert.KernelIdeal.Gen.facts) := fun m ρ _ =>
  (θ_run Cert.KernelIdeal.defs _ _).mono
    (fun _ h => ⟨fun c => ⟨(h.1 c 0).trans (Cert.KernelIdeal.Own.finalA_x m ρ c), (h.1 c 1).trans (Cert.KernelIdeal.Own.finalA_w m ρ c)⟩, h.2⟩)
    (Cert.KernelIdeal.Own.run_main (F := Ideal) m ρ)

/-- Every run of the reference ends, its arguments unchanged and every counter at zero. -/
theorem frame_reference : Cert.quiescent_ReferenceIdeal (hReferenceIdeal := Cert.ReferenceIdeal.Gen.facts) := fun m ρ _ =>
  Cert.ReferenceIdeal.Gen.frame m ρ

/-- From devices holding the blocks of the reference's arguments, each inside the precondition, the kernel leaves on
every device that device's block of the reference's result. -/
theorem algebraic : Cert.algebraic_KernelIdeal_ReferenceIdeal_pre_on_the_wire_grid_KernelIdeal (hKernelIdeal := Cert.KernelIdeal.Gen.facts)
    (hReferenceIdeal := Cert.ReferenceIdeal.Gen.facts) (hPre_on_the_wire_grid_KernelIdeal := Cert.Pre_on_the_wire_grid_KernelIdeal.Gen.facts) :=
  fun m g m' g' hp hm =>
    ⟨_,
      (θ_run Cert.KernelIdeal.defs _ _).mono
        (fun _ h c => ⟨(h.1 c 2).trans ((Cert.KernelIdeal.Own.finalA_o m g c).trans
            (Cert.KernelIdeal.Own.agree (Cert.KernelIdeal.Own.xOf m) (Cert.KernelIdeal.Own.wOf m) _ _
              (fun d => (Cert.KernelIdeal.Own.xOf_eq m d).trans (hm d).1) (fun d => (Cert.KernelIdeal.Own.wOf_eq m d).trans (hm d).2)
              (fun d => (congrArg₂ (Cert.Pre_on_the_wire_grid_KernelIdeal.fn (F := Ideal)) (Cert.KernelIdeal.Own.xOf_eq m d)
                (Cert.KernelIdeal.Own.wOf_eq m d)).trans (hp d)) c)),
          (h.1 c 0).trans (Cert.KernelIdeal.Own.finalA_x m g c), (h.1 c 1).trans (Cert.KernelIdeal.Own.finalA_w m g c)⟩)
        (Cert.KernelIdeal.Own.run_main (F := Ideal) m g),
      (θ_run Cert.ReferenceIdeal.defs _ _).mono (fun _ h => h 0) (Cert.ReferenceIdeal.Value.run m' g')⟩

theorem claim : Cert.Claim :=
  ⟨Cert.Kernel.Gen.facts, Cert.KernelIdeal.Gen.facts, Cert.ReferenceIdeal.Gen.facts,
    Cert.Pre_on_the_wire_grid_KernelIdeal.Gen.facts, Cert.Pre_on_the_wire_grid_ReferenceIdeal.Gen.facts,
    frame_kernel, frame_ideal, fun m ρ _ => frame_ideal m ρ trivial, frame_reference, fun m ρ _ => frame_reference m ρ trivial, trivial, algebraic⟩

end Cert.Proof

end
